-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x16x2048x256 : Shape := ⟨4, ![8, 16, 2048, 256]⟩
abbrev S32768x2048 : Shape := ⟨2, ![32768, 2048]⟩
abbrev S_ : Shape := ⟨0, ![]⟩

class Facts : Prop where
  bcast_S_S8x16x2048x256 : S_.BroadcastsInDim S8x16x2048x256 (![] : Fin 0 → Fin S8x16x2048x256.rank)
  reducesTo_S8x16x2048x256_S_d0_1_2_3 : S8x16x2048x256.ReducesTo [0, 1, 2, 3] S_
  h_S_ : 0 < S_.numel
  bcast_S_S32768x2048 : S_.BroadcastsInDim S32768x2048 (![] : Fin 0 → Fin S32768x2048.rank)
  reducesTo_S32768x2048_S_d0_1 : S32768x2048.ReducesTo [0, 1] S_

variable [Facts]

def fn {F : FTy → Type} [FloatOps F] (main_arg0 : FVec F S8x16x2048x256 .bf16) (main_arg1 : FVec F S32768x2048 .bf16) : IVec S_ 1 :=
  let main_v0 : FVec F S8x16x2048x256 .bf16 := Host.absf main_arg0
  let main_cst : FVec F S_ .bf16 := constant S_ .bf16 0x7F80#16
  let main_v1 : FVec F S8x16x2048x256 .bf16 := broadcastInDim S8x16x2048x256 ![] bcast_S_S8x16x2048x256 main_cst
  let main_v2 : IVec S8x16x2048x256 1 := cmpf .olt main_v0 main_v1
  let main_c : IVec S_ 1 := constantI S_ 1 1#1
  let main_v3 : IVec S_ 1 := (fun x v => Host.reduce IntOp.andi x v reducesTo_S8x16x2048x256_S_d0_1_2_3 h_S_) main_v2 main_c
  let main_v4 : FVec F S32768x2048 .bf16 := Host.absf main_arg1
  let main_cst_0 : FVec F S_ .bf16 := constant S_ .bf16 0x7F80#16
  let main_v5 : FVec F S32768x2048 .bf16 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  main_v8
-- ==== Kernel.lean ====
abbrev S8x16x2048x256 : Shape := ⟨4, ![8, 16, 2048, 256]⟩
abbrev S32768x2048 : Shape := ⟨2, ![32768, 2048]⟩
abbrev S8x4096x2048 : Shape := ⟨3, ![8, 4096, 2048]⟩
abbrev S1 : Shape := ⟨1, ![1]⟩
abbrev S1x1x1 : Shape := ⟨3, ![1, 1, 1]⟩
abbrev S_ : Shape := ⟨0, ![]⟩
abbrev S256 : Shape := ⟨1, ![256]⟩
abbrev S1x1x256 : Shape := ⟨3, ![1, 1, 256]⟩
abbrev S1x256x1 : Shape := ⟨3, ![1, 256, 1]⟩
abbrev S1x256x256 : Shape := ⟨3, ![1, 256, 256]⟩
abbrev S8x1024x4096 : Shape := ⟨3, ![8, 1024, 4096]⟩
abbrev S1x1x1024x256 : Shape := ⟨4, ![1, 1, 1024, 256]⟩
abbrev S1x4096x2048 : Shape := ⟨3, ![1, 4096, 2048]⟩
abbrev S1x16x1024x256 : Shape := ⟨4, ![1, 16, 1024, 256]⟩
abbrev S1x1024x256 : Shape := ⟨3, ![1, 1024, 256]⟩
abbrev S16x256x256 : Shape := ⟨3, ![16, 256, 256]⟩
abbrev S16x80x256 : Shape := ⟨3, ![16, 80, 256]⟩
abbrev S1024x256 : Shape := ⟨2, ![1024, 256]⟩
abbrev S64x256 : Shape := ⟨2, ![64, 256]⟩
abbrev S128x256 : Shape := ⟨2, ![128, 256]⟩
abbrev S256x256 : Shape := ⟨2, ![256, 256]⟩
abbrev S1x256x128 : Shape := ⟨3, ![1, 256, 128]⟩
abbrev S256x128 : Shape := ⟨2, ![256, 128]⟩
abbrev S16x256 : Shape := ⟨2, ![16, 256]⟩
abbrev S1x256 : Shape := ⟨2, ![1, 256]⟩
abbrev S1x16x256 : Shape := ⟨3, ![1, 16, 256]⟩
abbrev S1x1x64x256 : Shape := ⟨4, ![1, 1, 64, 256]⟩
abbrev S80x256 : Shape := ⟨2, ![80, 256]⟩
abbrev S1x80x256 : Shape := ⟨3, ![1, 80, 256]⟩
abbrev S1x64x256 : Shape := ⟨3, ![1, 64, 256]⟩

abbrev nBuf : Space → Nat
  | .hbm => 27
  | .vmem => 9
  | .smem => 0
  | _ => 0

abbrev bufTy : (tb : Table) → Fin (tcTables nBuf tb) → BufTy
  | .hbm, ⟨0, _⟩ => ⟨S8x16x2048x256, .bf16⟩
  | .hbm, ⟨1, _⟩ => ⟨S32768x2048, .bf16⟩
  | .hbm, ⟨2, _⟩ => ⟨S8x4096x2048, .bf16⟩
  | .hbm, ⟨3, _⟩ => ⟨S1, .i32⟩
  | .hbm, ⟨4, _⟩ => ⟨S1x1x1, .i32⟩
  | .hbm, ⟨5, _⟩ => ⟨S_, .i32⟩
  | .hbm, ⟨6, _⟩ => ⟨S1x1x1, .i32⟩
  | .hbm, ⟨7, _⟩ => ⟨S1x1x1, .i32⟩
  | .hbm, ⟨8, _⟩ => ⟨S256, .i32⟩
  | .hbm, ⟨9, _⟩ => ⟨S1x1x256, .i32⟩
  | .hbm, ⟨10, _⟩ => ⟨S1x1x256, .i32⟩
  | .hbm, ⟨11, _⟩ => ⟨S1x1x256, .i32⟩
  | .hbm, ⟨12, _⟩ => ⟨S256, .i32⟩
  | .hbm, ⟨13, _⟩ => ⟨S1x256x1, .i32⟩
  | .hbm, ⟨14, _⟩ => ⟨S1x256x256, .i32⟩
  | .hbm, ⟨15, _⟩ => ⟨S1x256x256, .i32⟩
  | .hbm, ⟨16, _⟩ => ⟨S1x256x256, .i32⟩
  | .hbm, ⟨17, _⟩ => ⟨S_, .i32⟩
  | .hbm, ⟨18, _⟩ => ⟨S1x256x256, .i32⟩
  | .hbm, ⟨19, _⟩ => ⟨S1x256x256, .i1⟩
  | .hbm, ⟨20, _⟩ => ⟨S_, .f32⟩
  | .hbm, ⟨21, _⟩ => ⟨S_, .f32⟩
  | .hbm, ⟨22, _⟩ => ⟨S1x256x256, .f32⟩
  | .hbm, ⟨23, _⟩ => ⟨S1x256x256, .f32⟩
  | .hbm, ⟨24, _⟩ => ⟨S1x256x256, .f32⟩
  | .hbm, ⟨25, _⟩ => ⟨S1x256x256, .f32⟩
  | .hbm, ⟨26, _⟩ => ⟨S8x1024x4096, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x4096x2048, .bf16⟩
  | .local _ .vmem, ⟨3, _⟩ => ⟨S1x16x1024x256, .bf16⟩
  | .local _ .vmem, ⟨4, _⟩ => ⟨S1x256x256, .f32⟩
  | .local _ .vmem, ⟨5, _⟩ => ⟨S1x1024x256, .bf16⟩
  | .local _ .vmem, ⟨6, _⟩ => ⟨S1x1024x256, .bf16⟩
  | .local _ .vmem, ⟨7, _⟩ => ⟨S16x256x256, .f32⟩
  | .local _ .vmem, ⟨8, _⟩ => ⟨S16x80x256, .f32⟩
  | _, _ => ⟨S8x16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![8, 1, 16], ![false, false, false]⟩

def k0_off1 (i : grid0.Coords) : Fin 3 → Nat :=
  let arg2 : BitVec 32 := BitVec.ofNat 32 (i 2).val
  let c1_i32_8 : BitVec 32 := 1#32
  let c0_i32_9 : BitVec 32 := 0#32
  let v52 : BitVec 1 := Scalar.cmpi .eq c1_i32_8 c0_i32_9
  let c1_i32_10 : BitVec 32 := 1#32
  let v53 : BitVec 32 := Scalar.select v52 c1_i32_10 c1_i32_8
  let v54 : BitVec 32 := Scalar.remsi arg2 v53
  let c0_i32_12 : BitVec 32 := 0#32
  let v56 : BitVec 1 := Scalar.cmpi .slt v54 c0_i32_12
  let c0_i32_13 : BitVec 32 := 0#32
  let v57 : BitVec 1 := Scalar.cmpi .slt v53 c0_i32_13
  let v58 : BitVec 1 := Scalar.xori v56 v57
  let c0_i32_11 : BitVec 32 := 0#32
  let v55 : BitVec 1 := Scalar.cmpi .ne v54 c0_i32_11
  let v59 : BitVec 1 := Scalar.andi v58 v55
  let v60 : BitVec 32 := Scalar.addi v54 v53
  let v61 : BitVec 32 := Scalar.select v59 v60 v54
  let v62 : Index := Scalar.indexCast v61
  let c0_14 : Index := 0#32
  let c0_15 : Index := 0#32
  ![v62.toNat, 0, 0]
def k0_mult1 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_17 : BitVec 32 := 0#32
  let v66 : BitVec 32 := Scalar.subi v16 c0_i32_17
  let c256_i32 : BitVec 32 := 256#32
  let v67 : BitVec 32 := Scalar.muli v66 c256_i32
  v67
def k0_off2 (i : grid0.Coords) : Fin 3 → Nat :=
  let c0_18 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_17 : BitVec 32 := 0#32
  let v66 : BitVec 32 := Scalar.subi v16 c0_i32_17
  let c256_i32 : BitVec 32 := 256#32
  let v67 : BitVec 32 := Scalar.muli v66 c256_i32
  let v68 : BitVec 32 := v67
  let v69 : Index := Scalar.indexCast v68
  let c0_19 : Index := 0#32
  ![0, v69.toNat, 0]
def k0_mult2 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_24 : BitVec 32 := 0#32
  let v77 : BitVec 32 := Scalar.subi v16 c0_i32_24
  let c256_i32_25 : BitVec 32 := 256#32
  let v78 : BitVec 32 := Scalar.muli v77 c256_i32_25
  v78
def k0_off3 (i : grid0.Coords) : Fin 3 → Nat :=
  let c0_26 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_24 : BitVec 32 := 0#32
  let v77 : BitVec 32 := Scalar.subi v16 c0_i32_24
  let c256_i32_25 : BitVec 32 := 256#32
  let v78 : BitVec 32 := Scalar.muli v77 c256_i32_25
  let v79 : BitVec 32 := v78
  let v80 : Index := Scalar.indexCast v79
  let c128 : Index := 128#32
  ![0, v80.toNat, 128]
def k0_mult3 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_30 : BitVec 32 := 0#32
  let v88 : BitVec 32 := Scalar.subi v16 c0_i32_30
  let c256_i32_31 : BitVec 32 := 256#32
  let v89 : BitVec 32 := Scalar.muli v88 c256_i32_31
  v89
def k0_off4 (i : grid0.Coords) : Fin 3 → Nat :=
  let c0_32 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_30 : BitVec 32 := 0#32
  let v88 : BitVec 32 := Scalar.subi v16 c0_i32_30
  let c256_i32_31 : BitVec 32 := 256#32
  let v89 : BitVec 32 := Scalar.muli v88 c256_i32_31
  let v90 : BitVec 32 := v89
  let v91 : Index := Scalar.indexCast v90
  let c256 : Index := 256#32
  ![0, v91.toNat, 256]
def k0_mult4 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_36 : BitVec 32 := 0#32
  let v99 : BitVec 32 := Scalar.subi v16 c0_i32_36
  let c256_i32_37 : BitVec 32 := 256#32
  let v100 : BitVec 32 := Scalar.muli v99 c256_i32_37
  v100
def k0_off5 (i : grid0.Coords) : Fin 3 → Nat :=
  let c0_38 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_36 : BitVec 32 := 0#32
  let v99 : BitVec 32 := Scalar.subi v16 c0_i32_36
  let c256_i32_37 : BitVec 32 := 256#32
  let v100 : BitVec 32 := Scalar.muli v99 c256_i32_37
  let v101 : BitVec 32 := v100
  let v102 : Index := Scalar.indexCast v101
  let c384 : Index := 384#32
  ![0, v102.toNat, 384]
def k0_mult5 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_42 : BitVec 32 := 0#32
  let v110 : BitVec 32 := Scalar.subi v16 c0_i32_42
  let c256_i32_43 : BitVec 32 := 256#32
  let v111 : BitVec 32 := Scalar.muli v110 c256_i32_43
  v111
def k0_off6 (i : grid0.Coords) : Fin 3 → Nat :=
  let c0_44 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_42 : BitVec 32 := 0#32
  let v110 : BitVec 32 := Scalar.subi v16 c0_i32_42
  let c256_i32_43 : BitVec 32 := 256#32
  let v111 : BitVec 32 := Scalar.muli v110 c256_i32_43
  let v112 : BitVec 32 := v111
  let v113 : Index := Scalar.indexCast v112
  let c512 : Index := 512#32
  ![0, v113.toNat, 512]
def k0_mult6 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_48 : BitVec 32 := 0#32
  let v121 : BitVec 32 := Scalar.subi v16 c0_i32_48
  let c256_i32_49 : BitVec 32 := 256#32
  let v122 : BitVec 32 := Scalar.muli v121 c256_i32_49
  v122
def k0_off7 (i : grid0.Coords) : Fin 3 → Nat :=
  let c0_50 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_48 : BitVec 32 := 0#32
  let v121 : BitVec 32 := Scalar.subi v16 c0_i32_48
  let c256_i32_49 : BitVec 32 := 256#32
  let v122 : BitVec 32 := Scalar.muli v121 c256_i32_49
  let v123 : BitVec 32 := v122
  let v124 : Index := Scalar.indexCast v123
  let c640 : Index := 640#32
  ![0, v124.toNat, 640]
def k0_mult7 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_54 : BitVec 32 := 0#32
  let v132 : BitVec 32 := Scalar.subi v16 c0_i32_54
  let c256_i32_55 : BitVec 32 := 256#32
  let v133 : BitVec 32 := Scalar.muli v132 c256_i32_55
  v133
def k0_off8 (i : grid0.Coords) : Fin 3 → Nat :=
  let c0_56 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_54 : BitVec 32 := 0#32
  let v132 : BitVec 32 := Scalar.subi v16 c0_i32_54
  let c256_i32_55 : BitVec 32 := 256#32
  let v133 : BitVec 32 := Scalar.muli v132 c256_i32_55
  let v134 : BitVec 32 := v133
  let v135 : Index := Scalar.indexCast v134
  let c768 : Index := 768#32
  ![0, v135.toNat, 768]
def k0_mult8 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_60 : BitVec 32 := 0#32
  let v143 : BitVec 32 := Scalar.subi v16 c0_i32_60
  let c256_i32_61 : BitVec 32 := 256#32
  let v144 : BitVec 32 := Scalar.muli v143 c256_i32_61
  v144
def k0_off9 (i : grid0.Coords) : Fin 3 → Nat :=
  let c0_62 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_60 : BitVec 32 := 0#32
  let v143 : BitVec 32 := Scalar.subi v16 c0_i32_60
  let c256_i32_61 : BitVec 32 := 256#32
  let v144 : BitVec 32 := Scalar.muli v143 c256_i32_61
  let v145 : BitVec 32 := v144
  let v146 : Index := Scalar.indexCast v145
  let c896 : Index := 896#32
  ![0, v146.toNat, 896]
def k0_mult9 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_66 : BitVec 32 := 0#32
  let v154 : BitVec 32 := Scalar.subi v16 c0_i32_66
  let c256_i32_67 : BitVec 32 := 256#32
  let v155 : BitVec 32 := Scalar.muli v154 c256_i32_67
  v155
def k0_off10 (i : grid0.Coords) : Fin 3 → Nat :=
  let c0_68 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_66 : BitVec 32 := 0#32
  let v154 : BitVec 32 := Scalar.subi v16 c0_i32_66
  let c256_i32_67 : BitVec 32 := 256#32
  let v155 : BitVec 32 := Scalar.muli v154 c256_i32_67
  let v156 : BitVec 32 := v155
  let v157 : Index := Scalar.indexCast v156
  let c1024 : Index := 1024#32
  ![0, v157.toNat, 1024]
def k0_mult10 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_72 : BitVec 32 := 0#32
  let v165 : BitVec 32 := Scalar.subi v16 c0_i32_72
  let c256_i32_73 : BitVec 32 := 256#32
  let v166 : BitVec 32 := Scalar.muli v165 c256_i32_73
  v166
def k0_off11 (i : grid0.Coords) : Fin 3 → Nat :=
  let c0_74 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_72 : BitVec 32 := 0#32
  let v165 : BitVec 32 := Scalar.subi v16 c0_i32_72
  let c256_i32_73 : BitVec 32 := 256#32
  let v166 : BitVec 32 := Scalar.muli v165 c256_i32_73
  let v167 : BitVec 32 := v166
  let v168 : Index := Scalar.indexCast v167
  let c1152 : Index := 1152#32
  ![0, v168.toNat, 1152]
def k0_mult11 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_78 : BitVec 32 := 0#32
  let v176 : BitVec 32 := Scalar.subi v16 c0_i32_78
  let c256_i32_79 : BitVec 32 := 256#32
  let v177 : BitVec 32 := Scalar.muli v176 c256_i32_79
  v177
def k0_off12 (i : grid0.Coords) : Fin 3 → Nat :=
  let c0_80 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_78 : BitVec 32 := 0#32
  let v176 : BitVec 32 := Scalar.subi v16 c0_i32_78
  let c256_i32_79 : BitVec 32 := 256#32
  let v177 : BitVec 32 := Scalar.muli v176 c256_i32_79
  let v178 : BitVec 32 := v177
  let v179 : Index := Scalar.indexCast v178
  let c1280 : Index := 1280#32
  ![0, v179.toNat, 1280]
def k0_mult12 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_84 : BitVec 32 := 0#32
  let v187 : BitVec 32 := Scalar.subi v16 c0_i32_84
  let c256_i32_85 : BitVec 32 := 256#32
  let v188 : BitVec 32 := Scalar.muli v187 c256_i32_85
  v188
def k0_off13 (i : grid0.Coords) : Fin 3 → Nat :=
  let c0_86 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_84 : BitVec 32 := 0#32
  let v187 : BitVec 32 := Scalar.subi v16 c0_i32_84
  let c256_i32_85 : BitVec 32 := 256#32
  let v188 : BitVec 32 := Scalar.muli v187 c256_i32_85
  let v189 : BitVec 32 := v188
  let v190 : Index := Scalar.indexCast v189
  let c1408 : Index := 1408#32
  ![0, v190.toNat, 1408]
def k0_mult13 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_90 : BitVec 32 := 0#32
  let v198 : BitVec 32 := Scalar.subi v16 c0_i32_90
  let c256_i32_91 : BitVec 32 := 256#32
  let v199 : BitVec 32 := Scalar.muli v198 c256_i32_91
  v199
def k0_off14 (i : grid0.Coords) : Fin 3 → Nat :=
  let c0_92 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_90 : BitVec 32 := 0#32
  let v198 : BitVec 32 := Scalar.subi v16 c0_i32_90
  let c256_i32_91 : BitVec 32 := 256#32
  let v199 : BitVec 32 := Scalar.muli v198 c256_i32_91
  let v200 : BitVec 32 := v199
  let v201 : Index := Scalar.indexCast v200
  let c1536 : Index := 1536#32
  ![0, v201.toNat, 1536]
def k0_mult14 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_96 : BitVec 32 := 0#32
  let v209 : BitVec 32 := Scalar.subi v16 c0_i32_96
  let c256_i32_97 : BitVec 32 := 256#32
  let v210 : BitVec 32 := Scalar.muli v209 c256_i32_97
  v210
def k0_off15 (i : grid0.Coords) : Fin 3 → Nat :=
  let c0_98 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_96 : BitVec 32 := 0#32
  let v209 : BitVec 32 := Scalar.subi v16 c0_i32_96
  let c256_i32_97 : BitVec 32 := 256#32
  let v210 : BitVec 32 := Scalar.muli v209 c256_i32_97
  let v211 : BitVec 32 := v210
  let v212 : Index := Scalar.indexCast v211
  let c1664 : Index := 1664#32
  ![0, v212.toNat, 1664]
def k0_mult15 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_102 : BitVec 32 := 0#32
  let v220 : BitVec 32 := Scalar.subi v16 c0_i32_102
  let c256_i32_103 : BitVec 32 := 256#32
  let v221 : BitVec 32 := Scalar.muli v220 c256_i32_103
  v221
def k0_off16 (i : grid0.Coords) : Fin 3 → Nat :=
  let c0_104 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_102 : BitVec 32 := 0#32
  let v220 : BitVec 32 := Scalar.subi v16 c0_i32_102
  let c256_i32_103 : BitVec 32 := 256#32
  let v221 : BitVec 32 := Scalar.muli v220 c256_i32_103
  let v222 : BitVec 32 := v221
  let v223 : Index := Scalar.indexCast v222
  let c1792 : Index := 1792#32
  ![0, v223.toNat, 1792]
def k0_mult16 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_108 : BitVec 32 := 0#32
  let v231 : BitVec 32 := Scalar.subi v16 c0_i32_108
  let c256_i32_109 : BitVec 32 := 256#32
  let v232 : BitVec 32 := Scalar.muli v231 c256_i32_109
  v232
def k0_off17 (i : grid0.Coords) : Fin 3 → Nat :=
  let c0_110 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_108 : BitVec 32 := 0#32
  let v231 : BitVec 32 := Scalar.subi v16 c0_i32_108
  let c256_i32_109 : BitVec 32 := 256#32
  let v232 : BitVec 32 := Scalar.muli v231 c256_i32_109
  let v233 : BitVec 32 := v232
  let v234 : Index := Scalar.indexCast v233
  let c1920 : Index := 1920#32
  ![0, v234.toNat, 1920]
@[reducible] def k0_t1_loop (i : grid0.Coords) : Scf.Loop 32 :=
  let c0_i32_136 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_138 : BitVec 32 := 1#32
  ⟨c0_i32_136, v268, c1_i32_138⟩
def k0_off18 (i : grid0.Coords) (k0_t1 : Fin (k0_t1_loop i).trips) : Fin 4 → Nat :=
  let c0_323 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v525 : Index := Scalar.indexCast v372
  let c0_324 : Index := 0#32
  let c0_325 : Index := 0#32
  ![0, v525.toNat, 0, 0]
def k0_mult17 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_333 : BitVec 32 := 256#32
  let v538 : BitVec 32 := Scalar.muli v375 c256_i32_333
  v538
def k0_off19 (i : grid0.Coords) (k0_t1 : Fin (k0_t1_loop i).trips) : Fin 3 → Nat :=
  let c0_334 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_333 : BitVec 32 := 256#32
  let v538 : BitVec 32 := Scalar.muli v375 c256_i32_333
  let v539 : BitVec 32 := v538
  let v540 : Index := Scalar.indexCast v539
  let c0_335 : Index := 0#32
  ![0, v540.toNat, 0]
def k0_off20 (i : grid0.Coords) (k0_t1 : Fin (k0_t1_loop i).trips) : Fin 4 → Nat :=
  let c0_437 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v696 : Index := Scalar.indexCast v372
  let c64_438 : Index := 64#32
  let c0_439 : Index := 0#32
  ![0, v696.toNat, 64, 0]
def k0_mult18 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_447 : BitVec 32 := 256#32
  let v709 : BitVec 32 := Scalar.muli v375 c256_i32_447
  v709
def k0_off21 (i : grid0.Coords) (k0_t1 : Fin (k0_t1_loop i).trips) : Fin 3 → Nat :=
  let c0_448 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_447 : BitVec 32 := 256#32
  let v709 : BitVec 32 := Scalar.muli v375 c256_i32_447
  let v710 : BitVec 32 := v709
  let v711 : Index := Scalar.indexCast v710
  let c128_449 : Index := 128#32
  ![0, v711.toNat, 128]
def k0_off22 (i : grid0.Coords) (k0_t1 : Fin (k0_t1_loop i).trips) : Fin 4 → Nat :=
  let c0_551 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v867 : Index := Scalar.indexCast v372
  let c128_552 : Index := 128#32
  let c0_553 : Index := 0#32
  ![0, v867.toNat, 128, 0]
def k0_mult19 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_561 : BitVec 32 := 256#32
  let v880 : BitVec 32 := Scalar.muli v375 c256_i32_561
  v880
def k0_off23 (i : grid0.Coords) (k0_t1 : Fin (k0_t1_loop i).trips) : Fin 3 → Nat :=
  let c0_562 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_561 : BitVec 32 := 256#32
  let v880 : BitVec 32 := Scalar.muli v375 c256_i32_561
  let v881 : BitVec 32 := v880
  let v882 : Index := Scalar.indexCast v881
  let c256_563 : Index := 256#32
  ![0, v882.toNat, 256]
def k0_off24 (i : grid0.Coords) (k0_t1 : Fin (k0_t1_loop i).trips) : Fin 4 → Nat :=
  let c0_665 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v1038 : Index := Scalar.indexCast v372
  let c192_666 : Index := 192#32
  let c0_667 : Index := 0#32
  ![0, v1038.toNat, 192, 0]
def k0_mult20 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_675 : BitVec 32 := 256#32
  let v1051 : BitVec 32 := Scalar.muli v375 c256_i32_675
  v1051
def k0_off25 (i : grid0.Coords) (k0_t1 : Fin (k0_t1_loop i).trips) : Fin 3 → Nat :=
  let c0_676 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_675 : BitVec 32 := 256#32
  let v1051 : BitVec 32 := Scalar.muli v375 c256_i32_675
  let v1052 : BitVec 32 := v1051
  let v1053 : Index := Scalar.indexCast v1052
  let c384_677 : Index := 384#32
  ![0, v1053.toNat, 384]
def k0_off26 (i : grid0.Coords) (k0_t1 : Fin (k0_t1_loop i).trips) : Fin 4 → Nat :=
  let c0_779 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v1209 : Index := Scalar.indexCast v372
  let c256_780 : Index := 256#32
  let c0_781 : Index := 0#32
  ![0, v1209.toNat, 256, 0]
def k0_mult21 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_789 : BitVec 32 := 256#32
  let v1222 : BitVec 32 := Scalar.muli v375 c256_i32_789
  v1222
def k0_off27 (i : grid0.Coords) (k0_t1 : Fin (k0_t1_loop i).trips) : Fin 3 → Nat :=
  let c0_790 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_789 : BitVec 32 := 256#32
  let v1222 : BitVec 32 := Scalar.muli v375 c256_i32_789
  let v1223 : BitVec 32 := v1222
  let v1224 : Index := Scalar.indexCast v1223
  let c512_791 : Index := 512#32
  ![0, v1224.toNat, 512]
def k0_off28 (i : grid0.Coords) (k0_t1 : Fin (k0_t1_loop i).trips) : Fin 4 → Nat :=
  let c0_893 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v1380 : Index := Scalar.indexCast v372
  let c320 : Index := 320#32
  let c0_894 : Index := 0#32
  ![0, v1380.toNat, 320, 0]
def k0_mult22 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_902 : BitVec 32 := 256#32
  let v1393 : BitVec 32 := Scalar.muli v375 c256_i32_902
  v1393
def k0_off29 (i : grid0.Coords) (k0_t1 : Fin (k0_t1_loop i).trips) : Fin 3 → Nat :=
  let c0_903 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_902 : BitVec 32 := 256#32
  let v1393 : BitVec 32 := Scalar.muli v375 c256_i32_902
  let v1394 : BitVec 32 := v1393
  let v1395 : Index := Scalar.indexCast v1394
  let c640_904 : Index := 640#32
  ![0, v1395.toNat, 640]
def k0_off30 (i : grid0.Coords) (k0_t1 : Fin (k0_t1_loop i).trips) : Fin 4 → Nat :=
  let c0_1006 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v1551 : Index := Scalar.indexCast v372
  let c384_1007 : Index := 384#32
  let c0_1008 : Index := 0#32
  ![0, v1551.toNat, 384, 0]
def k0_mult23 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1016 : BitVec 32 := 256#32
  let v1564 : BitVec 32 := Scalar.muli v375 c256_i32_1016
  v1564
def k0_off31 (i : grid0.Coords) (k0_t1 : Fin (k0_t1_loop i).trips) : Fin 3 → Nat :=
  let c0_1017 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1016 : BitVec 32 := 256#32
  let v1564 : BitVec 32 := Scalar.muli v375 c256_i32_1016
  let v1565 : BitVec 32 := v1564
  let v1566 : Index := Scalar.indexCast v1565
  let c768_1018 : Index := 768#32
  ![0, v1566.toNat, 768]
def k0_off32 (i : grid0.Coords) (k0_t1 : Fin (k0_t1_loop i).trips) : Fin 4 → Nat :=
  let c0_1120 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v1722 : Index := Scalar.indexCast v372
  let c448 : Index := 448#32
  let c0_1121 : Index := 0#32
  ![0, v1722.toNat, 448, 0]
def k0_mult24 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1129 : BitVec 32 := 256#32
  let v1735 : BitVec 32 := Scalar.muli v375 c256_i32_1129
  v1735
def k0_off33 (i : grid0.Coords) (k0_t1 : Fin (k0_t1_loop i).trips) : Fin 3 → Nat :=
  let c0_1130 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1129 : BitVec 32 := 256#32
  let v1735 : BitVec 32 := Scalar.muli v375 c256_i32_1129
  let v1736 : BitVec 32 := v1735
  let v1737 : Index := Scalar.indexCast v1736
  let c896_1131 : Index := 896#32
  ![0, v1737.toNat, 896]
def k0_off34 (i : grid0.Coords) (k0_t1 : Fin (k0_t1_loop i).trips) : Fin 4 → Nat :=
  let c0_1233 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v1893 : Index := Scalar.indexCast v372
  let c512_1234 : Index := 512#32
  let c0_1235 : Index := 0#32
  ![0, v1893.toNat, 512, 0]
def k0_mult25 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1243 : BitVec 32 := 256#32
  let v1906 : BitVec 32 := Scalar.muli v375 c256_i32_1243
  v1906
def k0_off35 (i : grid0.Coords) (k0_t1 : Fin (k0_t1_loop i).trips) : Fin 3 → Nat :=
  let c0_1244 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1243 : BitVec 32 := 256#32
  let v1906 : BitVec 32 := Scalar.muli v375 c256_i32_1243
  let v1907 : BitVec 32 := v1906
  let v1908 : Index := Scalar.indexCast v1907
  let c1024_1245 : Index := 1024#32
  ![0, v1908.toNat, 1024]
def k0_off36 (i : grid0.Coords) (k0_t1 : Fin (k0_t1_loop i).trips) : Fin 4 → Nat :=
  let c0_1347 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v2064 : Index := Scalar.indexCast v372
  let c576 : Index := 576#32
  let c0_1348 : Index := 0#32
  ![0, v2064.toNat, 576, 0]
def k0_mult26 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1356 : BitVec 32 := 256#32
  let v2077 : BitVec 32 := Scalar.muli v375 c256_i32_1356
  v2077
def k0_off37 (i : grid0.Coords) (k0_t1 : Fin (k0_t1_loop i).trips) : Fin 3 → Nat :=
  let c0_1357 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1356 : BitVec 32 := 256#32
  let v2077 : BitVec 32 := Scalar.muli v375 c256_i32_1356
  let v2078 : BitVec 32 := v2077
  let v2079 : Index := Scalar.indexCast v2078
  let c1152_1358 : Index := 1152#32
  ![0, v2079.toNat, 1152]
def k0_off38 (i : grid0.Coords) (k0_t1 : Fin (k0_t1_loop i).trips) : Fin 4 → Nat :=
  let c0_1460 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v2235 : Index := Scalar.indexCast v372
  let c640_1461 : Index := 640#32
  let c0_1462 : Index := 0#32
  ![0, v2235.toNat, 640, 0]
def k0_mult27 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1470 : BitVec 32 := 256#32
  let v2248 : BitVec 32 := Scalar.muli v375 c256_i32_1470
  v2248
def k0_off39 (i : grid0.Coords) (k0_t1 : Fin (k0_t1_loop i).trips) : Fin 3 → Nat :=
  let c0_1471 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1470 : BitVec 32 := 256#32
  let v2248 : BitVec 32 := Scalar.muli v375 c256_i32_1470
  let v2249 : BitVec 32 := v2248
  let v2250 : Index := Scalar.indexCast v2249
  let c1280_1472 : Index := 1280#32
  ![0, v2250.toNat, 1280]
def k0_off40 (i : grid0.Coords) (k0_t1 : Fin (k0_t1_loop i).trips) : Fin 4 → Nat :=
  let c0_1574 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v2406 : Index := Scalar.indexCast v372
  let c704 : Index := 704#32
  let c0_1575 : Index := 0#32
  ![0, v2406.toNat, 704, 0]
def k0_mult28 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1583 : BitVec 32 := 256#32
  let v2419 : BitVec 32 := Scalar.muli v375 c256_i32_1583
  v2419
def k0_off41 (i : grid0.Coords) (k0_t1 : Fin (k0_t1_loop i).trips) : Fin 3 → Nat :=
  let c0_1584 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1583 : BitVec 32 := 256#32
  let v2419 : BitVec 32 := Scalar.muli v375 c256_i32_1583
  let v2420 : BitVec 32 := v2419
  let v2421 : Index := Scalar.indexCast v2420
  let c1408_1585 : Index := 1408#32
  ![0, v2421.toNat, 1408]
def k0_off42 (i : grid0.Coords) (k0_t1 : Fin (k0_t1_loop i).trips) : Fin 4 → Nat :=
  let c0_1687 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v2577 : Index := Scalar.indexCast v372
  let c768_1688 : Index := 768#32
  let c0_1689 : Index := 0#32
  ![0, v2577.toNat, 768, 0]
def k0_mult29 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1697 : BitVec 32 := 256#32
  let v2590 : BitVec 32 := Scalar.muli v375 c256_i32_1697
  v2590
def k0_off43 (i : grid0.Coords) (k0_t1 : Fin (k0_t1_loop i).trips) : Fin 3 → Nat :=
  let c0_1698 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1697 : BitVec 32 := 256#32
  let v2590 : BitVec 32 := Scalar.muli v375 c256_i32_1697
  let v2591 : BitVec 32 := v2590
  let v2592 : Index := Scalar.indexCast v2591
  let c1536_1699 : Index := 1536#32
  ![0, v2592.toNat, 1536]
def k0_off44 (i : grid0.Coords) (k0_t1 : Fin (k0_t1_loop i).trips) : Fin 4 → Nat :=
  let c0_1801 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v2748 : Index := Scalar.indexCast v372
  let c832 : Index := 832#32
  let c0_1802 : Index := 0#32
  ![0, v2748.toNat, 832, 0]
def k0_mult30 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1810 : BitVec 32 := 256#32
  let v2761 : BitVec 32 := Scalar.muli v375 c256_i32_1810
  v2761
def k0_off45 (i : grid0.Coords) (k0_t1 : Fin (k0_t1_loop i).trips) : Fin 3 → Nat :=
  let c0_1811 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1810 : BitVec 32 := 256#32
  let v2761 : BitVec 32 := Scalar.muli v375 c256_i32_1810
  let v2762 : BitVec 32 := v2761
  let v2763 : Index := Scalar.indexCast v2762
  let c1664_1812 : Index := 1664#32
  ![0, v2763.toNat, 1664]
def k0_off46 (i : grid0.Coords) (k0_t1 : Fin (k0_t1_loop i).trips) : Fin 4 → Nat :=
  let c0_1914 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v2919 : Index := Scalar.indexCast v372
  let c896_1915 : Index := 896#32
  let c0_1916 : Index := 0#32
  ![0, v2919.toNat, 896, 0]
def k0_mult31 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1924 : BitVec 32 := 256#32
  let v2932 : BitVec 32 := Scalar.muli v375 c256_i32_1924
  v2932
def k0_off47 (i : grid0.Coords) (k0_t1 : Fin (k0_t1_loop i).trips) : Fin 3 → Nat :=
  let c0_1925 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_1924 : BitVec 32 := 256#32
  let v2932 : BitVec 32 := Scalar.muli v375 c256_i32_1924
  let v2933 : BitVec 32 := v2932
  let v2934 : Index := Scalar.indexCast v2933
  let c1792_1926 : Index := 1792#32
  ![0, v2934.toNat, 1792]
def k0_off48 (i : grid0.Coords) (k0_t1 : Fin (k0_t1_loop i).trips) : Fin 4 → Nat :=
  let c0_2028 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let v372 : BitVec 32 := Scalar.subi v16 arg10
  let v3090 : Index := Scalar.indexCast v372
  let c960 : Index := 960#32
  let c0_2029 : Index := 0#32
  ![0, v3090.toNat, 960, 0]
def k0_mult32 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_2037 : BitVec 32 := 256#32
  let v3103 : BitVec 32 := Scalar.muli v375 c256_i32_2037
  v3103
def k0_off49 (i : grid0.Coords) (k0_t1 : Fin (k0_t1_loop i).trips) : Fin 3 → Nat :=
  let c0_2038 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_138 : BitVec 32 := 1#32
  let arg10 : BitVec 32 := Scf.iv c0_i32_136 c1_i32_138 k0_t1
  let c1_i32_238 : BitVec 32 := 1#32
  let v373 : BitVec 32 := Scalar.addi arg10 c1_i32_238
  let c1_i32_16 : BitVec 32 := 1#32
  let v65 : BitVec 32 := Scalar.addi v16 c1_i32_16
  let c1_i32_118 : BitVec 32 := 1#32
  let v246 : BitVec 32 := Scalar.subi v65 c1_i32_118
  let v374 : BitVec 32 := Scalar.minsi v373 v246
  let v375 : BitVec 32 := Scalar.subi v16 v374
  let c256_i32_2037 : BitVec 32 := 256#32
  let v3103 : BitVec 32 := Scalar.muli v375 c256_i32_2037
  let v3104 : BitVec 32 := v3103
  let v3105 : Index := Scalar.indexCast v3104
  let c1920_2039 : Index := 1920#32
  ![0, v3105.toNat, 1920]
@[reducible] def k0_t2_loop (i : grid0.Coords) : Scf.Loop 32 :=
  let c0_i32_136 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let v265 : BitVec 32 := Scalar.addi c0_i32_136 v264
  let c1_i32_139 : BitVec 32 := 1#32
  ⟨v268, v265, c1_i32_139⟩
def k0_off50 (i : grid0.Coords) (k0_t2 : Fin (k0_t2_loop i).trips) : Fin 4 → Nat :=
  let c0_323 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v525 : Index := Scalar.indexCast v372
  let c0_324 : Index := 0#32
  let c0_325 : Index := 0#32
  ![0, v525.toNat, 0, 0]
def k0_mult33 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_333 : BitVec 32 := 256#32
  let v538 : BitVec 32 := Scalar.muli v375 c256_i32_333
  v538
def k0_off51 (i : grid0.Coords) (k0_t2 : Fin (k0_t2_loop i).trips) : Fin 3 → Nat :=
  let c0_334 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_333 : BitVec 32 := 256#32
  let v538 : BitVec 32 := Scalar.muli v375 c256_i32_333
  let v539 : BitVec 32 := v538
  let v540 : Index := Scalar.indexCast v539
  let c0_335 : Index := 0#32
  ![0, v540.toNat, 0]
def k0_off52 (i : grid0.Coords) (k0_t2 : Fin (k0_t2_loop i).trips) : Fin 4 → Nat :=
  let c0_437 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v696 : Index := Scalar.indexCast v372
  let c64_438 : Index := 64#32
  let c0_439 : Index := 0#32
  ![0, v696.toNat, 64, 0]
def k0_mult34 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_447 : BitVec 32 := 256#32
  let v709 : BitVec 32 := Scalar.muli v375 c256_i32_447
  v709
def k0_off53 (i : grid0.Coords) (k0_t2 : Fin (k0_t2_loop i).trips) : Fin 3 → Nat :=
  let c0_448 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_447 : BitVec 32 := 256#32
  let v709 : BitVec 32 := Scalar.muli v375 c256_i32_447
  let v710 : BitVec 32 := v709
  let v711 : Index := Scalar.indexCast v710
  let c128_449 : Index := 128#32
  ![0, v711.toNat, 128]
def k0_off54 (i : grid0.Coords) (k0_t2 : Fin (k0_t2_loop i).trips) : Fin 4 → Nat :=
  let c0_551 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v867 : Index := Scalar.indexCast v372
  let c128_552 : Index := 128#32
  let c0_553 : Index := 0#32
  ![0, v867.toNat, 128, 0]
def k0_mult35 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_561 : BitVec 32 := 256#32
  let v880 : BitVec 32 := Scalar.muli v375 c256_i32_561
  v880
def k0_off55 (i : grid0.Coords) (k0_t2 : Fin (k0_t2_loop i).trips) : Fin 3 → Nat :=
  let c0_562 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_561 : BitVec 32 := 256#32
  let v880 : BitVec 32 := Scalar.muli v375 c256_i32_561
  let v881 : BitVec 32 := v880
  let v882 : Index := Scalar.indexCast v881
  let c256_563 : Index := 256#32
  ![0, v882.toNat, 256]
def k0_off56 (i : grid0.Coords) (k0_t2 : Fin (k0_t2_loop i).trips) : Fin 4 → Nat :=
  let c0_665 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v1038 : Index := Scalar.indexCast v372
  let c192_666 : Index := 192#32
  let c0_667 : Index := 0#32
  ![0, v1038.toNat, 192, 0]
def k0_mult36 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_675 : BitVec 32 := 256#32
  let v1051 : BitVec 32 := Scalar.muli v375 c256_i32_675
  v1051
def k0_off57 (i : grid0.Coords) (k0_t2 : Fin (k0_t2_loop i).trips) : Fin 3 → Nat :=
  let c0_676 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_675 : BitVec 32 := 256#32
  let v1051 : BitVec 32 := Scalar.muli v375 c256_i32_675
  let v1052 : BitVec 32 := v1051
  let v1053 : Index := Scalar.indexCast v1052
  let c384_677 : Index := 384#32
  ![0, v1053.toNat, 384]
def k0_off58 (i : grid0.Coords) (k0_t2 : Fin (k0_t2_loop i).trips) : Fin 4 → Nat :=
  let c0_779 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v1209 : Index := Scalar.indexCast v372
  let c256_780 : Index := 256#32
  let c0_781 : Index := 0#32
  ![0, v1209.toNat, 256, 0]
def k0_mult37 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_789 : BitVec 32 := 256#32
  let v1222 : BitVec 32 := Scalar.muli v375 c256_i32_789
  v1222
def k0_off59 (i : grid0.Coords) (k0_t2 : Fin (k0_t2_loop i).trips) : Fin 3 → Nat :=
  let c0_790 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_789 : BitVec 32 := 256#32
  let v1222 : BitVec 32 := Scalar.muli v375 c256_i32_789
  let v1223 : BitVec 32 := v1222
  let v1224 : Index := Scalar.indexCast v1223
  let c512_791 : Index := 512#32
  ![0, v1224.toNat, 512]
def k0_off60 (i : grid0.Coords) (k0_t2 : Fin (k0_t2_loop i).trips) : Fin 4 → Nat :=
  let c0_893 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v1380 : Index := Scalar.indexCast v372
  let c320 : Index := 320#32
  let c0_894 : Index := 0#32
  ![0, v1380.toNat, 320, 0]
def k0_mult38 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_902 : BitVec 32 := 256#32
  let v1393 : BitVec 32 := Scalar.muli v375 c256_i32_902
  v1393
def k0_off61 (i : grid0.Coords) (k0_t2 : Fin (k0_t2_loop i).trips) : Fin 3 → Nat :=
  let c0_903 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_902 : BitVec 32 := 256#32
  let v1393 : BitVec 32 := Scalar.muli v375 c256_i32_902
  let v1394 : BitVec 32 := v1393
  let v1395 : Index := Scalar.indexCast v1394
  let c640_904 : Index := 640#32
  ![0, v1395.toNat, 640]
def k0_off62 (i : grid0.Coords) (k0_t2 : Fin (k0_t2_loop i).trips) : Fin 4 → Nat :=
  let c0_1006 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v1551 : Index := Scalar.indexCast v372
  let c384_1007 : Index := 384#32
  let c0_1008 : Index := 0#32
  ![0, v1551.toNat, 384, 0]
def k0_mult39 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1016 : BitVec 32 := 256#32
  let v1564 : BitVec 32 := Scalar.muli v375 c256_i32_1016
  v1564
def k0_off63 (i : grid0.Coords) (k0_t2 : Fin (k0_t2_loop i).trips) : Fin 3 → Nat :=
  let c0_1017 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1016 : BitVec 32 := 256#32
  let v1564 : BitVec 32 := Scalar.muli v375 c256_i32_1016
  let v1565 : BitVec 32 := v1564
  let v1566 : Index := Scalar.indexCast v1565
  let c768_1018 : Index := 768#32
  ![0, v1566.toNat, 768]
def k0_off64 (i : grid0.Coords) (k0_t2 : Fin (k0_t2_loop i).trips) : Fin 4 → Nat :=
  let c0_1120 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v1722 : Index := Scalar.indexCast v372
  let c448 : Index := 448#32
  let c0_1121 : Index := 0#32
  ![0, v1722.toNat, 448, 0]
def k0_mult40 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1129 : BitVec 32 := 256#32
  let v1735 : BitVec 32 := Scalar.muli v375 c256_i32_1129
  v1735
def k0_off65 (i : grid0.Coords) (k0_t2 : Fin (k0_t2_loop i).trips) : Fin 3 → Nat :=
  let c0_1130 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1129 : BitVec 32 := 256#32
  let v1735 : BitVec 32 := Scalar.muli v375 c256_i32_1129
  let v1736 : BitVec 32 := v1735
  let v1737 : Index := Scalar.indexCast v1736
  let c896_1131 : Index := 896#32
  ![0, v1737.toNat, 896]
def k0_off66 (i : grid0.Coords) (k0_t2 : Fin (k0_t2_loop i).trips) : Fin 4 → Nat :=
  let c0_1233 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v1893 : Index := Scalar.indexCast v372
  let c512_1234 : Index := 512#32
  let c0_1235 : Index := 0#32
  ![0, v1893.toNat, 512, 0]
def k0_mult41 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1243 : BitVec 32 := 256#32
  let v1906 : BitVec 32 := Scalar.muli v375 c256_i32_1243
  v1906
def k0_off67 (i : grid0.Coords) (k0_t2 : Fin (k0_t2_loop i).trips) : Fin 3 → Nat :=
  let c0_1244 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1243 : BitVec 32 := 256#32
  let v1906 : BitVec 32 := Scalar.muli v375 c256_i32_1243
  let v1907 : BitVec 32 := v1906
  let v1908 : Index := Scalar.indexCast v1907
  let c1024_1245 : Index := 1024#32
  ![0, v1908.toNat, 1024]
def k0_off68 (i : grid0.Coords) (k0_t2 : Fin (k0_t2_loop i).trips) : Fin 4 → Nat :=
  let c0_1347 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v2064 : Index := Scalar.indexCast v372
  let c576 : Index := 576#32
  let c0_1348 : Index := 0#32
  ![0, v2064.toNat, 576, 0]
def k0_mult42 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1356 : BitVec 32 := 256#32
  let v2077 : BitVec 32 := Scalar.muli v375 c256_i32_1356
  v2077
def k0_off69 (i : grid0.Coords) (k0_t2 : Fin (k0_t2_loop i).trips) : Fin 3 → Nat :=
  let c0_1357 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1356 : BitVec 32 := 256#32
  let v2077 : BitVec 32 := Scalar.muli v375 c256_i32_1356
  let v2078 : BitVec 32 := v2077
  let v2079 : Index := Scalar.indexCast v2078
  let c1152_1358 : Index := 1152#32
  ![0, v2079.toNat, 1152]
def k0_off70 (i : grid0.Coords) (k0_t2 : Fin (k0_t2_loop i).trips) : Fin 4 → Nat :=
  let c0_1460 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v2235 : Index := Scalar.indexCast v372
  let c640_1461 : Index := 640#32
  let c0_1462 : Index := 0#32
  ![0, v2235.toNat, 640, 0]
def k0_mult43 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1470 : BitVec 32 := 256#32
  let v2248 : BitVec 32 := Scalar.muli v375 c256_i32_1470
  v2248
def k0_off71 (i : grid0.Coords) (k0_t2 : Fin (k0_t2_loop i).trips) : Fin 3 → Nat :=
  let c0_1471 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1470 : BitVec 32 := 256#32
  let v2248 : BitVec 32 := Scalar.muli v375 c256_i32_1470
  let v2249 : BitVec 32 := v2248
  let v2250 : Index := Scalar.indexCast v2249
  let c1280_1472 : Index := 1280#32
  ![0, v2250.toNat, 1280]
def k0_off72 (i : grid0.Coords) (k0_t2 : Fin (k0_t2_loop i).trips) : Fin 4 → Nat :=
  let c0_1574 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v2406 : Index := Scalar.indexCast v372
  let c704 : Index := 704#32
  let c0_1575 : Index := 0#32
  ![0, v2406.toNat, 704, 0]
def k0_mult44 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1583 : BitVec 32 := 256#32
  let v2419 : BitVec 32 := Scalar.muli v375 c256_i32_1583
  v2419
def k0_off73 (i : grid0.Coords) (k0_t2 : Fin (k0_t2_loop i).trips) : Fin 3 → Nat :=
  let c0_1584 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1583 : BitVec 32 := 256#32
  let v2419 : BitVec 32 := Scalar.muli v375 c256_i32_1583
  let v2420 : BitVec 32 := v2419
  let v2421 : Index := Scalar.indexCast v2420
  let c1408_1585 : Index := 1408#32
  ![0, v2421.toNat, 1408]
def k0_off74 (i : grid0.Coords) (k0_t2 : Fin (k0_t2_loop i).trips) : Fin 4 → Nat :=
  let c0_1687 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v2577 : Index := Scalar.indexCast v372
  let c768_1688 : Index := 768#32
  let c0_1689 : Index := 0#32
  ![0, v2577.toNat, 768, 0]
def k0_mult45 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1697 : BitVec 32 := 256#32
  let v2590 : BitVec 32 := Scalar.muli v375 c256_i32_1697
  v2590
def k0_off75 (i : grid0.Coords) (k0_t2 : Fin (k0_t2_loop i).trips) : Fin 3 → Nat :=
  let c0_1698 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1697 : BitVec 32 := 256#32
  let v2590 : BitVec 32 := Scalar.muli v375 c256_i32_1697
  let v2591 : BitVec 32 := v2590
  let v2592 : Index := Scalar.indexCast v2591
  let c1536_1699 : Index := 1536#32
  ![0, v2592.toNat, 1536]
def k0_off76 (i : grid0.Coords) (k0_t2 : Fin (k0_t2_loop i).trips) : Fin 4 → Nat :=
  let c0_1801 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v2748 : Index := Scalar.indexCast v372
  let c832 : Index := 832#32
  let c0_1802 : Index := 0#32
  ![0, v2748.toNat, 832, 0]
def k0_mult46 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1810 : BitVec 32 := 256#32
  let v2761 : BitVec 32 := Scalar.muli v375 c256_i32_1810
  v2761
def k0_off77 (i : grid0.Coords) (k0_t2 : Fin (k0_t2_loop i).trips) : Fin 3 → Nat :=
  let c0_1811 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1810 : BitVec 32 := 256#32
  let v2761 : BitVec 32 := Scalar.muli v375 c256_i32_1810
  let v2762 : BitVec 32 := v2761
  let v2763 : Index := Scalar.indexCast v2762
  let c1664_1812 : Index := 1664#32
  ![0, v2763.toNat, 1664]
def k0_off78 (i : grid0.Coords) (k0_t2 : Fin (k0_t2_loop i).trips) : Fin 4 → Nat :=
  let c0_1914 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v2919 : Index := Scalar.indexCast v372
  let c896_1915 : Index := 896#32
  let c0_1916 : Index := 0#32
  ![0, v2919.toNat, 896, 0]
def k0_mult47 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1924 : BitVec 32 := 256#32
  let v2932 : BitVec 32 := Scalar.muli v375 c256_i32_1924
  v2932
def k0_off79 (i : grid0.Coords) (k0_t2 : Fin (k0_t2_loop i).trips) : Fin 3 → Nat :=
  let c0_1925 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_1924 : BitVec 32 := 256#32
  let v2932 : BitVec 32 := Scalar.muli v375 c256_i32_1924
  let v2933 : BitVec 32 := v2932
  let v2934 : Index := Scalar.indexCast v2933
  let c1792_1926 : Index := 1792#32
  ![0, v2934.toNat, 1792]
def k0_off80 (i : grid0.Coords) (k0_t2 : Fin (k0_t2_loop i).trips) : Fin 4 → Nat :=
  let c0_2028 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let v372 : BitVec 32 := Scalar.subi v16 arg10
  let v3090 : Index := Scalar.indexCast v372
  let c960 : Index := 960#32
  let c0_2029 : Index := 0#32
  ![0, v3090.toNat, 960, 0]
def k0_mult48 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_2037 : BitVec 32 := 256#32
  let v3103 : BitVec 32 := Scalar.muli v375 c256_i32_2037
  v3103
def k0_off81 (i : grid0.Coords) (k0_t2 : Fin (k0_t2_loop i).trips) : Fin 3 → Nat :=
  let c0_2038 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_136 : BitVec 32 := 0#32
  let c1_i32_16 : BitVec 32 := 1#32
  let v65 : BitVec 32 := Scalar.addi v16 c1_i32_16
  let v264 : BitVec 32 := Scalar.subi v65 c0_i32_136
  let c1_i32_137 : BitVec 32 := 1#32
  let v266 : BitVec 32 := Scalar.divsi v264 c1_i32_137
  let v267 : BitVec 32 := Scalar.muli v266 c1_i32_137
  let v268 : BitVec 32 := Scalar.addi c0_i32_136 v267
  let c1_i32_139 : BitVec 32 := 1#32
  let arg10 : BitVec 32 := Scf.iv v268 c1_i32_139 k0_t2
  let c1_i32_238 : BitVec 32 := 1#32
  let v373 : BitVec 32 := Scalar.addi arg10 c1_i32_238
  let c1_i32_118 : BitVec 32 := 1#32
  let v246 : BitVec 32 := Scalar.subi v65 c1_i32_118
  let v374 : BitVec 32 := Scalar.minsi v373 v246
  let v375 : BitVec 32 := Scalar.subi v16 v374
  let c256_i32_2037 : BitVec 32 := 256#32
  let v3103 : BitVec 32 := Scalar.muli v375 c256_i32_2037
  let v3104 : BitVec 32 := v3103
  let v3105 : Index := Scalar.indexCast v3104
  let c1920_2039 : Index := 1920#32
  ![0, v3105.toNat, 1920]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![arg0.toNat, v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x16x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x16x2048x256 : Shape := ⟨4, ![8, 16, 2048, 256]⟩
abbrev S32768x2048 : Shape := ⟨2, ![32768, 2048]⟩
abbrev S8x16x2x16x64x256 : Shape := ⟨6, ![8, 16, 2, 16, 64, 256]⟩
abbrev S8x16x1x16x64x256 : Shape := ⟨6, ![8, 16, 1, 16, 64, 256]⟩
abbrev S8x16x16x64x256 : Shape := ⟨5, ![8, 16, 16, 64, 256]⟩
abbrev S8x16x16x256x64 : Shape := ⟨5, ![8, 16, 16, 256, 64]⟩
abbrev S8x16x4096x64 : Shape := ⟨4, ![8, 16, 4096, 64]⟩
abbrev S8x4096x16x2x64 : Shape := ⟨5, ![8, 4096, 16, 2, 64]⟩
abbrev S8x16x4096x2x64 : Shape := ⟨5, ![8, 16, 4096, 2, 64]⟩
abbrev S16 : Shape := ⟨1, ![16]⟩
abbrev S_ : Shape := ⟨0, ![]⟩
abbrev S1x16x1x1 : Shape := ⟨4, ![1, 16, 1, 1]⟩
abbrev S8x16x4096x1x64 : Shape := ⟨5, ![8, 16, 4096, 1, 64]⟩
abbrev S8x16x4096 : Shape := ⟨3, ![8, 16, 4096]⟩
abbrev S8x16x4096x4096 : Shape := ⟨4, ![8, 16, 4096, 4096]⟩
abbrev S8x16x1x4096 : Shape := ⟨4, ![8, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x16x4096x1 : Shape := ⟨4, ![8, 16, 4096, 1]⟩
abbrev S1x1x4096x1 : Shape := ⟨4, ![1, 1, 4096, 1]⟩
abbrev S8x16x64x4096 : Shape := ⟨4, ![8, 16, 64, 4096]⟩
abbrev S8x1024x4096 : Shape := ⟨3, ![8, 1024, 4096]⟩

abbrev nBuf : Space → Nat
  | .hbm => 101
  | .vmem => 0
  | .smem => 0
  | _ => 0

abbrev bufTy : (tb : Table) → Fin (tcTables nBuf tb) → BufTy
  | .hbm, ⟨0, _⟩ => ⟨S8x16x2048x256, .bf16⟩
  | .hbm, ⟨1, _⟩ => ⟨S32768x2048, .bf16⟩
  | .hbm, ⟨2, _⟩ => ⟨S8x16x2048x256, .f32⟩
  | .hbm, ⟨3, _⟩ => ⟨S8x16x2x16x64x256, .f32⟩
  | .hbm, ⟨4, _⟩ => ⟨S8x16x1x16x64x256, .f32⟩
  | .hbm, ⟨5, _⟩ => ⟨S8x16x16x64x256, .f32⟩
  | .hbm, ⟨6, _⟩ => ⟨S8x16x16x256x64, .f32⟩
  | .hbm, ⟨7, _⟩ => ⟨S8x16x4096x64, .f32⟩
  | .hbm, ⟨8, _⟩ => ⟨S8x16x1x16x64x256, .f32⟩
  | .hbm, ⟨9, _⟩ => ⟨S8x16x16x64x256, .f32⟩
  | .hbm, ⟨10, _⟩ => ⟨S8x16x16x256x64, .f32⟩
  | .hbm, ⟨11, _⟩ => ⟨S8x16x4096x64, .f32⟩
  | .hbm, ⟨12, _⟩ => ⟨S32768x2048, .f32⟩
  | .hbm, ⟨13, _⟩ => ⟨S8x4096x16x2x64, .f32⟩
  | .hbm, ⟨14, _⟩ => ⟨S8x16x4096x2x64, .f32⟩
  | .hbm, ⟨15, _⟩ => ⟨S16, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .i32⟩
  | .hbm, ⟨31, _⟩ => ⟨S_, .i1⟩
  | .hbm, ⟨32, _⟩ => ⟨S16, .i1⟩
  | .hbm, ⟨33, _⟩ => ⟨S16, .i1⟩
  | .hbm, ⟨34, _⟩ => ⟨S16, .i1⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S_, .i32⟩
  | .hbm, ⟨39, _⟩ => ⟨S16, .i32⟩
  | .hbm, ⟨40, _⟩ => ⟨S16, .i1⟩
  | .hbm, ⟨41, _⟩ => ⟨S1x16x1x1, .i1⟩
  | .hbm, ⟨42, _⟩ => ⟨S8x16x4096x1x64, .f32⟩
  | .hbm, ⟨43, _⟩ => ⟨S8x16x4096x64, .f32⟩
  | .hbm, ⟨44, _⟩ => ⟨S8x16x4096x1x64, .f32⟩
  | .hbm, ⟨45, _⟩ => ⟨S8x16x4096x64, .f32⟩
  | .hbm, ⟨46, _⟩ => ⟨S8x16x4096x64, .i1⟩
  | .hbm, ⟨47, _⟩ => ⟨S8x16x4096x64, .f32⟩
  | .hbm, ⟨48, _⟩ => ⟨S8x16x4096x1x64, .f32⟩
  | .hbm, ⟨49, _⟩ => ⟨S8x16x4096x64, .f32⟩
  | .hbm, ⟨50, _⟩ => ⟨S8x16x4096x1x64, .f32⟩
  | .hbm, ⟨51, _⟩ => ⟨S8x16x4096x64, .f32⟩
  | .hbm, ⟨52, _⟩ => ⟨S8x16x4096x64, .i1⟩
  | .hbm, ⟨53, _⟩ => ⟨S8x16x4096x64, .f32⟩
  | .hbm, ⟨54, _⟩ => ⟨S_, .f32⟩
  | .hbm, ⟨55, _⟩ => ⟨S8x16x4096, .f32⟩
  | .hbm, ⟨56, _⟩ => ⟨S8x16x4096x4096, .f32⟩
  | .hbm, ⟨57, _⟩ => ⟨S8x16x1x4096, .f32⟩
  | .hbm, ⟨58, _⟩ => ⟨S8x16x4096x4096, .f32⟩
  | .hbm, ⟨59, _⟩ => ⟨S8x16x4096x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8x16x4096x4096, .f32⟩
  | .hbm, ⟨64, _⟩ => ⟨S8x16x4096x4096, .f32⟩
  | .hbm, ⟨65, _⟩ => ⟨S4096, .i32⟩
  | .hbm, ⟨66, _⟩ => ⟨S1x4096, .i32⟩
  | .hbm, ⟨67, _⟩ => ⟨S4096x1, .i32⟩
  | .hbm, ⟨68, _⟩ => ⟨S4096x4096, .i32⟩
  | .hbm, ⟨69, _⟩ => ⟨S4096x4096, .i32⟩
  | .hbm, ⟨70, _⟩ => ⟨S4096x4096, .i1⟩
  | .hbm, ⟨71, _⟩ => ⟨S_, .f32⟩
  | .hbm, ⟨72, _⟩ => ⟨S_, .f32⟩
  | .hbm, ⟨73, _⟩ => ⟨S8x16x4096x4096, .i1⟩
  | .hbm, ⟨74, _⟩ => ⟨S8x16x4096x4096, .f32⟩
  | .hbm, ⟨75, _⟩ => ⟨S8x16x4096x4096, .f32⟩
  | .hbm, ⟨76, _⟩ => ⟨S_, .f32⟩
  | .hbm, ⟨77, _⟩ => ⟨S8x16x4096, .f32⟩
  | .hbm, ⟨78, _⟩ => ⟨S_, .f32⟩
  | .hbm, ⟨79, _⟩ => ⟨S8x16x4096, .f32⟩
  | .hbm, ⟨80, _⟩ => ⟨S8x16x4096, .f32⟩
  | .hbm, ⟨81, _⟩ => ⟨S8x16x4096x1, .f32⟩
  | .hbm, ⟨82, _⟩ => ⟨S8x16x4096x4096, .f32⟩
  | .hbm, ⟨83, _⟩ => ⟨S8x16x4096x4096, .f32⟩
  | .hbm, ⟨84, _⟩ => ⟨S8x16x4096x4096, .f32⟩
  | .hbm, ⟨85, _⟩ => ⟨S_, .f32⟩
  | .hbm, ⟨86, _⟩ => ⟨S8x16x4096, .f32⟩
  | .hbm, ⟨87, _⟩ => ⟨S8x16x4096x1, .f32⟩
  | .hbm, ⟨88, _⟩ => ⟨S8x16x4096x4096, .f32⟩
  | .hbm, ⟨89, _⟩ => ⟨S8x16x4096x4096, .f32⟩
  | .hbm, ⟨90, _⟩ => ⟨S_, .i1⟩
  | .hbm, ⟨91, _⟩ => ⟨S4096, .i1⟩
  | .hbm, ⟨92, _⟩ => ⟨S4096x1, .i1⟩
  | .hbm, ⟨93, _⟩ => ⟨S4096x1, .f32⟩
  | .hbm, ⟨94, _⟩ => ⟨S1x1x4096x1, .f32⟩
  | .hbm, ⟨95, _⟩ => ⟨S8x16x4096x4096, .f32⟩
  | .hbm, ⟨96, _⟩ => ⟨S8x16x4096x4096, .f32⟩
  | .hbm, ⟨97, _⟩ => ⟨S8x16x4096x64, .f32⟩
  | .hbm, ⟨98, _⟩ => ⟨S8x16x64x4096, .f32⟩
  | .hbm, ⟨99, _⟩ => ⟨S8x1024x4096, .f32⟩
  | .hbm, ⟨100, _⟩ => ⟨S8x1024x4096, .bf16⟩
  | _, _ => ⟨S8x16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v14 : Ref sig .tc := ⟨.hbm, 37, rfl⟩
abbrev main_c_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call1_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call2_v0 : Ref sig .tc := ⟨.hbm, 52, rfl⟩
abbrev main_v27 : Ref sig .tc := ⟨.hbm, 53, rfl⟩
abbrev main_cst : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_2 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v43 : Ref sig .tc := ⟨.hbm, 75, rfl⟩
abbrev main_cst_3 : Ref sig .tc := ⟨.hbm, 76, rfl⟩
abbrev main_v44 : Ref sig .tc := ⟨.hbm, 77, rfl⟩
abbrev main_cst_4 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_5 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_6 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]
-- ==== Kernel2.lean ====
abbrev S8x1024x4096 : Shape := ⟨3, ![8, 1024, 4096]⟩
abbrev S32768x1024 : Shape := ⟨2, ![32768, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024x512 : Shape := ⟨3, ![1, 1024, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 20
  | .vmem => 12
  | .smem => 0
  | _ => 0

abbrev bufTy : (tb : Table) → Fin (tcTables nBuf tb) → BufTy
  | .hbm, ⟨0, _⟩ => ⟨S8x1024x4096, .bf16⟩
  | .hbm, ⟨1, _⟩ => ⟨S32768x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024x4096, .f32⟩
  | .hbm, ⟨13, _⟩ => ⟨S1024x4096, .f32⟩
  | .hbm, ⟨14, _⟩ => ⟨S1024x4096, .bf16⟩
  | .hbm, ⟨15, _⟩ => ⟨S1x4096x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .hbm, ⟨19, _⟩ => ⟨S32768x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x1024x4096 : Shape := ⟨3, ![8, 1024, 4096]⟩
abbrev S32768x1024 : Shape := ⟨2, ![32768, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S8x4096x1024 : Shape := ⟨3, ![8, 4096, 1024]⟩
abbrev S1024x1024 : Shape := ⟨2, ![1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32768x4096 : Shape := ⟨2, ![32768, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S32768x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S8x1024x4096, .f32⟩
  | .hbm, ⟨8, _⟩ => ⟨S8x4096x1024, .f32⟩
  | .hbm, ⟨9, _⟩ => ⟨S32768x1024, .f32⟩
  | .hbm, ⟨10, _⟩ => ⟨S1024x1024, .f32⟩
  | .hbm, ⟨11, _⟩ => ⟨S32768x1024, .f32⟩
  | .hbm, ⟨12, _⟩ => ⟨S32768x1024, .f32⟩
  | .hbm, ⟨13, _⟩ => ⟨S1x1024, .f32⟩
  | .hbm, ⟨14, _⟩ => ⟨S1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S1x1024x4096, .f32⟩
  | .hbm, ⟨32, _⟩ => ⟨S1024x4096, .f32⟩
  | .hbm, ⟨33, _⟩ => ⟨S1x4096x1024, .f32⟩
  | .hbm, ⟨34, _⟩ => ⟨S4096x1024, .f32⟩
  | .hbm, ⟨35, _⟩ => ⟨S32768x4096, .f32⟩
  | .hbm, ⟨36, _⟩ => ⟨S_, .f32⟩
  | .hbm, ⟨37, _⟩ => ⟨S32768x4096, .f32⟩
  | .hbm, ⟨38, _⟩ => ⟨S32768x4096, .f32⟩
  | .hbm, ⟨39, _⟩ => ⟨S32768x4096, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel3.lean ====
abbrev S8x512x4096 : Shape := ⟨3, ![8, 512, 4096]⟩
abbrev S32768x1024 : Shape := ⟨2, ![32768, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x512x512 : Shape := ⟨3, ![1, 512, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S8x512x4096, .bf16⟩
  | .hbm, ⟨1, _⟩ => ⟨S8x512x4096, .bf16⟩
  | .hbm, ⟨2, _⟩ => ⟨S32768x1024, .f32⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024x4096, .f32⟩
  | .hbm, ⟨13, _⟩ => ⟨S1024x4096, .f32⟩
  | .hbm, ⟨14, _⟩ => ⟨S1024x4096, .bf16⟩
  | .hbm, ⟨15, _⟩ => ⟨S1x4096x1024, .f32⟩
  | .hbm, ⟨16, _⟩ => ⟨S4096x1024, .f32⟩
  | .hbm, ⟨17, _⟩ => ⟨S4096x1024, .bf16⟩
  | .hbm, ⟨18, _⟩ => ⟨S32768x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x512x4096 : Shape := ⟨3, ![8, 512, 4096]⟩
abbrev S32768x1024 : Shape := ⟨2, ![32768, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S8x1024x4096 : Shape := ⟨3, ![8, 1024, 4096]⟩
abbrev S8x4096x1024 : Shape := ⟨3, ![8, 4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32768x4096 : Shape := ⟨2, ![32768, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S8x512x4096, .bf16⟩
  | .hbm, ⟨2, _⟩ => ⟨S32768x1024, .f32⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S8x512x4096, .f32⟩
  | .hbm, ⟨8, _⟩ => ⟨S8x512x4096, .f32⟩
  | .hbm, ⟨9, _⟩ => ⟨S8x1024x4096, .f32⟩
  | .hbm, ⟨10, _⟩ => ⟨S8x4096x1024, .f32⟩
  | .hbm, ⟨11, _⟩ => ⟨S32768x1024, .f32⟩
  | .hbm, ⟨12, _⟩ => ⟨S1024x1024, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S1x1024x4096, .f32⟩
  | .hbm, ⟨34, _⟩ => ⟨S1024x4096, .f32⟩
  | .hbm, ⟨35, _⟩ => ⟨S1x4096x1024, .f32⟩
  | .hbm, ⟨36, _⟩ => ⟨S4096x1024, .f32⟩
  | .hbm, ⟨37, _⟩ => ⟨S32768x4096, .f32⟩
  | .hbm, ⟨38, _⟩ => ⟨S_, .f32⟩
  | .hbm, ⟨39, _⟩ => ⟨S32768x4096, .f32⟩
  | .hbm, ⟨40, _⟩ => ⟨S32768x4096, .f32⟩
  | .hbm, ⟨41, _⟩ => ⟨S32768x4096, .f32⟩
  | .hbm, ⟨42, _⟩ => ⟨S32768x1024, .f32⟩
  | .hbm, ⟨43, _⟩ => ⟨S32768x1024, .f32⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.FoxFloatRunA.lean ====
module

public import proofs.«01_k».proof.Proof.FoxFloatRuns

@[expose] public section

set_option maxRecDepth 131072

noncomputable section

namespace Cert.Kernel.Fox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem kernelRun0_A (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_fox_attn i arg3 harg3 arg4 harg4 arg5 harg5 arg6 harg6 arg7 harg7 arg8 harg8 arg9 harg9) K := by
    intro E K
    simp only [cc0_fox_attn_eq_skeleton]; unfold cc0_fox_attn_skel
    simp only [k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Fox

end
-- ==== Proof.FoxFloatFrame.lean ====
module

public import proofs.«01_k».proof.Proof.FoxFloatRunA
public import Idealize.ShloMosaic.Lib.Claim

@[expose] public section

set_option maxRecDepth 131072

noncomputable section

namespace Cert.Kernel.Fox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

def forgets0 : Fin 5 → Bool := fun w => w.val == 4

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Fox

end
-- ==== Proof.FoxIdealLoops.lean ====
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ
/-! ## `cc0_fox_attn` -/

abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :=
  Idealize.ShloMosaic.LoopInv (M := MT nD τ sig Ix (Elt F) Name U Lvl) Idealize.ShloMosaic.frame (wpE defs₀ 𝒱 (c : Thread nD τ) bd) E
    (k0_t1_loop i).lb (k0_t1_loop i).ub (k0_t1_loop i).st (k0_t1_ok i) init (k0_t1_body (F := F) i arg3 harg3 arg4 harg4 arg5 harg5 arg6 harg6 arg7 harg7 arg8 harg8 arg9 harg9 v16 v36 v37 v38 v39 v40 v41 v42 v43 v44 v45 v46 v47 v48 v49 v50 v51 v65 c1_i32_118 v246)

/-! ### `k0_t1_loop i`: the generated invariant (classifier: listed) -/

abbrev Trip_k0_t1 (c : Dev nD) (arg4 : Memref sig .tc .vmem S1x4096x2048 .bf16) (arg5 : Memref sig .tc .vmem S1x16x1024x256 .bf16) (arg8 : Memref sig .tc .vmem S16x256x256 .f32) (arg9 : Memref sig .tc .vmem S16x80x256 .f32) (X_arg4 : BufTy.Contents (Elt F) arg4.view.ty) (X_arg5 : BufTy.Contents (Elt F) arg5.view.ty) (f_arg8 : BufTy.Contents (Elt F) arg8.view.ty) (f_arg9 : BufTy.Contents (Elt F) arg9.view.ty) : sProp 𝕄G :=
  iprop((arg4.view.loc (c : Thread nD τ) ↦[arg4.view.set]{fullShare} X_arg4) ∗ (arg5.view.loc (c : Thread nD τ) ↦[arg5.view.set]{fullShare} X_arg5) ∗ (arg8.view.loc (c : Thread nD τ) ↦[arg8.view.set]{fullShare} f_arg8) ∗ (arg9.view.loc (c : Thread nD τ) ↦[arg9.view.set]{fullShare} f_arg9))

@[irreducible] def trip_k0_t1 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (k : Fin (k0_t1_loop i).trips) :
    Σ' (R_k0_t1 : ((FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) → BufTy.Contents (Elt F) arg8.view.ty → BufTy.Contents (Elt F) arg9.view.ty → FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32)) (L_arg8 : ((FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) → BufTy.Contents (Elt F) arg8.view.ty → BufTy.Contents (Elt F) arg9.view.ty → List (View.Piece (Elt F) S16x256x256 .f32))) , { L_arg9 : ((FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) → BufTy.Contents (Elt F) arg8.view.ty → BufTy.Contents (Elt F) arg9.view.ty → List (View.Piece (Elt F) S16x80x256 .f32)) // ∀ (E : Set ℕ) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (f_arg8 : BufTy.Contents (Elt F) arg8.view.ty) (f_arg9 : BufTy.Contents (Elt F) arg9.view.ty),
      Trip_k0_t1 (F := F) c arg4 arg5 arg8 arg9 X_arg4 X_arg5 f_arg8 f_arg9
      ⊢ wp frame (wpE (defs₀ (F := F)) 𝒱 (c : Thread nD τ) bd) E (k0_t1_body (F := F) i arg3 harg3 arg4 harg4 arg5 harg5 arg6 harg6 arg7 harg7 arg8 harg8 arg9 harg9 v16 v36 v37 v38 v39 v40 v41 v42 v43 v44 v45 v46 v47 v48 v49 v50 v51 v65 c1_i32_118 v246 k acc)
          (fun yld => iprop(⌜yld = R_k0_t1 acc f_arg8 f_arg9⌝ ∗ Trip_k0_t1 (F := F) c arg4 arg5 arg8 arg9 X_arg4 X_arg5 (arg8.view.writes (Elt F) f_arg8 (L_arg8 acc f_arg8 f_arg9)) (arg9.view.writes (Elt F) f_arg9 (L_arg9 acc f_arg8 f_arg9)))) } := by
  refine ⟨?_, ?_, ?_, fun E acc f_arg8 f_arg9 => ?run⟩
  case run =>
    unfold k0_t1_body
    iintro ⟨HR_arg4, HR_arg5, HW_arg8, HW_arg9⟩
    sl_exec
    sl_step
    sl_close

abbrev tripR_k0_t1 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (k : Fin (k0_t1_loop i).trips) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (f_arg8 : BufTy.Contents (Elt F) arg8.view.ty) (f_arg9 : BufTy.Contents (Elt F) arg9.view.ty) : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 :=
  (trip_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).1 acc f_arg8 f_arg9

abbrev tripL_k0_t1 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (k : Fin (k0_t1_loop i).trips) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (f_arg8 : BufTy.Contents (Elt F) arg8.view.ty) (f_arg9 : BufTy.Contents (Elt F) arg9.view.ty) : List (View.Piece (Elt F) S16x256x256 .f32) × List (View.Piece (Elt F) S16x80x256 .f32) :=
  ((trip_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).2.1 acc f_arg8 f_arg9, (trip_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).2.2.1 acc f_arg8 f_arg9)

@[irreducible] def st_k0_t1Step (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (k : ℕ) (prev : (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) × List (View.Piece (Elt F) S16x256x256 .f32) × List (View.Piece (Elt F) S16x80x256 .f32)) : (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) × List (View.Piece (Elt F) S16x256x256 .f32) × List (View.Piece (Elt F) S16x80x256 .f32) :=
  if h : k < (k0_t1_loop i).trips then
    (tripR_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 ⟨k, h⟩ prev.1 (arg8.view.writes (Elt F) G_arg8 prev.2.1) (arg9.view.writes (Elt F) G_arg9 prev.2.2), (tripL_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 ⟨k, h⟩ prev.1 (arg8.view.writes (Elt F) G_arg8 prev.2.1) (arg9.view.writes (Elt F) G_arg9 prev.2.2)).1 ++ prev.2.1, (tripL_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 ⟨k, h⟩ prev.1 (arg8.view.writes (Elt F) G_arg8 prev.2.1) (arg9.view.writes (Elt F) G_arg9 prev.2.2)).2 ++ prev.2.2)
  else prev

def st_k0_t1 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) : ℕ → (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) × List (View.Piece (Elt F) S16x256x256 .f32) × List (View.Piece (Elt F) S16x80x256 .f32)
  | 0 => (init, [], [])
  | k + 1 => st_k0_t1Step 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k (st_k0_t1 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k)

theorem st_k0_t1_succ (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (k : Fin (k0_t1_loop i).trips) :
    st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (k.val + 1)
      = ((tripR_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).1 (arg8.view.writes (Elt F) G_arg8 (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).2.1) (arg9.view.writes (Elt F) G_arg9 (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).2.2)), (tripL_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).1 (arg8.view.writes (Elt F) G_arg8 (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).2.1) (arg9.view.writes (Elt F) G_arg9 (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).2.2)).1 ++ (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).2.1, (tripL_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).1 (arg8.view.writes (Elt F) G_arg8 (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).2.1) (arg9.view.writes (Elt F) G_arg9 (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).2.2)).2 ++ (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k.val).2.2) := by
  rw [st_k0_t1.eq_2]; unfold st_k0_t1Step; exact dif_pos k.isLt

theorem st_k0_t1_zero (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :
    (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init 0).1 = init := rfl

abbrev inv_k0_t1 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (k : ℕ) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) : sProp 𝕄G :=
  iprop((arg4.view.loc (c : Thread nD τ) ↦[arg4.view.set]{fullShare} X_arg4) ∗ (arg5.view.loc (c : Thread nD τ) ↦[arg5.view.set]{fullShare} X_arg5) ∗ (∃ f, (arg8.view.loc (c : Thread nD τ) ↦[arg8.view.set]{fullShare} f) ∗ ⌜f = arg8.view.writes (Elt F) G_arg8 (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k).2.1⌝) ∗ (∃ f, (arg9.view.loc (c : Thread nD τ) ↦[arg9.view.set]{fullShare} f) ∗ ⌜f = arg9.view.writes (Elt F) G_arg9 (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k).2.2⌝) ∗ ⌜acc = (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k).1⌝)

set_option warn.classDefReducibility false in
@[sl_loop] def loopInv_k0_t1 (𝒱 : Variants) (c : Dev nD) (bd : Option 𝒱.V) (E : Set ℕ) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :
    LoopInvTy_k0_t1 (F := F) Unit ℕ (UR sig nD τ) ℕ 𝒱 c bd E i arg3 harg3 arg4 harg4 arg5 harg5 arg6 harg6 arg7 harg7 arg8 harg8 arg9 harg9 v16 v36 v37 v38 v39 v40 v41 v42 v43 v44 v45 v46 v47 v48 v49 v50 v51 v65 c1_i32_118 v246 init where
  inv := inv_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init
  step k acc := by
    iintro ⟨HR_arg4, HR_arg5, ⟨%f_arg8, HW_arg8, %h_arg8⟩, ⟨%f_arg9, HW_arg9, %h_arg9⟩, %h_acc⟩
    subst h_acc
    iapply (wp_wand_r Idealize.ShloMosaic.frame (wpE (defs₀ (F := F)) 𝒱 (c : Thread nD τ) bd) E)
    isplitl [HR_arg4 HR_arg5 HW_arg8 HW_arg9]
    · iapply ((trip_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).2.2.2 E (st_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init k).1 f_arg8 f_arg9)
      isplitl [HR_arg4]; · iexact HR_arg4
      isplitl [HR_arg5]; · iexact HR_arg5
      isplitl [HW_arg8]; · iexact HW_arg8
      iexact HW_arg9
    · iintro %yld ⟨%h_res, HR_arg4, HR_arg5, HW_arg8, HW_arg9⟩
      isplitl [HR_arg4]; · iexact HR_arg4
      isplitl [HR_arg5]; · iexact HR_arg5
      simp only [st_k0_t1_succ]
      isplitl [HW_arg8]
      · iexists _; isplitl [HW_arg8]; · iexact HW_arg8
        ipureintro; rw [h_arg8, h_arg9, ← View.writes_append]
      isplitl [HW_arg9]
      · iexists _; isplitl [HW_arg9]; · iexact HW_arg9
        ipureintro; rw [h_arg8, h_arg9, ← View.writes_append]
      ipureintro; rw [h_res, h_arg8, h_arg9]

abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :=
  Idealize.ShloMosaic.LoopInv (M := MT nD τ sig Ix (Elt F) Name U Lvl) Idealize.ShloMosaic.frame (wpE defs₀ 𝒱 (c : Thread nD τ) bd) E
    (k0_t2_loop i).lb (k0_t2_loop i).ub (k0_t2_loop i).st (k0_t2_ok i) init (k0_t2_body (F := F) i arg3 harg3 arg4 harg4 arg5 harg5 arg6 harg6 arg7 harg7 arg8 harg8 arg9 harg9 v16 v36 v37 v38 v39 v40 v41 v42 v43 v44 v45 v46 v47 v48 v49 v50 v51 v65 c1_i32_118 v246 v268)

/-! ### `k0_t2_loop i`: the generated invariant (classifier: listed) -/

abbrev Trip_k0_t2 (c : Dev nD) (arg4 : Memref sig .tc .vmem S1x4096x2048 .bf16) (arg5 : Memref sig .tc .vmem S1x16x1024x256 .bf16) (arg8 : Memref sig .tc .vmem S16x256x256 .f32) (arg9 : Memref sig .tc .vmem S16x80x256 .f32) (X_arg4 : BufTy.Contents (Elt F) arg4.view.ty) (X_arg5 : BufTy.Contents (Elt F) arg5.view.ty) (f_arg8 : BufTy.Contents (Elt F) arg8.view.ty) (f_arg9 : BufTy.Contents (Elt F) arg9.view.ty) : sProp 𝕄G :=
  iprop((arg4.view.loc (c : Thread nD τ) ↦[arg4.view.set]{fullShare} X_arg4) ∗ (arg5.view.loc (c : Thread nD τ) ↦[arg5.view.set]{fullShare} X_arg5) ∗ (arg8.view.loc (c : Thread nD τ) ↦[arg8.view.set]{fullShare} f_arg8) ∗ (arg9.view.loc (c : Thread nD τ) ↦[arg9.view.set]{fullShare} f_arg9))

@[irreducible] def trip_k0_t2 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (X_arg4 : BufTy.Contents (Elt F) arg4.view.ty) (X_arg5 : BufTy.Contents (Elt F) arg5.view.ty) (k : Fin (k0_t2_loop i).trips) :
    Σ' (R_k0_t2 : ((FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) → BufTy.Contents (Elt F) arg8.view.ty → BufTy.Contents (Elt F) arg9.view.ty → FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32)) (L_arg8 : ((FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) → BufTy.Contents (Elt F) arg8.view.ty → BufTy.Contents (Elt F) arg9.view.ty → List (View.Piece (Elt F) S16x256x256 .f32))) , { L_arg9 : ((FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) → BufTy.Contents (Elt F) arg8.view.ty → BufTy.Contents (Elt F) arg9.view.ty → List (View.Piece (Elt F) S16x80x256 .f32)) // ∀ (E : Set ℕ) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (f_arg8 : BufTy.Contents (Elt F) arg8.view.ty) (f_arg9 : BufTy.Contents (Elt F) arg9.view.ty),
      Trip_k0_t2 (F := F) c arg4 arg5 arg8 arg9 X_arg4 X_arg5 f_arg8 f_arg9
      ⊢ wp frame (wpE (defs₀ (F := F)) 𝒱 (c : Thread nD τ) bd) E (k0_t2_body (F := F) i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 k acc)
          (fun yld => iprop(⌜yld = R_k0_t2 acc f_arg8 f_arg9⌝ ∗ Trip_k0_t2 (F := F) c arg4 arg5 arg8 arg9 X_arg4 X_arg5 (arg8.view.writes (Elt F) f_arg8 (L_arg8 acc f_arg8 f_arg9)) (arg9.view.writes (Elt F) f_arg9 (L_arg9 acc f_arg8 f_arg9)))) } := by
  refine ⟨?_, ?_, ?_, fun E acc f_arg8 f_arg9 => ?run⟩
  case run =>
    unfold k0_t2_body
    iintro ⟨HR_arg4, HR_arg5, HW_arg8, HW_arg9⟩
    sl_exec
    sl_step
    sl_close

abbrev tripR_k0_t2 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (X_arg4 : BufTy.Contents (Elt F) arg4.view.ty) (X_arg5 : BufTy.Contents (Elt F) arg5.view.ty) (k : Fin (k0_t2_loop i).trips) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (f_arg8 : BufTy.Contents (Elt F) arg8.view.ty) (f_arg9 : BufTy.Contents (Elt F) arg9.view.ty) : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 :=
  (trip_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 k).1 acc f_arg8 f_arg9

abbrev tripL_k0_t2 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (X_arg4 : BufTy.Contents (Elt F) arg4.view.ty) (X_arg5 : BufTy.Contents (Elt F) arg5.view.ty) (k : Fin (k0_t2_loop i).trips) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (f_arg8 : BufTy.Contents (Elt F) arg8.view.ty) (f_arg9 : BufTy.Contents (Elt F) arg9.view.ty) : List (View.Piece (Elt F) S16x256x256 .f32) × List (View.Piece (Elt F) S16x80x256 .f32) :=
  ((trip_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 k).2.1 acc f_arg8 f_arg9, (trip_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 k).2.2.1 acc f_arg8 f_arg9)

@[irreducible] def st_k0_t2Step (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (k : ℕ) (prev : (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) × List (View.Piece (Elt F) S16x256x256 .f32) × List (View.Piece (Elt F) S16x80x256 .f32)) : (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) × List (View.Piece (Elt F) S16x256x256 .f32) × List (View.Piece (Elt F) S16x80x256 .f32) :=
  if h : k < (k0_t2_loop i).trips then
    (tripR_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 ⟨k, h⟩ prev.1 (arg8.view.writes (Elt F) G_arg8 prev.2.1) (arg9.view.writes (Elt F) G_arg9 prev.2.2), (tripL_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 ⟨k, h⟩ prev.1 (arg8.view.writes (Elt F) G_arg8 prev.2.1) (arg9.view.writes (Elt F) G_arg9 prev.2.2)).1 ++ prev.2.1, (tripL_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 ⟨k, h⟩ prev.1 (arg8.view.writes (Elt F) G_arg8 prev.2.1) (arg9.view.writes (Elt F) G_arg9 prev.2.2)).2 ++ prev.2.2)
  else prev

def st_k0_t2 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) : ℕ → (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) × List (View.Piece (Elt F) S16x256x256 .f32) × List (View.Piece (Elt F) S16x80x256 .f32)
  | 0 => (init, [], [])
  | k + 1 => st_k0_t2Step 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k (st_k0_t2 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k)

theorem st_k0_t2_succ (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (k : Fin (k0_t2_loop i).trips) :
    st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init (k.val + 1)
      = ((tripR_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 k (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).1 (arg8.view.writes (Elt F) G_arg8 (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).2.1) (arg9.view.writes (Elt F) G_arg9 (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).2.2)), (tripL_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 k (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).1 (arg8.view.writes (Elt F) G_arg8 (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).2.1) (arg9.view.writes (Elt F) G_arg9 (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).2.2)).1 ++ (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).2.1, (tripL_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 k (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).1 (arg8.view.writes (Elt F) G_arg8 (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).2.1) (arg9.view.writes (Elt F) G_arg9 (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).2.2)).2 ++ (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k.val).2.2) := by
  rw [st_k0_t2.eq_2]; unfold st_k0_t2Step; exact dif_pos k.isLt

theorem st_k0_t2_zero (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :
    (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init 0).1 = init := rfl

abbrev inv_k0_t2 (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (k : ℕ) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) : sProp 𝕄G :=
  iprop((arg4.view.loc (c : Thread nD τ) ↦[arg4.view.set]{fullShare} X_arg4) ∗ (arg5.view.loc (c : Thread nD τ) ↦[arg5.view.set]{fullShare} X_arg5) ∗ (∃ f, (arg8.view.loc (c : Thread nD τ) ↦[arg8.view.set]{fullShare} f) ∗ ⌜f = arg8.view.writes (Elt F) G_arg8 (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k).2.1⌝) ∗ (∃ f, (arg9.view.loc (c : Thread nD τ) ↦[arg9.view.set]{fullShare} f) ∗ ⌜f = arg9.view.writes (Elt F) G_arg9 (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k).2.2⌝) ∗ ⌜acc = (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k).1⌝)

set_option warn.classDefReducibility false in
@[sl_loop] def loopInv_k0_t2 (𝒱 : Variants) (c : Dev nD) (bd : Option 𝒱.V) (E : Set ℕ) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (v268 : BitVec 32) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :
    LoopInvTy_k0_t2 (F := F) Unit ℕ (UR sig nD τ) ℕ 𝒱 c bd E i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 init where
  inv := inv_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init
  step k acc := by
    iintro ⟨HR_arg4, HR_arg5, ⟨%f_arg8, HW_arg8, %h_arg8⟩, ⟨%f_arg9, HW_arg9, %h_arg9⟩, %h_acc⟩
    subst h_acc
    iapply (wp_wand_r Idealize.ShloMosaic.frame (wpE (defs₀ (F := F)) 𝒱 (c : Thread nD τ) bd) E)
    isplitl [HR_arg4 HR_arg5 HW_arg8 HW_arg9]
    · iapply ((trip_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 k).2.2.2 E (st_k0_t2 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 v268 X_arg4 X_arg5 G_arg8 G_arg9 init k).1 f_arg8 f_arg9)
      isplitl [HR_arg4]; · iexact HR_arg4
      isplitl [HR_arg5]; · iexact HR_arg5
      isplitl [HW_arg8]; · iexact HW_arg8
      iexact HW_arg9
    · iintro %yld ⟨%h_res, HR_arg4, HR_arg5, HW_arg8, HW_arg9⟩
      isplitl [HR_arg4]; · iexact HR_arg4
      isplitl [HR_arg5]; · iexact HR_arg5
      simp only [st_k0_t2_succ]
      isplitl [HW_arg8]
      · iexists _; isplitl [HW_arg8]; · iexact HW_arg8
        ipureintro; rw [h_arg8, h_arg9, ← View.writes_append]
      isplitl [HW_arg9]
      · iexists _; isplitl [HW_arg9]; · iexact HW_arg9
        ipureintro; rw [h_arg8, h_arg9, ← View.writes_append]
      ipureintro; rw [h_res, h_arg8, h_arg9]

end Cert.KernelIdeal.Fox

end
-- ==== Proof.FoxIdealRuns.lean ====
module

public import proofs.«01_k».proof.Proof.Gen.KernelIdeal.Launch
public import proofs.«01_k».proof.Proof.Gen.KernelIdeal.Skeleton
public import proofs.«01_k».proof.Proof.FoxIdealLoops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 131072

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (((dats 0 c).arrAt_in 2 rfl _).trans ((hA c 2).trans (V_main_arg0 m c))),
      ((h c).2 main_arg1 (Pipeline.mem_restRefs_of main_arg1 (by decide) (by decide))).trans (V_main_arg1 m c)⟩) h

/-! ## The kernel body on any staging memrefs: a subtype the run finds -/

abbrev VO0_4 : View sig .tc .vmem S1x1024x256 .bf16 := (Memref.whole cc0_stg4_0 : Memref sig .tc .vmem S1x1024x256 .bf16).view
abbrev ms0_0 (t : Fin cfg0.N) : Memref sig .tc .vmem S1x1x1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x256 .bf16 := win0_4.stage (cfg0.slots t 4)
abbrev hs0_4 (t : Fin cfg0.N) : (ms0_4 t).IsWhole := hstage0_4 ((cfg0.slots t 4).cast nbuf0_4)
abbrev scM0_0 : Memref sig .tc .vmem S16x256x256 .f32 := Memref.whole cc0_scratch0
abbrev scM0_1 : Memref sig .tc .vmem S16x80x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fox

end
-- ==== Proof.FoxIdealRunA.lean ====
module

public import proofs.«01_k».proof.Proof.FoxIdealRuns

@[expose] public section

set_option maxRecDepth 131072

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_A (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    { L4 : List (View.Piece (Elt F) S1x1024x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ d, owns (c : Thread nD τ) arg8 fullShare d) ∗ (∃ d, owns (c : Thread nD τ) arg9 fullShare d)) -∗ K ⟨⟩))
          ⊢ wp frame (wpE (defs₀ (F := F)) Variants.none c none) E (cc0_fox_attn i arg3 harg3 arg4 harg4 arg5 harg5 arg6 harg6 arg7 harg7 arg8 harg8 arg9 harg9) K } := by
  refine ⟨?_, fun E K => ?run⟩
  case run =>
    simp only [cc0_fox_attn_eq_skeleton]; unfold cc0_fox_attn_skel
    simp only [k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    iexists _, _; isplitr; swap; · iexact HS1
    ipureintro; rfl

end Cert.KernelIdeal.Fox

end
-- ==== Proof.FoxIdealFrame.lean ====
module

public import proofs.«01_k».proof.Proof.FoxIdealRunA
public import Idealize.ShloMosaic.Lib.Claim

@[expose] public section

set_option maxRecDepth 131072

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
theorem cover0_A_4 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) (y : S1x1024x256.Idx) :
    ∃ pc ∈ (kernelRun0_A c i arg3 harg3 arg4 harg4 arg5 harg5 arg6 harg6 arg7 harg7 arg8 harg8 arg9 harg9 x0 x1 x2 x3).1, y ∈ pc.1.set :=
  View.cover_of_tiledL (kernelRun0_A c i arg3 harg3 arg4 harg4 arg5 harg5 arg6 harg6 arg7 harg7 arg8 harg8 arg9 harg9 x0 x1 x2 x3).1 S1x1024x256.size (by sl_kernel_rfl) y

def out0_A_4 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) : Vec F S1x1024x256 .bf16 :=
  VO0_4.read (Elt F) (VO0_4.writes (Elt F) VO0_4.junk (kernelRun0_A c i arg3 harg3 arg4 harg4 arg5 harg5 arg6 harg6 arg7 harg7 arg8 harg8 arg9 harg9 x0 x1 x2 x3).1)

/-! ## What the outputs hold after each point -/

def outsAt0 (c : Dev nD) (t : Fin cfg0.N) : Vec F S1x1024x256 .bf16 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Fox

end
-- ==== Proof.FoxHead.lean ====
/-
  What one trip of the attention loop computes for one head, as functions of what it loads: the running maximum of each
  query, and the accumulated values and weights.
-/
module

public import proofs.«01_k».proof.Proof.Gen.KernelIdeal.Skeleton
public import Idealize.ShloMosaic.Lib.Pointwise
public import Idealize.ShloMosaic.PureOps.Ideal

@[expose] public section

noncomputable section

namespace Cert.KernelIdeal.Head

open Idealize.ShloMosaic Cert.KernelIdeal Cert.KernelIdeal.Gen

variable {F : FTy → Type} [FloatOps F] [Named F]

/-- A chunk of sixteen key rows of the scores of one head, without its leading axis. -/
def chunk (x : FVec F S1x16x256 .f32) : FVec F S16x256 .f32 := shapeCast S16x256 x shapeCasts_S1x16x256_S16x256

/-- The maximum of the sixteen chunks, row by row. -/
def foldMax (x : Fin 16 → FVec F S1x16x256 .f32) : FVec F S16x256 .f32 :=
  maximumf (maximumf (maximumf (maximumf (maximumf (maximumf (maximumf (maximumf (maximumf (maximumf (maximumf (maximumf
    (maximumf (maximumf (maximumf (chunk (x 0)) (chunk (x 1))) (chunk (x 2))) (chunk (x 3))) (chunk (x 4))) (chunk (x 5)))
    (chunk (x 6))) (chunk (x 7))) (chunk (x 8))) (chunk (x 9))) (chunk (x 10))) (chunk (x 11))) (chunk (x 12)))
    (chunk (x 13))) (chunk (x 14))) (chunk (x 15))

/-- The running maximum of every query after the tile of scores `x`. -/
def newMax (m : FVec F S1x256 .f32) (x : Fin 16 → FVec F S1x16x256 .f32) : FVec F S1x256 .f32 :=
  maximumf m (shapeCast S1x256 (multiReduction .maximumf [0] S256 (foldMax x) 0xFF800000#32 reduces_S16x256_S256
    (.inl rfl) rfl) shapeCasts_S256_S1x256)

/-- The weights of a chunk, two to the score less the running maximum. -/
def weights (m : FVec F S1x256 .f32) (x : FVec F S1x16x256 .f32) : FVec F S16x256 .bf16 :=
  truncf .bf16 (exp2 (subf (chunk x) (broadcastTo S16x256 m broadcasts_S1x256_S16x256))) bitsLt_bf16_f32

/-- The weights of the tile, chunk above chunk. -/
def probs (m : FVec F S1x256 .f32) (x : Fin 16 → FVec F S1x16x256 .f32) : FVec F S256x256 .bf16 :=
  concatenate S256x256 0 [⟨S16x256, weights m (x 0)⟩, ⟨S16x256, weights m (x 1)⟩,
        ⟨S16x256, weights m (x 2)⟩, ⟨S16x256, weights m (x 3)⟩,
        ⟨S16x256, weights m (x 4)⟩, ⟨S16x256, weights m (x 5)⟩,
        ⟨S16x256, weights m (x 6)⟩, ⟨S16x256, weights m (x 7)⟩,
        ⟨S16x256, weights m (x 8)⟩, ⟨S16x256, weights m (x 9)⟩,
        ⟨S16x256, weights m (x 10)⟩, ⟨S16x256, weights m (x 11)⟩,
        ⟨S16x256, weights m (x 12)⟩, ⟨S16x256, weights m (x 13)⟩,
        ⟨S16x256, weights m (x 14)⟩, ⟨S16x256, weights m (x 15)⟩] concatenates_S16x256_S16x256_S16x256_S16x256_S16x256_S16x256_S16x256_S16x256_S16x256_S16x256_S16x256_S16x256_S16x256_S16x256_S16x256_S16x256_S256x256_d0

/-- The accumulator after a tile: the old one scaled, plus the values and a block of ones times the weights. -/
def newAcc (m : FVec F S1x256 .f32) (x : Fin 16 → FVec F S1x16x256 .f32) (v : FVec F S1x1x64x256 .bf16)
    (a : FVec F S1x80x256 .f32) : FVec F S1x80x256 .f32 :=
  shapeCast S1x80x256 (addf
    (mulf (broadcastTo S80x256 (exp2 (subf m (newMax m x))) broadcasts_S1x256_S80x256)
      (shapeCast S80x256 a shapeCasts_S1x80x256_S80x256))
    (matmul dot_S80x256_S256x256_S80x256_1_0_0_1_n_n none
      (concatenate S80x256 0 [⟨S64x256, shapeCast S64x256 v shapeCasts_S1x1x64x256_S64x256⟩,
        ⟨S16x256, k0_pay684 (F := F)⟩] concatenates_S64x256_S16x256_S80x256_d0)
      (probs (newMax m x) x)
      (constant S80x256 .f32 0x00000000#32))) shapeCasts_S80x256_S1x80x256

/-- The scores of a tile of keys, from the keys with their gate terms and the queries with their ones. -/
def scores (k : FVec F S1x256x128 .bf16) (q : FVec F S128x256 .bf16) : FVec F S1x256x256 .f32 :=
  shapeCast S1x256x256 (matmul dot_S256x128_S128x256_S256x256_1_0_0_1_n_n none
    (shapeCast S256x128 k shapeCasts_S1x256x128_S256x128) q (constant S256x256 .f32 0x00000000#32))
    shapeCasts_S256x256_S1x256x256

end Cert.KernelIdeal.Head

namespace Cert.KernelIdeal.Head

open Idealize.ShloMosaic Cert.KernelIdeal Cert.KernelIdeal.Gen

/-- A score of the tile: the product over the 128 lanes. -/
theorem scores_at (k : FVec Ideal S1x256x128 .bf16) (q : FVec Ideal S128x256 .bf16) (r j : Fin 256) :
    scores k q (ix3 0 r j) = ∑ d : Fin 128, k (ix3 0 r d) * q (ix2 d j) := by
  pointwise [scores]

theorem newMax_at (m : FVec Ideal S1x256 .f32) (x : Fin 16 → FVec Ideal S1x16x256 .f32) (S : Fin 256 → EReal) (j : Fin 256)
    (hx : ∀ c a : Fin 16, x c (ix3 0 a j) = S ⟨16 * c + a, by omega⟩) :
    newMax m x (ix2 0 j) = max (m (ix2 0 j)) (Finset.univ.sup S) := by
  pointwise [newMax, foldMax, chunk]
  have hb : Ideal.ofBits .f32 0xFF800000#32 = ⊥ := by simp [Ideal.ofBits, Ideal.ieee]
  refine congrArg _ (eq_of_forall_ge_iff fun c => ?_)
  rw [Finset.fold_max_le, hb]
  simp only [bot_le, true_and, Finset.mem_univ, forall_true_left, max_le_iff, hx, Finset.sup_le_iff]
  constructor
  · intro h r
    have hr := h ⟨r % 16, Nat.mod_lt _ (by decide)⟩
    have hd : (r : ℕ) / 16 < 16 := by omega
    have key : ∀ c' : Fin 16, S ⟨16 * c' + r % 16, by omega⟩ ≤ c := by
      intro c'
      fin_cases c'
      all_goals first | exact hr.2 | exact hr.1.2 | exact hr.1.1.2 | exact hr.1.1.1.2 | exact hr.1.1.1.1.2 | exact hr.1.1.1.1.1.2 | exact hr.1.1.1.1.1.1.2 | exact hr.1.1.1.1.1.1.1.2 | exact hr.1.1.1.1.1.1.1.1.2 | exact hr.1.1.1.1.1.1.1.1.1.2 | exact hr.1.1.1.1.1.1.1.1.1.1.2 | exact hr.1.1.1.1.1.1.1.1.1.1.1.2 | exact hr.1.1.1.1.1.1.1.1.1.1.1.1.2 | exact hr.1.1.1.1.1.1.1.1.1.1.1.1.1.2 | exact hr.1.1.1.1.1.1.1.1.1.1.1.1.1.1.2 | exact hr.1.1.1.1.1.1.1.1.1.1.1.1.1.1.1
    have e := key ⟨r / 16, hd⟩
    have he : (⟨16 * (r / 16) + r % 16, by omega⟩ : Fin 256) = r := Fin.ext (Nat.div_add_mod _ _)
    simpa only [he] using e
  · intro h a
    simp only [h, and_self]

theorem weights_at (m : FVec Ideal S1x256 .f32) (x : FVec Ideal S1x16x256 .f32) (a : Fin 16) (j : Fin 256) :
    weights m x (ix2 a j) = Ideal.exp2 (x (ix3 0 a j) - m (ix2 0 j)) := by
  pointwise [weights, chunk]
  rfl

theorem probs_at (m : FVec Ideal S1x256 .f32) (x : Fin 16 → FVec Ideal S1x16x256 .f32) (S : Fin 256 → EReal) (r j : Fin 256)
    (hx : ∀ c a : Fin 16, x c (ix3 0 a j) = S ⟨16 * c + a, by omega⟩) :
    probs m x (ix2 r j) = Ideal.exp2 (S r - m (ix2 0 j)) := by
  have hd : (r : ℕ) / 16 < 16 := by omega
  have e := concatenate_ofFn_apply (t := S256x256) (s₁ := S16x256) 0 (N := 16) (fun c => weights m (x c))
    concatenates_S16x256_S16x256_S16x256_S16x256_S16x256_S16x256_S16x256_S16x256_S16x256_S16x256_S16x256_S16x256_S16x256_S16x256_S16x256_S16x256_S256x256_d0
    rfl 16 rfl (ix2 r j) ⟨r / 16, hd⟩ rfl (ix2 ⟨r % 16, Nat.mod_lt _ (by decide)⟩ j) rfl
    (fun b hb => by
      fin_cases b
      · exact absurd rfl hb
      · rfl)
  refine (show probs m x (ix2 r j) = _ from e).trans ?_
  have he : (⟨16 * (r / 16) + r % 16, by omega⟩ : Fin 256) = r := Fin.ext (Nat.div_add_mod _ _)
  rw [weights_at, hx]
  simp only [he]

theorem newAcc_at (m : FVec Ideal S1x256 .f32) (x : Fin 16 → FVec Ideal S1x16x256 .f32) (v : FVec Ideal S1x1x64x256 .bf16)
    (a : FVec Ideal S1x80x256 .f32) (S : Fin 256 → EReal) (e : Fin 80) (j : Fin 256)
    (hx : ∀ c a : Fin 16, x c (ix3 0 a j) = S ⟨16 * c + a, by omega⟩) :
    newAcc m x v a (ix3 0 e j) = Ideal.exp2 (m (ix2 0 j) - newMax m x (ix2 0 j)) * a (ix3 0 e j)
      + ∑ r : Fin 256, (if h : (e : ℕ) < 64 then v (ix4 0 0 ⟨e, h⟩ r) else 1)
        * Ideal.exp2 (S r - newMax m x (ix2 0 j)) := by
  pointwise [newAcc, k0_pay684]
  simp only [probs_at _ x S _ _ hx]
  rfl

end Cert.KernelIdeal.Head

end
-- ==== Proof.FoxTrip.lean ====
/-
  One trip of the attention loop, head by head: what it carries on and what it stores.
-/
module

public import proofs.«01_k».proof.Proof.FoxHead
public import proofs.«01_k».proof.Proof.FoxIdealLoops
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal.Head

abbrev Carried (F : FTy → Type) [FloatOps F] : Type := FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- The carried row of head `h`. -/
def row (a : Carried F) : Fin 16 → FVec F S1x256 .f32 :=
  ![a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2]

theorem inb8 : ∀ h c : Fin 16, ∀ a, (![(h : ℕ), 16 * (c : ℕ), 0] : Fin 3 → ℕ) a + S1x16x256.size a ≤ S16x256x256.size a := by
  decide +kernel

theorem inb8w : ∀ h : Fin 16, ∀ a, (![(h : ℕ), 0, 0] : Fin 3 → ℕ) a + S1x256x256.size a ≤ S16x256x256.size a := by
  decide +kernel

theorem inb9 : ∀ h : Fin 16, ∀ a, (![(h : ℕ), 0, 0] : Fin 3 → ℕ) a + S1x80x256.size a ≤ S16x80x256.size a := by
  decide +kernel

/-- The score chunks of head `h`, as loaded. -/
def ld8 (arg8 : Memref sig .tc .vmem S16x256x256 .f32) (f : BufTy.Contents (Elt F) arg8.view.ty) (h c : Fin 16) :
    FVec F S1x16x256 .f32 :=
  View.readAt (Elt F) arg8.view (Rect.unit (s := S16x256x256) ![(h : ℕ), 16 * (c : ℕ), 0] S1x16x256.size (inb8 h c)).toLoadRect f

/-- The accumulator of head `h`, as loaded. -/
def ld9 (arg9 : Memref sig .tc .vmem S16x80x256 .f32) (f : BufTy.Contents (Elt F) arg9.view.ty) (h : Fin 16) :
    FVec F S1x80x256 .f32 :=
  View.readAt (Elt F) arg9.view (Rect.unit (s := S16x80x256) ![(h : ℕ), 0, 0] S1x80x256.size (inb9 h)).toLoadRect f

theorem trip_carried (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (k : Fin (k0_t1_loop i).trips) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (f_arg8 : BufTy.Contents (Elt F) arg8.view.ty) (f_arg9 : BufTy.Contents (Elt F) arg9.view.ty) (h : Fin 16) :
    row ((trip_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).1 acc f_arg8 f_arg9) h = newMax (row acc h) (ld8 arg8 f_arg8 h) := by
  unfold trip_k0_t1
  fin_cases h <;> rfl

theorem trip_scores (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (k : Fin (k0_t1_loop i).trips) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (f_arg8 : BufTy.Contents (Elt F) arg8.view.ty) (f_arg9 : BufTy.Contents (Elt F) arg9.view.ty) :
    (trip_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).2.1 acc f_arg8 f_arg9 = [
      ⟨Rect.unit (s := S16x256x256) ![15, 0, 0] S1x256x256.size (inb8w 15), scores (View.readAt (Elt F) arg4.view (Rect.unit (s := S1x4096x2048) (k0_off49 i k) S1x256x128.size (k0_off49_inb i k)).toLoadRect X_arg4) v51⟩,
      ⟨Rect.unit (s := S16x256x256) ![14, 0, 0] S1x256x256.size (inb8w 14), scores (View.readAt (Elt F) arg4.view (Rect.unit (s := S1x4096x2048) (k0_off47 i k) S1x256x128.size (k0_off47_inb i k)).toLoadRect X_arg4) v50⟩,
      ⟨Rect.unit (s := S16x256x256) ![13, 0, 0] S1x256x256.size (inb8w 13), scores (View.readAt (Elt F) arg4.view (Rect.unit (s := S1x4096x2048) (k0_off45 i k) S1x256x128.size (k0_off45_inb i k)).toLoadRect X_arg4) v49⟩,
      ⟨Rect.unit (s := S16x256x256) ![12, 0, 0] S1x256x256.size (inb8w 12), scores (View.readAt (Elt F) arg4.view (Rect.unit (s := S1x4096x2048) (k0_off43 i k) S1x256x128.size (k0_off43_inb i k)).toLoadRect X_arg4) v48⟩,
      ⟨Rect.unit (s := S16x256x256) ![11, 0, 0] S1x256x256.size (inb8w 11), scores (View.readAt (Elt F) arg4.view (Rect.unit (s := S1x4096x2048) (k0_off41 i k) S1x256x128.size (k0_off41_inb i k)).toLoadRect X_arg4) v47⟩,
      ⟨Rect.unit (s := S16x256x256) ![10, 0, 0] S1x256x256.size (inb8w 10), scores (View.readAt (Elt F) arg4.view (Rect.unit (s := S1x4096x2048) (k0_off39 i k) S1x256x128.size (k0_off39_inb i k)).toLoadRect X_arg4) v46⟩,
      ⟨Rect.unit (s := S16x256x256) ![9, 0, 0] S1x256x256.size (inb8w 9), scores (View.readAt (Elt F) arg4.view (Rect.unit (s := S1x4096x2048) (k0_off37 i k) S1x256x128.size (k0_off37_inb i k)).toLoadRect X_arg4) v45⟩,
      ⟨Rect.unit (s := S16x256x256) ![8, 0, 0] S1x256x256.size (inb8w 8), scores (View.readAt (Elt F) arg4.view (Rect.unit (s := S1x4096x2048) (k0_off35 i k) S1x256x128.size (k0_off35_inb i k)).toLoadRect X_arg4) v44⟩,
      ⟨Rect.unit (s := S16x256x256) ![7, 0, 0] S1x256x256.size (inb8w 7), scores (View.readAt (Elt F) arg4.view (Rect.unit (s := S1x4096x2048) (k0_off33 i k) S1x256x128.size (k0_off33_inb i k)).toLoadRect X_arg4) v43⟩,
      ⟨Rect.unit (s := S16x256x256) ![6, 0, 0] S1x256x256.size (inb8w 6), scores (View.readAt (Elt F) arg4.view (Rect.unit (s := S1x4096x2048) (k0_off31 i k) S1x256x128.size (k0_off31_inb i k)).toLoadRect X_arg4) v42⟩,
      ⟨Rect.unit (s := S16x256x256) ![5, 0, 0] S1x256x256.size (inb8w 5), scores (View.readAt (Elt F) arg4.view (Rect.unit (s := S1x4096x2048) (k0_off29 i k) S1x256x128.size (k0_off29_inb i k)).toLoadRect X_arg4) v41⟩,
      ⟨Rect.unit (s := S16x256x256) ![4, 0, 0] S1x256x256.size (inb8w 4), scores (View.readAt (Elt F) arg4.view (Rect.unit (s := S1x4096x2048) (k0_off27 i k) S1x256x128.size (k0_off27_inb i k)).toLoadRect X_arg4) v40⟩,
      ⟨Rect.unit (s := S16x256x256) ![3, 0, 0] S1x256x256.size (inb8w 3), scores (View.readAt (Elt F) arg4.view (Rect.unit (s := S1x4096x2048) (k0_off25 i k) S1x256x128.size (k0_off25_inb i k)).toLoadRect X_arg4) v39⟩,
      ⟨Rect.unit (s := S16x256x256) ![2, 0, 0] S1x256x256.size (inb8w 2), scores (View.readAt (Elt F) arg4.view (Rect.unit (s := S1x4096x2048) (k0_off23 i k) S1x256x128.size (k0_off23_inb i k)).toLoadRect X_arg4) v38⟩,
      ⟨Rect.unit (s := S16x256x256) ![1, 0, 0] S1x256x256.size (inb8w 1), scores (View.readAt (Elt F) arg4.view (Rect.unit (s := S1x4096x2048) (k0_off21 i k) S1x256x128.size (k0_off21_inb i k)).toLoadRect X_arg4) v37⟩,
      ⟨Rect.unit (s := S16x256x256) ![0, 0, 0] S1x256x256.size (inb8w 0), scores (View.readAt (Elt F) arg4.view (Rect.unit (s := S1x4096x2048) (k0_off19 i k) S1x256x128.size (k0_off19_inb i k)).toLoadRect X_arg4) v36⟩] := by
  unfold trip_k0_t1
  rfl

theorem trip_accs (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec F S128x256 .bf16) (v37 : FVec F S128x256 .bf16) (v38 : FVec F S128x256 .bf16) (v39 : FVec F S128x256 .bf16) (v40 : FVec F S128x256 .bf16) (v41 : FVec F S128x256 .bf16) (v42 : FVec F S128x256 .bf16) (v43 : FVec F S128x256 .bf16) (v44 : FVec F S128x256 .bf16) (v45 : FVec F S128x256 .bf16) (v46 : FVec F S128x256 .bf16) (v47 : FVec F S128x256 .bf16) (v48 : FVec F S128x256 .bf16) (v49 : FVec F S128x256 .bf16) (v50 : FVec F S128x256 .bf16) (v51 : FVec F S128x256 .bf16) (v65 : BitVec 32) (c1_i32_118 : BitVec 32) (v246 : BitVec 32) (X_arg4 : BufTy.Contents (Elt F) arg4.view.ty) (X_arg5 : BufTy.Contents (Elt F) arg5.view.ty) (k : Fin (k0_t1_loop i).trips) (acc : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (f_arg8 : BufTy.Contents (Elt F) arg8.view.ty) (f_arg9 : BufTy.Contents (Elt F) arg9.view.ty) :
    (trip_k0_t1 (F := F) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).2.2.1 acc f_arg8 f_arg9 = [
      ⟨Rect.unit (s := S16x80x256) ![15, 0, 0] S1x80x256.size (inb9 15), newAcc (row acc 15) (ld8 arg8 f_arg8 15) (View.readAt (Elt F) arg5.view (Rect.unit (s := S1x16x1024x256) (k0_off48 i k) S1x1x64x256.size (k0_off48_inb i k)).toLoadRect X_arg5) (ld9 arg9 f_arg9 15)⟩,
      ⟨Rect.unit (s := S16x80x256) ![14, 0, 0] S1x80x256.size (inb9 14), newAcc (row acc 14) (ld8 arg8 f_arg8 14) (View.readAt (Elt F) arg5.view (Rect.unit (s := S1x16x1024x256) (k0_off46 i k) S1x1x64x256.size (k0_off46_inb i k)).toLoadRect X_arg5) (ld9 arg9 f_arg9 14)⟩,
      ⟨Rect.unit (s := S16x80x256) ![13, 0, 0] S1x80x256.size (inb9 13), newAcc (row acc 13) (ld8 arg8 f_arg8 13) (View.readAt (Elt F) arg5.view (Rect.unit (s := S1x16x1024x256) (k0_off44 i k) S1x1x64x256.size (k0_off44_inb i k)).toLoadRect X_arg5) (ld9 arg9 f_arg9 13)⟩,
      ⟨Rect.unit (s := S16x80x256) ![12, 0, 0] S1x80x256.size (inb9 12), newAcc (row acc 12) (ld8 arg8 f_arg8 12) (View.readAt (Elt F) arg5.view (Rect.unit (s := S1x16x1024x256) (k0_off42 i k) S1x1x64x256.size (k0_off42_inb i k)).toLoadRect X_arg5) (ld9 arg9 f_arg9 12)⟩,
      ⟨Rect.unit (s := S16x80x256) ![11, 0, 0] S1x80x256.size (inb9 11), newAcc (row acc 11) (ld8 arg8 f_arg8 11) (View.readAt (Elt F) arg5.view (Rect.unit (s := S1x16x1024x256) (k0_off40 i k) S1x1x64x256.size (k0_off40_inb i k)).toLoadRect X_arg5) (ld9 arg9 f_arg9 11)⟩,
      ⟨Rect.unit (s := S16x80x256) ![10, 0, 0] S1x80x256.size (inb9 10), newAcc (row acc 10) (ld8 arg8 f_arg8 10) (View.readAt (Elt F) arg5.view (Rect.unit (s := S1x16x1024x256) (k0_off38 i k) S1x1x64x256.size (k0_off38_inb i k)).toLoadRect X_arg5) (ld9 arg9 f_arg9 10)⟩,
      ⟨Rect.unit (s := S16x80x256) ![9, 0, 0] S1x80x256.size (inb9 9), newAcc (row acc 9) (ld8 arg8 f_arg8 9) (View.readAt (Elt F) arg5.view (Rect.unit (s := S1x16x1024x256) (k0_off36 i k) S1x1x64x256.size (k0_off36_inb i k)).toLoadRect X_arg5) (ld9 arg9 f_arg9 9)⟩,
      ⟨Rect.unit (s := S16x80x256) ![8, 0, 0] S1x80x256.size (inb9 8), newAcc (row acc 8) (ld8 arg8 f_arg8 8) (View.readAt (Elt F) arg5.view (Rect.unit (s := S1x16x1024x256) (k0_off34 i k) S1x1x64x256.size (k0_off34_inb i k)).toLoadRect X_arg5) (ld9 arg9 f_arg9 8)⟩,
      ⟨Rect.unit (s := S16x80x256) ![7, 0, 0] S1x80x256.size (inb9 7), newAcc (row acc 7) (ld8 arg8 f_arg8 7) (View.readAt (Elt F) arg5.view (Rect.unit (s := S1x16x1024x256) (k0_off32 i k) S1x1x64x256.size (k0_off32_inb i k)).toLoadRect X_arg5) (ld9 arg9 f_arg9 7)⟩,
      ⟨Rect.unit (s := S16x80x256) ![6, 0, 0] S1x80x256.size (inb9 6), newAcc (row acc 6) (ld8 arg8 f_arg8 6) (View.readAt (Elt F) arg5.view (Rect.unit (s := S1x16x1024x256) (k0_off30 i k) S1x1x64x256.size (k0_off30_inb i k)).toLoadRect X_arg5) (ld9 arg9 f_arg9 6)⟩,
      ⟨Rect.unit (s := S16x80x256) ![5, 0, 0] S1x80x256.size (inb9 5), newAcc (row acc 5) (ld8 arg8 f_arg8 5) (View.readAt (Elt F) arg5.view (Rect.unit (s := S1x16x1024x256) (k0_off28 i k) S1x1x64x256.size (k0_off28_inb i k)).toLoadRect X_arg5) (ld9 arg9 f_arg9 5)⟩,
      ⟨Rect.unit (s := S16x80x256) ![4, 0, 0] S1x80x256.size (inb9 4), newAcc (row acc 4) (ld8 arg8 f_arg8 4) (View.readAt (Elt F) arg5.view (Rect.unit (s := S1x16x1024x256) (k0_off26 i k) S1x1x64x256.size (k0_off26_inb i k)).toLoadRect X_arg5) (ld9 arg9 f_arg9 4)⟩,
      ⟨Rect.unit (s := S16x80x256) ![3, 0, 0] S1x80x256.size (inb9 3), newAcc (row acc 3) (ld8 arg8 f_arg8 3) (View.readAt (Elt F) arg5.view (Rect.unit (s := S1x16x1024x256) (k0_off24 i k) S1x1x64x256.size (k0_off24_inb i k)).toLoadRect X_arg5) (ld9 arg9 f_arg9 3)⟩,
      ⟨Rect.unit (s := S16x80x256) ![2, 0, 0] S1x80x256.size (inb9 2), newAcc (row acc 2) (ld8 arg8 f_arg8 2) (View.readAt (Elt F) arg5.view (Rect.unit (s := S1x16x1024x256) (k0_off22 i k) S1x1x64x256.size (k0_off22_inb i k)).toLoadRect X_arg5) (ld9 arg9 f_arg9 2)⟩,
      ⟨Rect.unit (s := S16x80x256) ![1, 0, 0] S1x80x256.size (inb9 1), newAcc (row acc 1) (ld8 arg8 f_arg8 1) (View.readAt (Elt F) arg5.view (Rect.unit (s := S1x16x1024x256) (k0_off20 i k) S1x1x64x256.size (k0_off20_inb i k)).toLoadRect X_arg5) (ld9 arg9 f_arg9 1)⟩,
      ⟨Rect.unit (s := S16x80x256) ![0, 0, 0] S1x80x256.size (inb9 0), newAcc (row acc 0) (ld8 arg8 f_arg8 0) (View.readAt (Elt F) arg5.view (Rect.unit (s := S1x16x1024x256) (k0_off18 i k) S1x1x64x256.size (k0_off18_inb i k)).toLoadRect X_arg5) (ld9 arg9 f_arg9 0)⟩] := by
  unfold trip_k0_t1
  rfl

end Cert.KernelIdeal.Fox

end
-- ==== Proof.FoxOff.lean ====
/-
  Where the trips of the attention loop load: their offsets, and how many trips there are.
-/
module

public import proofs.«01_k».proof.Proof.Gen.KernelIdeal.Skeleton

@[expose] public section

set_option maxRecDepth 16384
set_option maxHeartbeats 4000000

namespace Cert.KernelIdeal.Fox

open Cert.KernelIdeal Cert.KernelIdeal.Gen
open Idealize.ShloMosaic Idealize.ShloMosaic.TcCoe

theorem trips_eq : ∀ i : grid0.Coords, (k0_t1_loop i).trips = (i 2 : ℕ) + 1 := by decide +kernel

theorem trips2_eq : ∀ i : grid0.Coords, (k0_t2_loop i).trips = 0 := by decide +kernel

theorem off_first : ∀ i : grid0.Coords, k0_off1 i = ![0, 0, 0] := by decide +kernel

theorem offI_0 : ∀ i : grid0.Coords, k0_off2 i = ![0, 256 * (i 2 : ℕ), 0] := by decide +kernel
theorem offI_1 : ∀ i : grid0.Coords, k0_off3 i = ![0, 256 * (i 2 : ℕ), 128] := by decide +kernel
theorem offI_2 : ∀ i : grid0.Coords, k0_off4 i = ![0, 256 * (i 2 : ℕ), 256] := by decide +kernel
theorem offI_3 : ∀ i : grid0.Coords, k0_off5 i = ![0, 256 * (i 2 : ℕ), 384] := by decide +kernel
theorem offI_4 : ∀ i : grid0.Coords, k0_off6 i = ![0, 256 * (i 2 : ℕ), 512] := by decide +kernel
theorem offI_5 : ∀ i : grid0.Coords, k0_off7 i = ![0, 256 * (i 2 : ℕ), 640] := by decide +kernel
theorem offI_6 : ∀ i : grid0.Coords, k0_off8 i = ![0, 256 * (i 2 : ℕ), 768] := by decide +kernel
theorem offI_7 : ∀ i : grid0.Coords, k0_off9 i = ![0, 256 * (i 2 : ℕ), 896] := by decide +kernel
theorem offI_8 : ∀ i : grid0.Coords, k0_off10 i = ![0, 256 * (i 2 : ℕ), 1024] := by decide +kernel
theorem offI_9 : ∀ i : grid0.Coords, k0_off11 i = ![0, 256 * (i 2 : ℕ), 1152] := by decide +kernel
theorem offI_10 : ∀ i : grid0.Coords, k0_off12 i = ![0, 256 * (i 2 : ℕ), 1280] := by decide +kernel
theorem offI_11 : ∀ i : grid0.Coords, k0_off13 i = ![0, 256 * (i 2 : ℕ), 1408] := by decide +kernel
theorem offI_12 : ∀ i : grid0.Coords, k0_off14 i = ![0, 256 * (i 2 : ℕ), 1536] := by decide +kernel
theorem offI_13 : ∀ i : grid0.Coords, k0_off15 i = ![0, 256 * (i 2 : ℕ), 1664] := by decide +kernel
theorem offI_14 : ∀ i : grid0.Coords, k0_off16 i = ![0, 256 * (i 2 : ℕ), 1792] := by decide +kernel
theorem offI_15 : ∀ i : grid0.Coords, k0_off17 i = ![0, 256 * (i 2 : ℕ), 1920] := by decide +kernel
theorem offV_0 : ∀ (i : grid0.Coords) (k : Fin (k0_t1_loop i).trips), k0_off18 i k = ![0, (i 2 : ℕ) - k, 0, 0] := by
  decide +kernel
theorem offK_0 : ∀ (i : grid0.Coords) (k : Fin (k0_t1_loop i).trips),
    k0_off19 i k = ![0, 256 * ((i 2 : ℕ) - min ((k : ℕ) + 1) (i 2 : ℕ)), 0] := by decide +kernel
theorem offV_1 : ∀ (i : grid0.Coords) (k : Fin (k0_t1_loop i).trips), k0_off20 i k = ![0, (i 2 : ℕ) - k, 64, 0] := by
  decide +kernel
theorem offK_1 : ∀ (i : grid0.Coords) (k : Fin (k0_t1_loop i).trips),
    k0_off21 i k = ![0, 256 * ((i 2 : ℕ) - min ((k : ℕ) + 1) (i 2 : ℕ)), 128] := by decide +kernel
theorem offV_2 : ∀ (i : grid0.Coords) (k : Fin (k0_t1_loop i).trips), k0_off22 i k = ![0, (i 2 : ℕ) - k, 128, 0] := by
  decide +kernel
theorem offK_2 : ∀ (i : grid0.Coords) (k : Fin (k0_t1_loop i).trips),
    k0_off23 i k = ![0, 256 * ((i 2 : ℕ) - min ((k : ℕ) + 1) (i 2 : ℕ)), 256] := by decide +kernel
theorem offV_3 : ∀ (i : grid0.Coords) (k : Fin (k0_t1_loop i).trips), k0_off24 i k = ![0, (i 2 : ℕ) - k, 192, 0] := by
  decide +kernel
theorem offK_3 : ∀ (i : grid0.Coords) (k : Fin (k0_t1_loop i).trips),
    k0_off25 i k = ![0, 256 * ((i 2 : ℕ) - min ((k : ℕ) + 1) (i 2 : ℕ)), 384] := by decide +kernel
theorem offV_4 : ∀ (i : grid0.Coords) (k : Fin (k0_t1_loop i).trips), k0_off26 i k = ![0, (i 2 : ℕ) - k, 256, 0] := by
  decide +kernel
theorem offK_4 : ∀ (i : grid0.Coords) (k : Fin (k0_t1_loop i).trips),
    k0_off27 i k = ![0, 256 * ((i 2 : ℕ) - min ((k : ℕ) + 1) (i 2 : ℕ)), 512] := by decide +kernel
theorem offV_5 : ∀ (i : grid0.Coords) (k : Fin (k0_t1_loop i).trips), k0_off28 i k = ![0, (i 2 : ℕ) - k, 320, 0] := by
  decide +kernel
theorem offK_5 : ∀ (i : grid0.Coords) (k : Fin (k0_t1_loop i).trips),
    k0_off29 i k = ![0, 256 * ((i 2 : ℕ) - min ((k : ℕ) + 1) (i 2 : ℕ)), 640] := by decide +kernel
theorem offV_6 : ∀ (i : grid0.Coords) (k : Fin (k0_t1_loop i).trips), k0_off30 i k = ![0, (i 2 : ℕ) - k, 384, 0] := by
  decide +kernel
theorem offK_6 : ∀ (i : grid0.Coords) (k : Fin (k0_t1_loop i).trips),
    k0_off31 i k = ![0, 256 * ((i 2 : ℕ) - min ((k : ℕ) + 1) (i 2 : ℕ)), 768] := by decide +kernel
theorem offV_7 : ∀ (i : grid0.Coords) (k : Fin (k0_t1_loop i).trips), k0_off32 i k = ![0, (i 2 : ℕ) - k, 448, 0] := by
  decide +kernel
theorem offK_7 : ∀ (i : grid0.Coords) (k : Fin (k0_t1_loop i).trips),
    k0_off33 i k = ![0, 256 * ((i 2 : ℕ) - min ((k : ℕ) + 1) (i 2 : ℕ)), 896] := by decide +kernel
theorem offV_8 : ∀ (i : grid0.Coords) (k : Fin (k0_t1_loop i).trips), k0_off34 i k = ![0, (i 2 : ℕ) - k, 512, 0] := by
  decide +kernel
theorem offK_8 : ∀ (i : grid0.Coords) (k : Fin (k0_t1_loop i).trips),
    k0_off35 i k = ![0, 256 * ((i 2 : ℕ) - min ((k : ℕ) + 1) (i 2 : ℕ)), 1024] := by decide +kernel
theorem offV_9 : ∀ (i : grid0.Coords) (k : Fin (k0_t1_loop i).trips), k0_off36 i k = ![0, (i 2 : ℕ) - k, 576, 0] := by
  decide +kernel
theorem offK_9 : ∀ (i : grid0.Coords) (k : Fin (k0_t1_loop i).trips),
    k0_off37 i k = ![0, 256 * ((i 2 : ℕ) - min ((k : ℕ) + 1) (i 2 : ℕ)), 1152] := by decide +kernel
theorem offV_10 : ∀ (i : grid0.Coords) (k : Fin (k0_t1_loop i).trips), k0_off38 i k = ![0, (i 2 : ℕ) - k, 640, 0] := by
  decide +kernel
theorem offK_10 : ∀ (i : grid0.Coords) (k : Fin (k0_t1_loop i).trips),
    k0_off39 i k = ![0, 256 * ((i 2 : ℕ) - min ((k : ℕ) + 1) (i 2 : ℕ)), 1280] := by decide +kernel
theorem offV_11 : ∀ (i : grid0.Coords) (k : Fin (k0_t1_loop i).trips), k0_off40 i k = ![0, (i 2 : ℕ) - k, 704, 0] := by
  decide +kernel
theorem offK_11 : ∀ (i : grid0.Coords) (k : Fin (k0_t1_loop i).trips),
    k0_off41 i k = ![0, 256 * ((i 2 : ℕ) - min ((k : ℕ) + 1) (i 2 : ℕ)), 1408] := by decide +kernel
theorem offV_12 : ∀ (i : grid0.Coords) (k : Fin (k0_t1_loop i).trips), k0_off42 i k = ![0, (i 2 : ℕ) - k, 768, 0] := by
  decide +kernel
theorem offK_12 : ∀ (i : grid0.Coords) (k : Fin (k0_t1_loop i).trips),
    k0_off43 i k = ![0, 256 * ((i 2 : ℕ) - min ((k : ℕ) + 1) (i 2 : ℕ)), 1536] := by decide +kernel
theorem offV_13 : ∀ (i : grid0.Coords) (k : Fin (k0_t1_loop i).trips), k0_off44 i k = ![0, (i 2 : ℕ) - k, 832, 0] := by
  decide +kernel
theorem offK_13 : ∀ (i : grid0.Coords) (k : Fin (k0_t1_loop i).trips),
    k0_off45 i k = ![0, 256 * ((i 2 : ℕ) - min ((k : ℕ) + 1) (i 2 : ℕ)), 1664] := by decide +kernel
theorem offV_14 : ∀ (i : grid0.Coords) (k : Fin (k0_t1_loop i).trips), k0_off46 i k = ![0, (i 2 : ℕ) - k, 896, 0] := by
  decide +kernel
theorem offK_14 : ∀ (i : grid0.Coords) (k : Fin (k0_t1_loop i).trips),
    k0_off47 i k = ![0, 256 * ((i 2 : ℕ) - min ((k : ℕ) + 1) (i 2 : ℕ)), 1792] := by decide +kernel
theorem offV_15 : ∀ (i : grid0.Coords) (k : Fin (k0_t1_loop i).trips), k0_off48 i k = ![0, (i 2 : ℕ) - k, 960, 0] := by
  decide +kernel
theorem offK_15 : ∀ (i : grid0.Coords) (k : Fin (k0_t1_loop i).trips),
    k0_off49 i k = ![0, 256 * ((i 2 : ℕ) - min ((k : ℕ) + 1) (i 2 : ℕ)), 1920] := by decide +kernel

end Cert.KernelIdeal.Fox
-- ==== Proof.FoxBody.lean ====
/-
  What the attention kernel stores in its window: the accumulated values over the accumulated weights, head by head.
-/
module

public import proofs.«01_k».proof.Proof.FoxTrip
public import proofs.«01_k».proof.Proof.FoxOff
public import proofs.«01_k».proof.Proof.FoxIdealRunA
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal.Head

theorem slicesQ : ∀ h : Fin 16, S1024x256.Slices ![64 * (h : ℕ), 0] S64x256 := by decide +kernel

/-- The query of head `h` over a block of ones. -/
def qEven (x : FVec F S1x1x1024x256 .bf16) (h : Fin 16) : FVec F S128x256 .bf16 :=
  concatenate S128x256 0 [⟨S64x256, extractStridedSlice S64x256 ![64 * (h : ℕ), 0] (k0_pay636 x) (slicesQ h)⟩,
    ⟨S64x256, k0_pay637 (F := F)⟩] concatenates_S64x256_S64x256_S128x256_d0

/-- The query of head `h` under a block of ones. -/
def qOdd (x : FVec F S1x1x1024x256 .bf16) (h : Fin 16) : FVec F S128x256 .bf16 :=
  concatenate S128x256 0 [⟨S64x256, k0_pay637 (F := F)⟩,
    ⟨S64x256, extractStridedSlice S64x256 ![64 * (h : ℕ), 0] (k0_pay636 x) (slicesQ h)⟩] concatenates_S64x256_S64x256_S128x256_d0

/-- The queries with their ones. -/
def qs (x : FVec F S1x1x1024x256 .bf16) : Fin 16 → FVec F S128x256 .bf16 :=
  ![qEven x 0, qOdd x 1, qEven x 2, qOdd x 3, qEven x 4, qOdd x 5, qEven x 6, qOdd x 7, qEven x 8, qOdd x 9, qEven x 10, qOdd x 11, qEven x 12, qOdd x 13, qEven x 14, qOdd x 15]

/-- The scores of the diagonal tile, with the causal mask. -/
def diag (k : FVec F S1x256x128 .bf16) (q : FVec F S128x256 .bf16) (cm : FVec F S1x256x256 .f32) : FVec F S1x256x256 .f32 :=
  shapeCast S1x256x256 (addf (matmul dot_S256x128_S128x256_S256x256_1_0_0_1_n_n none
    (shapeCast S256x128 k shapeCasts_S1x256x128_S256x128) q (constant S256x256 .f32 0x00000000#32))
    (shapeCast S256x256 cm shapeCasts_S1x256x256_S256x256)) shapeCasts_S256x256_S1x256x256

/-- One head's accumulated values over its accumulated weights. -/
def ratio (a : FVec F S1x64x256 .f32) (l : FVec F S1x1x256 .f32) : FVec F S64x256 .f32 :=
  divf (shapeCast S64x256 a shapeCasts_S1x64x256_S64x256)
    (broadcastTo S64x256 (shapeCast S1x256 l shapeCasts_S1x1x256_S1x256) broadcasts_S1x256_S64x256)

/-- The heads, one above another. -/
def block (f : Fin 16 → FVec F S64x256 .f32) : FVec F S1x1024x256 .bf16 :=
  shapeCast S1x1024x256 (truncf .bf16 (concatenate S1024x256 0 [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩, ⟨S64x256, f 8⟩, ⟨S64x256, f 9⟩, ⟨S64x256, f 10⟩, ⟨S64x256, f 11⟩, ⟨S64x256, f 12⟩, ⟨S64x256, f 13⟩, ⟨S64x256, f 14⟩, ⟨S64x256, f 15⟩] concatenates_S64x256_S64x256_S64x256_S64x256_S64x256_S64x256_S64x256_S64x256_S64x256_S64x256_S64x256_S64x256_S64x256_S64x256_S64x256_S64x256_S1024x256_d0) bitsLt_bf16_f32) shapeCasts_S1024x256_S1x1024x256

/-- The queries, as loaded. -/
def ldQ (arg3 : Memref sig .tc .vmem S1x1x1024x256 .bf16) (harg3 : arg3.IsWhole) (x0 : Vec F S1x1x1024x256 .bf16) :
    FVec F S1x1x1024x256 .bf16 :=
  View.readAt (Elt F) arg3.view (Rect.unit (s := S1x1x1024x256) ![0, 0, 0, 0] S1x1x1024x256.size inb_S1x1x1024x256_S1x1x1024x256_0_0_0_0).toLoadRect (harg3.unread x0)

theorem inbA : ∀ h : Fin 16, ∀ a, (![(h : ℕ), 0, 0] : Fin 3 → ℕ) a + S1x64x256.size a ≤ S16x80x256.size a := by
  decide +kernel

theorem inbL : ∀ h : Fin 16, ∀ a, (![(h : ℕ), 64, 0] : Fin 3 → ℕ) a + S1x1x256.size a ≤ S16x80x256.size a := by
  decide +kernel

theorem first_eq (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.HS0_16 c i arg3 harg3 arg4 harg4 arg6 harg6 x0 x1 x3 = [
      ⟨Rect.unit (s := S16x256x256) ![15, 0, 0] S1x256x256.size (inb8w 15), diag (View.readAt (Elt F) arg4.view (Rect.unit (s := S1x4096x2048) (k0_off17 i) S1x256x128.size (k0_off17_inb i)).toLoadRect (harg4.unread x1)) (qs (ldQ arg3 harg3 x0) 15) (View.readAt (Elt F) arg6.view (Rect.unit (s := S1x256x256) (k0_off1 i) S1x256x256.size (k0_off1_inb i)).toLoadRect (harg6.unread x3))⟩,
      ⟨Rect.unit (s := S16x256x256) ![14, 0, 0] S1x256x256.size (inb8w 14), diag (View.readAt (Elt F) arg4.view (Rect.unit (s := S1x4096x2048) (k0_off16 i) S1x256x128.size (k0_off16_inb i)).toLoadRect (harg4.unread x1)) (qs (ldQ arg3 harg3 x0) 14) (View.readAt (Elt F) arg6.view (Rect.unit (s := S1x256x256) (k0_off1 i) S1x256x256.size (k0_off1_inb i)).toLoadRect (harg6.unread x3))⟩,
      ⟨Rect.unit (s := S16x256x256) ![13, 0, 0] S1x256x256.size (inb8w 13), diag (View.readAt (Elt F) arg4.view (Rect.unit (s := S1x4096x2048) (k0_off15 i) S1x256x128.size (k0_off15_inb i)).toLoadRect (harg4.unread x1)) (qs (ldQ arg3 harg3 x0) 13) (View.readAt (Elt F) arg6.view (Rect.unit (s := S1x256x256) (k0_off1 i) S1x256x256.size (k0_off1_inb i)).toLoadRect (harg6.unread x3))⟩,
      ⟨Rect.unit (s := S16x256x256) ![12, 0, 0] S1x256x256.size (inb8w 12), diag (View.readAt (Elt F) arg4.view (Rect.unit (s := S1x4096x2048) (k0_off14 i) S1x256x128.size (k0_off14_inb i)).toLoadRect (harg4.unread x1)) (qs (ldQ arg3 harg3 x0) 12) (View.readAt (Elt F) arg6.view (Rect.unit (s := S1x256x256) (k0_off1 i) S1x256x256.size (k0_off1_inb i)).toLoadRect (harg6.unread x3))⟩,
      ⟨Rect.unit (s := S16x256x256) ![11, 0, 0] S1x256x256.size (inb8w 11), diag (View.readAt (Elt F) arg4.view (Rect.unit (s := S1x4096x2048) (k0_off13 i) S1x256x128.size (k0_off13_inb i)).toLoadRect (harg4.unread x1)) (qs (ldQ arg3 harg3 x0) 11) (View.readAt (Elt F) arg6.view (Rect.unit (s := S1x256x256) (k0_off1 i) S1x256x256.size (k0_off1_inb i)).toLoadRect (harg6.unread x3))⟩,
      ⟨Rect.unit (s := S16x256x256) ![10, 0, 0] S1x256x256.size (inb8w 10), diag (View.readAt (Elt F) arg4.view (Rect.unit (s := S1x4096x2048) (k0_off12 i) S1x256x128.size (k0_off12_inb i)).toLoadRect (harg4.unread x1)) (qs (ldQ arg3 harg3 x0) 10) (View.readAt (Elt F) arg6.view (Rect.unit (s := S1x256x256) (k0_off1 i) S1x256x256.size (k0_off1_inb i)).toLoadRect (harg6.unread x3))⟩,
      ⟨Rect.unit (s := S16x256x256) ![9, 0, 0] S1x256x256.size (inb8w 9), diag (View.readAt (Elt F) arg4.view (Rect.unit (s := S1x4096x2048) (k0_off11 i) S1x256x128.size (k0_off11_inb i)).toLoadRect (harg4.unread x1)) (qs (ldQ arg3 harg3 x0) 9) (View.readAt (Elt F) arg6.view (Rect.unit (s := S1x256x256) (k0_off1 i) S1x256x256.size (k0_off1_inb i)).toLoadRect (harg6.unread x3))⟩,
      ⟨Rect.unit (s := S16x256x256) ![8, 0, 0] S1x256x256.size (inb8w 8), diag (View.readAt (Elt F) arg4.view (Rect.unit (s := S1x4096x2048) (k0_off10 i) S1x256x128.size (k0_off10_inb i)).toLoadRect (harg4.unread x1)) (qs (ldQ arg3 harg3 x0) 8) (View.readAt (Elt F) arg6.view (Rect.unit (s := S1x256x256) (k0_off1 i) S1x256x256.size (k0_off1_inb i)).toLoadRect (harg6.unread x3))⟩,
      ⟨Rect.unit (s := S16x256x256) ![7, 0, 0] S1x256x256.size (inb8w 7), diag (View.readAt (Elt F) arg4.view (Rect.unit (s := S1x4096x2048) (k0_off9 i) S1x256x128.size (k0_off9_inb i)).toLoadRect (harg4.unread x1)) (qs (ldQ arg3 harg3 x0) 7) (View.readAt (Elt F) arg6.view (Rect.unit (s := S1x256x256) (k0_off1 i) S1x256x256.size (k0_off1_inb i)).toLoadRect (harg6.unread x3))⟩,
      ⟨Rect.unit (s := S16x256x256) ![6, 0, 0] S1x256x256.size (inb8w 6), diag (View.readAt (Elt F) arg4.view (Rect.unit (s := S1x4096x2048) (k0_off8 i) S1x256x128.size (k0_off8_inb i)).toLoadRect (harg4.unread x1)) (qs (ldQ arg3 harg3 x0) 6) (View.readAt (Elt F) arg6.view (Rect.unit (s := S1x256x256) (k0_off1 i) S1x256x256.size (k0_off1_inb i)).toLoadRect (harg6.unread x3))⟩,
      ⟨Rect.unit (s := S16x256x256) ![5, 0, 0] S1x256x256.size (inb8w 5), diag (View.readAt (Elt F) arg4.view (Rect.unit (s := S1x4096x2048) (k0_off7 i) S1x256x128.size (k0_off7_inb i)).toLoadRect (harg4.unread x1)) (qs (ldQ arg3 harg3 x0) 5) (View.readAt (Elt F) arg6.view (Rect.unit (s := S1x256x256) (k0_off1 i) S1x256x256.size (k0_off1_inb i)).toLoadRect (harg6.unread x3))⟩,
      ⟨Rect.unit (s := S16x256x256) ![4, 0, 0] S1x256x256.size (inb8w 4), diag (View.readAt (Elt F) arg4.view (Rect.unit (s := S1x4096x2048) (k0_off6 i) S1x256x128.size (k0_off6_inb i)).toLoadRect (harg4.unread x1)) (qs (ldQ arg3 harg3 x0) 4) (View.readAt (Elt F) arg6.view (Rect.unit (s := S1x256x256) (k0_off1 i) S1x256x256.size (k0_off1_inb i)).toLoadRect (harg6.unread x3))⟩,
      ⟨Rect.unit (s := S16x256x256) ![3, 0, 0] S1x256x256.size (inb8w 3), diag (View.readAt (Elt F) arg4.view (Rect.unit (s := S1x4096x2048) (k0_off5 i) S1x256x128.size (k0_off5_inb i)).toLoadRect (harg4.unread x1)) (qs (ldQ arg3 harg3 x0) 3) (View.readAt (Elt F) arg6.view (Rect.unit (s := S1x256x256) (k0_off1 i) S1x256x256.size (k0_off1_inb i)).toLoadRect (harg6.unread x3))⟩,
      ⟨Rect.unit (s := S16x256x256) ![2, 0, 0] S1x256x256.size (inb8w 2), diag (View.readAt (Elt F) arg4.view (Rect.unit (s := S1x4096x2048) (k0_off4 i) S1x256x128.size (k0_off4_inb i)).toLoadRect (harg4.unread x1)) (qs (ldQ arg3 harg3 x0) 2) (View.readAt (Elt F) arg6.view (Rect.unit (s := S1x256x256) (k0_off1 i) S1x256x256.size (k0_off1_inb i)).toLoadRect (harg6.unread x3))⟩,
      ⟨Rect.unit (s := S16x256x256) ![1, 0, 0] S1x256x256.size (inb8w 1), diag (View.readAt (Elt F) arg4.view (Rect.unit (s := S1x4096x2048) (k0_off3 i) S1x256x128.size (k0_off3_inb i)).toLoadRect (harg4.unread x1)) (qs (ldQ arg3 harg3 x0) 1) (View.readAt (Elt F) arg6.view (Rect.unit (s := S1x256x256) (k0_off1 i) S1x256x256.size (k0_off1_inb i)).toLoadRect (harg6.unread x3))⟩,
      ⟨Rect.unit (s := S16x256x256) ![0, 0, 0] S1x256x256.size (inb8w 0), diag (View.readAt (Elt F) arg4.view (Rect.unit (s := S1x4096x2048) (k0_off2 i) S1x256x128.size (k0_off2_inb i)).toLoadRect (harg4.unread x1)) (qs (ldQ arg3 harg3 x0) 0) (View.readAt (Elt F) arg6.view (Rect.unit (s := S1x256x256) (k0_off1 i) S1x256x256.size (k0_off1_inb i)).toLoadRect (harg6.unread x3))⟩] := rfl

/-- The carried rows before the loop: the masked score, everywhere. -/
def masks : Carried F := (k0_pay685, k0_pay686, k0_pay687, k0_pay688, k0_pay689, k0_pay690, k0_pay691, k0_pay692, k0_pay693, k0_pay694, k0_pay695, k0_pay696, k0_pay697, k0_pay698, k0_pay699, k0_pay700)

/-- The first kernel loop, run to its end. -/
abbrev lastSt (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) : Carried F × List (View.Piece (Elt F) S16x256x256 .f32) × List (View.Piece (Elt F) S16x80x256 .f32) :=
  st_k0_t1 (F := F) Variants.none c none i arg3 harg3 arg4 harg4 arg5 harg5 arg6 harg6 arg7 harg7 arg8 harg8 arg9 harg9 (kernelRun0_A.sl.v16 i) (qs (ldQ arg3 harg3 x0) 0) (qs (ldQ arg3 harg3 x0) 1) (qs (ldQ arg3 harg3 x0) 2) (qs (ldQ arg3 harg3 x0) 3) (qs (ldQ arg3 harg3 x0) 4) (qs (ldQ arg3 harg3 x0) 5) (qs (ldQ arg3 harg3 x0) 6) (qs (ldQ arg3 harg3 x0) 7) (qs (ldQ arg3 harg3 x0) 8) (qs (ldQ arg3 harg3 x0) 9) (qs (ldQ arg3 harg3 x0) 10) (qs (ldQ arg3 harg3 x0) 11) (qs (ldQ arg3 harg3 x0) 12) (qs (ldQ arg3 harg3 x0) 13) (qs (ldQ arg3 harg3 x0) 14) (qs (ldQ arg3 harg3 x0) 15)
    (kernelRun0_A.sl.v65 i) 1#32 (kernelRun0_A.sl.v246 i) (harg4.unread x1) (harg5.unread x2)
    (arg8.view.writes (Elt F) arg8.view.junk (kernelRun0_A.sl.HS0_16 c i arg3 harg3 arg4 harg4 arg6 harg6 x0 x1 x3))
    (arg9.view.writes (Elt F) arg9.view.junk kernelRun0_A.sl.HS1_1) masks (k0_t1_loop i).trips

end Cert.KernelIdeal.Fox

end
-- ==== Proof.FoxRead0.lean ====
/-
  The accumulators of some heads, as the kernel reads them after its loops.
-/
module

public import proofs.«01_k».proof.Proof.FoxBody
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal.Head

theorem read_a0 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v271 c i arg3 harg3 arg4 harg4 arg5 harg5 arg6 harg6 arg7 harg7 arg8 harg8 arg9 harg9 x0 x1 x2 x3 = View.readAt (Elt F) arg9.view (Rect.unit (s := S16x80x256) ![0, 0, 0] S1x64x256.size (inbA 0)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v271
  rw [show Scf.trips (k0_t2_loop i).lb (k0_t2_loop i).ub (k0_t2_loop i).st = 0 from trips2_eq i]
  rfl

theorem read_l0 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v273 c i arg3 harg3 arg4 harg4 arg5 harg5 arg6 harg6 arg7 harg7 arg8 harg8 arg9 harg9 x0 x1 x2 x3 = View.readAt (Elt F) arg9.view (Rect.unit (s := S16x80x256) ![0, 64, 0] S1x1x256.size (inbL 0)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v273
  rw [show Scf.trips (k0_t2_loop i).lb (k0_t2_loop i).ub (k0_t2_loop i).st = 0 from trips2_eq i]
  rfl

theorem read_a1 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v277 c i arg3 harg3 arg4 harg4 arg5 harg5 arg6 harg6 arg7 harg7 arg8 harg8 arg9 harg9 x0 x1 x2 x3 = View.readAt (Elt F) arg9.view (Rect.unit (s := S16x80x256) ![1, 0, 0] S1x64x256.size (inbA 1)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v277
  rw [show Scf.trips (k0_t2_loop i).lb (k0_t2_loop i).ub (k0_t2_loop i).st = 0 from trips2_eq i]
  rfl

theorem read_l1 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v279 c i arg3 harg3 arg4 harg4 arg5 harg5 arg6 harg6 arg7 harg7 arg8 harg8 arg9 harg9 x0 x1 x2 x3 = View.readAt (Elt F) arg9.view (Rect.unit (s := S16x80x256) ![1, 64, 0] S1x1x256.size (inbL 1)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v279
  rw [show Scf.trips (k0_t2_loop i).lb (k0_t2_loop i).ub (k0_t2_loop i).st = 0 from trips2_eq i]
  rfl

theorem read_a2 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v283 c i arg3 harg3 arg4 harg4 arg5 harg5 arg6 harg6 arg7 harg7 arg8 harg8 arg9 harg9 x0 x1 x2 x3 = View.readAt (Elt F) arg9.view (Rect.unit (s := S16x80x256) ![2, 0, 0] S1x64x256.size (inbA 2)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v283
  rw [show Scf.trips (k0_t2_loop i).lb (k0_t2_loop i).ub (k0_t2_loop i).st = 0 from trips2_eq i]
  rfl

theorem read_l2 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v285 c i arg3 harg3 arg4 harg4 arg5 harg5 arg6 harg6 arg7 harg7 arg8 harg8 arg9 harg9 x0 x1 x2 x3 = View.readAt (Elt F) arg9.view (Rect.unit (s := S16x80x256) ![2, 64, 0] S1x1x256.size (inbL 2)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v285
  rw [show Scf.trips (k0_t2_loop i).lb (k0_t2_loop i).ub (k0_t2_loop i).st = 0 from trips2_eq i]
  rfl

theorem read_a3 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v289 c i arg3 harg3 arg4 harg4 arg5 harg5 arg6 harg6 arg7 harg7 arg8 harg8 arg9 harg9 x0 x1 x2 x3 = View.readAt (Elt F) arg9.view (Rect.unit (s := S16x80x256) ![3, 0, 0] S1x64x256.size (inbA 3)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v289
  rw [show Scf.trips (k0_t2_loop i).lb (k0_t2_loop i).ub (k0_t2_loop i).st = 0 from trips2_eq i]
  rfl

theorem read_l3 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v291 c i arg3 harg3 arg4 harg4 arg5 harg5 arg6 harg6 arg7 harg7 arg8 harg8 arg9 harg9 x0 x1 x2 x3 = View.readAt (Elt F) arg9.view (Rect.unit (s := S16x80x256) ![3, 64, 0] S1x1x256.size (inbL 3)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v291
  rw [show Scf.trips (k0_t2_loop i).lb (k0_t2_loop i).ub (k0_t2_loop i).st = 0 from trips2_eq i]
  rfl

end Cert.KernelIdeal.Fox

end
-- ==== Proof.FoxRead1.lean ====
/-
  The accumulators of some heads, as the kernel reads them after its loops.
-/
module

public import proofs.«01_k».proof.Proof.FoxBody
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal.Head

theorem read_a4 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v295 c i arg3 harg3 arg4 harg4 arg5 harg5 arg6 harg6 arg7 harg7 arg8 harg8 arg9 harg9 x0 x1 x2 x3 = View.readAt (Elt F) arg9.view (Rect.unit (s := S16x80x256) ![4, 0, 0] S1x64x256.size (inbA 4)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v295
  rw [show Scf.trips (k0_t2_loop i).lb (k0_t2_loop i).ub (k0_t2_loop i).st = 0 from trips2_eq i]
  rfl

theorem read_l4 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v297 c i arg3 harg3 arg4 harg4 arg5 harg5 arg6 harg6 arg7 harg7 arg8 harg8 arg9 harg9 x0 x1 x2 x3 = View.readAt (Elt F) arg9.view (Rect.unit (s := S16x80x256) ![4, 64, 0] S1x1x256.size (inbL 4)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v297
  rw [show Scf.trips (k0_t2_loop i).lb (k0_t2_loop i).ub (k0_t2_loop i).st = 0 from trips2_eq i]
  rfl

theorem read_a5 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v301 c i arg3 harg3 arg4 harg4 arg5 harg5 arg6 harg6 arg7 harg7 arg8 harg8 arg9 harg9 x0 x1 x2 x3 = View.readAt (Elt F) arg9.view (Rect.unit (s := S16x80x256) ![5, 0, 0] S1x64x256.size (inbA 5)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v301
  rw [show Scf.trips (k0_t2_loop i).lb (k0_t2_loop i).ub (k0_t2_loop i).st = 0 from trips2_eq i]
  rfl

theorem read_l5 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v303 c i arg3 harg3 arg4 harg4 arg5 harg5 arg6 harg6 arg7 harg7 arg8 harg8 arg9 harg9 x0 x1 x2 x3 = View.readAt (Elt F) arg9.view (Rect.unit (s := S16x80x256) ![5, 64, 0] S1x1x256.size (inbL 5)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v303
  rw [show Scf.trips (k0_t2_loop i).lb (k0_t2_loop i).ub (k0_t2_loop i).st = 0 from trips2_eq i]
  rfl

theorem read_a6 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v307 c i arg3 harg3 arg4 harg4 arg5 harg5 arg6 harg6 arg7 harg7 arg8 harg8 arg9 harg9 x0 x1 x2 x3 = View.readAt (Elt F) arg9.view (Rect.unit (s := S16x80x256) ![6, 0, 0] S1x64x256.size (inbA 6)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v307
  rw [show Scf.trips (k0_t2_loop i).lb (k0_t2_loop i).ub (k0_t2_loop i).st = 0 from trips2_eq i]
  rfl

theorem read_l6 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v309 c i arg3 harg3 arg4 harg4 arg5 harg5 arg6 harg6 arg7 harg7 arg8 harg8 arg9 harg9 x0 x1 x2 x3 = View.readAt (Elt F) arg9.view (Rect.unit (s := S16x80x256) ![6, 64, 0] S1x1x256.size (inbL 6)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v309
  rw [show Scf.trips (k0_t2_loop i).lb (k0_t2_loop i).ub (k0_t2_loop i).st = 0 from trips2_eq i]
  rfl

theorem read_a7 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v313 c i arg3 harg3 arg4 harg4 arg5 harg5 arg6 harg6 arg7 harg7 arg8 harg8 arg9 harg9 x0 x1 x2 x3 = View.readAt (Elt F) arg9.view (Rect.unit (s := S16x80x256) ![7, 0, 0] S1x64x256.size (inbA 7)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v313
  rw [show Scf.trips (k0_t2_loop i).lb (k0_t2_loop i).ub (k0_t2_loop i).st = 0 from trips2_eq i]
  rfl

theorem read_l7 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v315 c i arg3 harg3 arg4 harg4 arg5 harg5 arg6 harg6 arg7 harg7 arg8 harg8 arg9 harg9 x0 x1 x2 x3 = View.readAt (Elt F) arg9.view (Rect.unit (s := S16x80x256) ![7, 64, 0] S1x1x256.size (inbL 7)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v315
  rw [show Scf.trips (k0_t2_loop i).lb (k0_t2_loop i).ub (k0_t2_loop i).st = 0 from trips2_eq i]
  rfl

end Cert.KernelIdeal.Fox

end
-- ==== Proof.FoxRead2.lean ====
/-
  The accumulators of some heads, as the kernel reads them after its loops.
-/
module

public import proofs.«01_k».proof.Proof.FoxBody
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal.Head

theorem read_a8 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v319 c i arg3 harg3 arg4 harg4 arg5 harg5 arg6 harg6 arg7 harg7 arg8 harg8 arg9 harg9 x0 x1 x2 x3 = View.readAt (Elt F) arg9.view (Rect.unit (s := S16x80x256) ![8, 0, 0] S1x64x256.size (inbA 8)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v319
  rw [show Scf.trips (k0_t2_loop i).lb (k0_t2_loop i).ub (k0_t2_loop i).st = 0 from trips2_eq i]
  rfl

theorem read_l8 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v321 c i arg3 harg3 arg4 harg4 arg5 harg5 arg6 harg6 arg7 harg7 arg8 harg8 arg9 harg9 x0 x1 x2 x3 = View.readAt (Elt F) arg9.view (Rect.unit (s := S16x80x256) ![8, 64, 0] S1x1x256.size (inbL 8)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v321
  rw [show Scf.trips (k0_t2_loop i).lb (k0_t2_loop i).ub (k0_t2_loop i).st = 0 from trips2_eq i]
  rfl

theorem read_a9 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v325 c i arg3 harg3 arg4 harg4 arg5 harg5 arg6 harg6 arg7 harg7 arg8 harg8 arg9 harg9 x0 x1 x2 x3 = View.readAt (Elt F) arg9.view (Rect.unit (s := S16x80x256) ![9, 0, 0] S1x64x256.size (inbA 9)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v325
  rw [show Scf.trips (k0_t2_loop i).lb (k0_t2_loop i).ub (k0_t2_loop i).st = 0 from trips2_eq i]
  rfl

theorem read_l9 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v327 c i arg3 harg3 arg4 harg4 arg5 harg5 arg6 harg6 arg7 harg7 arg8 harg8 arg9 harg9 x0 x1 x2 x3 = View.readAt (Elt F) arg9.view (Rect.unit (s := S16x80x256) ![9, 64, 0] S1x1x256.size (inbL 9)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v327
  rw [show Scf.trips (k0_t2_loop i).lb (k0_t2_loop i).ub (k0_t2_loop i).st = 0 from trips2_eq i]
  rfl

theorem read_a10 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v331 c i arg3 harg3 arg4 harg4 arg5 harg5 arg6 harg6 arg7 harg7 arg8 harg8 arg9 harg9 x0 x1 x2 x3 = View.readAt (Elt F) arg9.view (Rect.unit (s := S16x80x256) ![10, 0, 0] S1x64x256.size (inbA 10)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v331
  rw [show Scf.trips (k0_t2_loop i).lb (k0_t2_loop i).ub (k0_t2_loop i).st = 0 from trips2_eq i]
  rfl

theorem read_l10 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v333 c i arg3 harg3 arg4 harg4 arg5 harg5 arg6 harg6 arg7 harg7 arg8 harg8 arg9 harg9 x0 x1 x2 x3 = View.readAt (Elt F) arg9.view (Rect.unit (s := S16x80x256) ![10, 64, 0] S1x1x256.size (inbL 10)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v333
  rw [show Scf.trips (k0_t2_loop i).lb (k0_t2_loop i).ub (k0_t2_loop i).st = 0 from trips2_eq i]
  rfl

theorem read_a11 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v337 c i arg3 harg3 arg4 harg4 arg5 harg5 arg6 harg6 arg7 harg7 arg8 harg8 arg9 harg9 x0 x1 x2 x3 = View.readAt (Elt F) arg9.view (Rect.unit (s := S16x80x256) ![11, 0, 0] S1x64x256.size (inbA 11)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v337
  rw [show Scf.trips (k0_t2_loop i).lb (k0_t2_loop i).ub (k0_t2_loop i).st = 0 from trips2_eq i]
  rfl

theorem read_l11 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v339 c i arg3 harg3 arg4 harg4 arg5 harg5 arg6 harg6 arg7 harg7 arg8 harg8 arg9 harg9 x0 x1 x2 x3 = View.readAt (Elt F) arg9.view (Rect.unit (s := S16x80x256) ![11, 64, 0] S1x1x256.size (inbL 11)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v339
  rw [show Scf.trips (k0_t2_loop i).lb (k0_t2_loop i).ub (k0_t2_loop i).st = 0 from trips2_eq i]
  rfl

end Cert.KernelIdeal.Fox

end
-- ==== Proof.FoxRead3.lean ====
/-
  The accumulators of some heads, as the kernel reads them after its loops.
-/
module

public import proofs.«01_k».proof.Proof.FoxBody
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal.Head

theorem read_a12 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v343 c i arg3 harg3 arg4 harg4 arg5 harg5 arg6 harg6 arg7 harg7 arg8 harg8 arg9 harg9 x0 x1 x2 x3 = View.readAt (Elt F) arg9.view (Rect.unit (s := S16x80x256) ![12, 0, 0] S1x64x256.size (inbA 12)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v343
  rw [show Scf.trips (k0_t2_loop i).lb (k0_t2_loop i).ub (k0_t2_loop i).st = 0 from trips2_eq i]
  rfl

theorem read_l12 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v345 c i arg3 harg3 arg4 harg4 arg5 harg5 arg6 harg6 arg7 harg7 arg8 harg8 arg9 harg9 x0 x1 x2 x3 = View.readAt (Elt F) arg9.view (Rect.unit (s := S16x80x256) ![12, 64, 0] S1x1x256.size (inbL 12)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v345
  rw [show Scf.trips (k0_t2_loop i).lb (k0_t2_loop i).ub (k0_t2_loop i).st = 0 from trips2_eq i]
  rfl

theorem read_a13 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v349 c i arg3 harg3 arg4 harg4 arg5 harg5 arg6 harg6 arg7 harg7 arg8 harg8 arg9 harg9 x0 x1 x2 x3 = View.readAt (Elt F) arg9.view (Rect.unit (s := S16x80x256) ![13, 0, 0] S1x64x256.size (inbA 13)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v349
  rw [show Scf.trips (k0_t2_loop i).lb (k0_t2_loop i).ub (k0_t2_loop i).st = 0 from trips2_eq i]
  rfl

theorem read_l13 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v351 c i arg3 harg3 arg4 harg4 arg5 harg5 arg6 harg6 arg7 harg7 arg8 harg8 arg9 harg9 x0 x1 x2 x3 = View.readAt (Elt F) arg9.view (Rect.unit (s := S16x80x256) ![13, 64, 0] S1x1x256.size (inbL 13)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v351
  rw [show Scf.trips (k0_t2_loop i).lb (k0_t2_loop i).ub (k0_t2_loop i).st = 0 from trips2_eq i]
  rfl

theorem read_a14 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v355 c i arg3 harg3 arg4 harg4 arg5 harg5 arg6 harg6 arg7 harg7 arg8 harg8 arg9 harg9 x0 x1 x2 x3 = View.readAt (Elt F) arg9.view (Rect.unit (s := S16x80x256) ![14, 0, 0] S1x64x256.size (inbA 14)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v355
  rw [show Scf.trips (k0_t2_loop i).lb (k0_t2_loop i).ub (k0_t2_loop i).st = 0 from trips2_eq i]
  rfl

theorem read_l14 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v357 c i arg3 harg3 arg4 harg4 arg5 harg5 arg6 harg6 arg7 harg7 arg8 harg8 arg9 harg9 x0 x1 x2 x3 = View.readAt (Elt F) arg9.view (Rect.unit (s := S16x80x256) ![14, 64, 0] S1x1x256.size (inbL 14)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v357
  rw [show Scf.trips (k0_t2_loop i).lb (k0_t2_loop i).ub (k0_t2_loop i).st = 0 from trips2_eq i]
  rfl

theorem read_a15 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v361 c i arg3 harg3 arg4 harg4 arg5 harg5 arg6 harg6 arg7 harg7 arg8 harg8 arg9 harg9 x0 x1 x2 x3 = View.readAt (Elt F) arg9.view (Rect.unit (s := S16x80x256) ![15, 0, 0] S1x64x256.size (inbA 15)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v361
  rw [show Scf.trips (k0_t2_loop i).lb (k0_t2_loop i).ub (k0_t2_loop i).st = 0 from trips2_eq i]
  rfl

theorem read_l15 (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    kernelRun0_A.sl.v363 c i arg3 harg3 arg4 harg4 arg5 harg5 arg6 harg6 arg7 harg7 arg8 harg8 arg9 harg9 x0 x1 x2 x3 = View.readAt (Elt F) arg9.view (Rect.unit (s := S16x80x256) ![15, 64, 0] S1x1x256.size (inbL 15)).toLoadRect
      (arg9.view.writes (Elt F) arg9.view.junk ((lastSt c i arg3 harg3 arg4 harg4 arg5 harg5 arg6 harg6 arg7 harg7 arg8 harg8 arg9 harg9 x0 x1 x2 x3).2.2 ++ kernelRun0_A.sl.HS1_1)) := by
  unfold kernelRun0_A.sl.v363
  rw [show Scf.trips (k0_t2_loop i).lb (k0_t2_loop i).ub (k0_t2_loop i).st = 0 from trips2_eq i]
  rfl

end Cert.KernelIdeal.Fox

end
-- ==== Proof.FoxStore.lean ====
/-
  What the attention kernel stores in its window, as the quotients of its accumulators.
-/
module

public import proofs.«01_k».proof.Proof.FoxRead0
public import proofs.«01_k».proof.Proof.FoxRead1
public import proofs.«01_k».proof.Proof.FoxRead2
public import proofs.«01_k».proof.Proof.FoxRead3
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal.Head

theorem run_eq (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec F S1x1x1024x256 .bf16) (x1 : Vec F S1x4096x2048 .bf16) (x2 : Vec F S1x16x1024x256 .bf16) (x3 : Vec F S1x256x256 .f32) :
    (kernelRun0_A c i arg3 harg3 arg4 harg4 arg5 harg5 arg6 harg6 arg7 harg7 arg8 harg8 arg9 harg9 x0 x1 x2 x3).1 = [⟨Rect.unit (s := S1x1024x256) ![0, 0, 0] S1x1024x256.size inb_S1x1024x256_S1x1024x256_0_0_0, block fun h => ratio
      (View.readAt (Elt F) arg9.view (Rect.unit (s := S16x80x256) ![(h : ℕ), 0, 0] S1x64x256.size (inbA h)).toLoadRect
        (arg9.view.writes (Elt F) arg9.view.junk ((lastSt c i arg3 harg3 arg4 harg4 arg5 harg5 arg6 harg6 arg7 harg7 arg8 harg8 arg9 harg9 x0 x1 x2 x3).2.2 ++ kernelRun0_A.sl.HS1_1)))
      (View.readAt (Elt F) arg9.view (Rect.unit (s := S16x80x256) ![(h : ℕ), 64, 0] S1x1x256.size (inbL h)).toLoadRect
        (arg9.view.writes (Elt F) arg9.view.junk ((lastSt c i arg3 harg3 arg4 harg4 arg5 harg5 arg6 harg6 arg7 harg7 arg8 harg8 arg9 harg9 x0 x1 x2 x3).2.2 ++ kernelRun0_A.sl.HS1_1)))⟩] := by
  show [(⟨Rect.unit (s := S1x1024x256) ![0, 0, 0] S1x1024x256.size inb_S1x1024x256_S1x1024x256_0_0_0,
    k0_pay1 (kernelRun0_A.sl.r_40 c i arg3 harg3 arg4 harg4 arg5 harg5 arg6 harg6 arg7 harg7 arg8 harg8 arg9 harg9 x0 x1 x2 x3)⟩ : View.Piece (Elt F) S1x1024x256 .bf16)] = _
  unfold kernelRun0_A.sl.r_40 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39
  rw [read_a0, read_l0, read_a1, read_l1, read_a2, read_l2, read_a3, read_l3, read_a4, read_l4, read_a5, read_l5, read_a6, read_l6, read_a7, read_l7, read_a8, read_l8, read_a9, read_l9, read_a10, read_l10, read_a11, read_l11, read_a12, read_l12, read_a13, read_l13, read_a14, read_l14, read_a15, read_l15]
  rfl

end Cert.KernelIdeal.Fox

end
-- ==== Proof.FoxSem.lean ====
/-
  One trip of the attention loop on the extended reals, entry by entry.
-/
module

public import proofs.«01_k».proof.Proof.FoxTrip
public import proofs.«01_k».proof.Proof.FoxOff
public import Idealize.ShloMosaic.Lib.Pipeline.ReadBack
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal.Head

theorem _root_.Idealize.ShloMosaic.Rect.mem_set_of_eq_emb {s : Shape} (R : Rect s) (x : R.shape.Idx) {y : s.Idx} (h : R.emb x = y) : y ∈ R.set := by
  subst h
  exact (LoadRect.mem_set _).mpr fun a => ⟨x a, (x a).isLt, rfl⟩

/-- The scores in the scratch buffer. -/
def at8 (arg8 : Memref sig .tc .vmem S16x256x256 .f32) (f : BufTy.Contents (Elt Ideal) arg8.view.ty) (h : Fin 16)
    (r j : Fin 256) : EReal := View.read (Elt Ideal) arg8.view f (ix3 h r j)

/-- The accumulators in the scratch buffer. -/
def at9 (arg9 : Memref sig .tc .vmem S16x80x256 .f32) (f : BufTy.Contents (Elt Ideal) arg9.view.ty) (h : Fin 16)
    (e : Fin 80) (j : Fin 256) : EReal := View.read (Elt Ideal) arg9.view f (ix3 h e j)

/-- The value feature `e` of head `h` at row `r` of tile `n`, from the window. -/
def atV (arg5 : Memref sig .tc .vmem S1x16x1024x256 .bf16) (X : BufTy.Contents (Elt Ideal) arg5.view.ty) (n h : Fin 16)
    (e : Fin 64) (r : Fin 256) : EReal :=
  View.read (Elt Ideal) arg5.view X (ix4 0 n ⟨64 * h + e, by omega⟩ r)

/-- Lane `d` of head `h` of the keys with their gate terms, at row `r` of tile `n`, from the window. -/
def atK (arg4 : Memref sig .tc .vmem S1x4096x2048 .bf16) (X : BufTy.Contents (Elt Ideal) arg4.view.ty) (n h : Fin 16)
    (r : Fin 256) (d : Fin 128) : EReal :=
  View.read (Elt Ideal) arg4.view X (ix3 0 ⟨256 * n + r, by omega⟩ ⟨128 * h + d, by omega⟩)

theorem ld8_at (arg8 : Memref sig .tc .vmem S16x256x256 .f32) (f : BufTy.Contents (Elt Ideal) arg8.view.ty)
    (h c a : Fin 16) (j : Fin 256) : ld8 arg8 f h c (ix3 0 a j) = at8 arg8 f h ⟨16 * c + a, by omega⟩ j := by
  refine congrArg (View.read (Elt Ideal) arg8.view f) (funext fun b => Fin.ext ?_)
  fin_cases b
  · show (h : ℕ) + 1 * 0 = h; omega
  · show 16 * (c : ℕ) + 1 * a = 16 * c + a; omega
  · show 0 + 1 * (j : ℕ) = j; omega

theorem ld9_at (arg9 : Memref sig .tc .vmem S16x80x256 .f32) (f : BufTy.Contents (Elt Ideal) arg9.view.ty)
    (h : Fin 16) (e : Fin 80) (j : Fin 256) : ld9 arg9 f h (ix3 0 e j) = at9 arg9 f h e j := by
  refine congrArg (View.read (Elt Ideal) arg9.view f) (funext fun b => Fin.ext ?_)
  fin_cases b
  · show (h : ℕ) + 1 * 0 = h; omega
  · show 0 + 1 * (e : ℕ) = e; omega
  · show 0 + 1 * (j : ℕ) = j; omega

theorem ldV_at (arg5 : Memref sig .tc .vmem S1x16x1024x256 .bf16) (X : BufTy.Contents (Elt Ideal) arg5.view.ty)
    (n h : Fin 16) (off : Fin 4 → ℕ) (inb) (ho : off = ![0, (n : ℕ), 64 * (h : ℕ), 0]) (e : Fin 64) (r : Fin 256) :
    View.readAt (Elt Ideal) arg5.view (Rect.unit (s := S1x16x1024x256) off S1x1x64x256.size inb).toLoadRect X (ix4 0 0 e r)
      = atV arg5 X n h e r := by
  subst ho
  refine congrArg (View.read (Elt Ideal) arg5.view X) (funext fun b => Fin.ext ?_)
  fin_cases b
  · rfl
  · show (n : ℕ) + 1 * 0 = n; omega
  · show 64 * (h : ℕ) + 1 * e = 64 * h + e; omega
  · show 0 + 1 * (r : ℕ) = r; omega

theorem ldK_at (arg4 : Memref sig .tc .vmem S1x4096x2048 .bf16) (X : BufTy.Contents (Elt Ideal) arg4.view.ty)
    (n h : Fin 16) (off : Fin 3 → ℕ) (inb) (ho : off = ![0, 256 * (n : ℕ), 128 * (h : ℕ)]) (r : Fin 256) (d : Fin 128) :
    View.readAt (Elt Ideal) arg4.view (Rect.unit (s := S1x4096x2048) off S1x256x128.size inb).toLoadRect X (ix3 0 r d)
      = atK arg4 X n h r d := by
  subst ho
  refine congrArg (View.read (Elt Ideal) arg4.view X) (funext fun b => Fin.ext ?_)
  fin_cases b
  · rfl
  · show 256 * (n : ℕ) + 1 * r = 256 * n + r; omega
  · show 128 * (h : ℕ) + 1 * d = 128 * h + d; omega

/-- The tile of a trip. -/
def tileOf (i : grid0.Coords) (k : ℕ) : Fin 16 := ⟨(i 2 : ℕ) - k, by have := (i 2).isLt; show (i 2 : ℕ) - k < 16; exact Nat.lt_of_le_of_lt (Nat.sub_le _ _) this⟩

/-- The weighted sum of a tile. -/
def tileSum (V : Fin 64 → Fin 256 → EReal) (s : Fin 256 → EReal) (M : EReal) (e : Fin 80) : EReal :=
  ∑ r : Fin 256, (if h : (e : ℕ) < 64 then V ⟨e, h⟩ r else 1) * Ideal.exp2 (s r - M)

theorem carried_at (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec Ideal S128x256 .bf16) (v37 : FVec Ideal S128x256 .bf16) (v38 : FVec Ideal S128x256 .bf16) (v39 : FVec Ideal S128x256 .bf16) (v40 : FVec Ideal S128x256 .bf16) (v41 : FVec Ideal S128x256 .bf16) (v42 : FVec Ideal S128x256 .bf16) (v43 : FVec Ideal S128x256 .bf16) (v44 : FVec Ideal S128x256 .bf16) (v45 : FVec Ideal S128x256 .bf16) (v46 : FVec Ideal S128x256 .bf16) (v47 : FVec Ideal S128x256 .bf16) (v48 : FVec Ideal S128x256 .bf16) (v49 : FVec Ideal S128x256 .bf16) (v50 : FVec Ideal S128x256 .bf16) (v51 : FVec Ideal S128x256 .bf16) (v65 : BitVec 32) (c1_i32_118 : BitVec 32) (v246 : BitVec 32) (X_arg4 : BufTy.Contents (Elt Ideal) arg4.view.ty) (X_arg5 : BufTy.Contents (Elt Ideal) arg5.view.ty) (k : Fin (k0_t1_loop i).trips) (acc : Carried Ideal) (f_arg8 : BufTy.Contents (Elt Ideal) arg8.view.ty) (f_arg9 : BufTy.Contents (Elt Ideal) arg9.view.ty) (h : Fin 16) (j : Fin 256) :
    row ((trip_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).1 acc f_arg8 f_arg9) h (ix2 0 j) = max (row acc h (ix2 0 j)) (Finset.univ.sup fun r => at8 arg8 f_arg8 h r j) := by
  rw [trip_carried]
  exact newMax_at _ _ _ _ fun c a => ld8_at arg8 f_arg8 h c a j

theorem newAcc_ld (arg5 : Memref sig .tc .vmem S1x16x1024x256 .bf16) (arg8 : Memref sig .tc .vmem S16x256x256 .f32)
    (arg9 : Memref sig .tc .vmem S16x80x256 .f32) (X : BufTy.Contents (Elt Ideal) arg5.view.ty)
    (f_arg8 : BufTy.Contents (Elt Ideal) arg8.view.ty) (f_arg9 : BufTy.Contents (Elt Ideal) arg9.view.ty)
    (m : FVec Ideal S1x256 .f32) (n h : Fin 16) (off : Fin 4 → ℕ) (inb) (ho : off = ![0, (n : ℕ), 64 * (h : ℕ), 0])
    (e : Fin 80) (j : Fin 256) :
    newAcc m (ld8 arg8 f_arg8 h) (View.readAt (Elt Ideal) arg5.view (Rect.unit (s := S1x16x1024x256) off S1x1x64x256.size inb).toLoadRect X)
        (ld9 arg9 f_arg9 h) (ix3 0 e j)
      = Ideal.exp2 (m (ix2 0 j) - max (m (ix2 0 j)) (Finset.univ.sup fun r => at8 arg8 f_arg8 h r j)) * at9 arg9 f_arg9 h e j
        + tileSum (atV arg5 X n h) (fun r => at8 arg8 f_arg8 h r j) (max (m (ix2 0 j)) (Finset.univ.sup fun r => at8 arg8 f_arg8 h r j)) e := by
  rw [newAcc_at _ _ _ _ (fun r => at8 arg8 f_arg8 h r j) _ _ fun c a => ld8_at arg8 f_arg8 h c a j,
    newMax_at _ _ (fun r => at8 arg8 f_arg8 h r j) _ fun c a => ld8_at arg8 f_arg8 h c a j, ld9_at]
  simp only [ldV_at arg5 X n h off inb ho, tileSum]

/-- What the stores of the accumulators leave, entry by entry. -/
def G9 (arg5 : Memref sig .tc .vmem S1x16x1024x256 .bf16) (arg8 : Memref sig .tc .vmem S16x256x256 .f32)
    (arg9 : Memref sig .tc .vmem S16x80x256 .f32) (X : BufTy.Contents (Elt Ideal) arg5.view.ty)
    (f_arg8 : BufTy.Contents (Elt Ideal) arg8.view.ty) (f_arg9 : BufTy.Contents (Elt Ideal) arg9.view.ty)
    (acc : Carried Ideal) (n : Fin 16) (y : S16x80x256.Idx) : EReal :=
  let m := row acc (y 0) (ix2 0 (y 2))
  let M := max m (Finset.univ.sup fun r => at8 arg8 f_arg8 (y 0) r (y 2))
  Ideal.exp2 (m - M) * at9 arg9 f_arg9 (y 0) (y 1) (y 2)
    + tileSum (atV arg5 X n (y 0)) (fun r => at8 arg8 f_arg8 (y 0) r (y 2)) M (y 1)

/-- What the stores of the scores leave, entry by entry. -/
def G8 (arg4 : Memref sig .tc .vmem S1x4096x2048 .bf16) (X : BufTy.Contents (Elt Ideal) arg4.view.ty)
    (q : Fin 16 → FVec Ideal S128x256 .bf16) (n : Fin 16) (y : S16x256x256.Idx) : EReal :=
  ∑ d : Fin 128, atK arg4 X n (y 0) (y 1) d * q (y 0) (ix2 d (y 2))

theorem emb9 (h : Fin 16) (inb) (e : Fin 80) (j : Fin 256) :
    (Rect.unit (s := S16x80x256) ![(h : ℕ), 0, 0] S1x80x256.size inb).emb (ix3 0 e j) = ix3 h e j := by
  refine funext fun b => Fin.ext ?_
  fin_cases b
  · show (h : ℕ) + 1 * 0 = h; omega
  · show 0 + 1 * (e : ℕ) = e; omega
  · show 0 + 1 * (j : ℕ) = j; omega

theorem emb8 (h : Fin 16) (inb) (r j : Fin 256) :
    (Rect.unit (s := S16x256x256) ![(h : ℕ), 0, 0] S1x256x256.size inb).emb (ix3 0 r j) = ix3 h r j := by
  refine funext fun b => Fin.ext ?_
  fin_cases b
  · show (h : ℕ) + 1 * 0 = h; omega
  · show 0 + 1 * (r : ℕ) = r; omega
  · show 0 + 1 * (j : ℕ) = j; omega

theorem all9 (h : Fin 16) (inb) (g : FVec Ideal S1x80x256 .f32) (G : S16x80x256.Idx → EReal)
    (H : ∀ e j, g (ix3 0 e j) = G (ix3 h e j)) (x : S1x80x256.Idx) :
    g x = G ((Rect.unit (s := S16x80x256) ![(h : ℕ), 0, 0] S1x80x256.size inb).emb x) := by
  obtain ⟨u, e, j, rfl⟩ : ∃ (u : Fin 1) (e : Fin 80) (j : Fin 256), x = ix3 u e j := ⟨x 0, x 1, x 2, eq_ix3 x⟩
  obtain rfl : u = 0 := Subsingleton.elim _ _
  rw [emb9, H]

theorem all8 (h : Fin 16) (inb) (g : FVec Ideal S1x256x256 .f32) (G : S16x256x256.Idx → EReal)
    (H : ∀ e j, g (ix3 0 e j) = G (ix3 h e j)) (x : S1x256x256.Idx) :
    g x = G ((Rect.unit (s := S16x256x256) ![(h : ℕ), 0, 0] S1x256x256.size inb).emb x) := by
  obtain ⟨u, e, j, rfl⟩ : ∃ (u : Fin 1) (e j : Fin 256), x = ix3 u e j := ⟨x 0, x 1, x 2, eq_ix3 x⟩
  obtain rfl : u = 0 := Subsingleton.elim _ _
  rw [emb8, H]

theorem scores_ld (arg4 : Memref sig .tc .vmem S1x4096x2048 .bf16) (X : BufTy.Contents (Elt Ideal) arg4.view.ty)
    (q : FVec Ideal S128x256 .bf16) (n h : Fin 16) (off : Fin 3 → ℕ) (inb) (ho : off = ![0, 256 * (n : ℕ), 128 * (h : ℕ)])
    (r j : Fin 256) :
    scores (View.readAt (Elt Ideal) arg4.view (Rect.unit (s := S1x4096x2048) off S1x256x128.size inb).toLoadRect X) q (ix3 0 r j)
      = ∑ d : Fin 128, atK arg4 X n h r d * q (ix2 d j) := by
  rw [scores_at]
  simp only [ldK_at arg4 X n h off inb ho]

theorem accs_at (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec Ideal S128x256 .bf16) (v37 : FVec Ideal S128x256 .bf16) (v38 : FVec Ideal S128x256 .bf16) (v39 : FVec Ideal S128x256 .bf16) (v40 : FVec Ideal S128x256 .bf16) (v41 : FVec Ideal S128x256 .bf16) (v42 : FVec Ideal S128x256 .bf16) (v43 : FVec Ideal S128x256 .bf16) (v44 : FVec Ideal S128x256 .bf16) (v45 : FVec Ideal S128x256 .bf16) (v46 : FVec Ideal S128x256 .bf16) (v47 : FVec Ideal S128x256 .bf16) (v48 : FVec Ideal S128x256 .bf16) (v49 : FVec Ideal S128x256 .bf16) (v50 : FVec Ideal S128x256 .bf16) (v51 : FVec Ideal S128x256 .bf16) (v65 : BitVec 32) (c1_i32_118 : BitVec 32) (v246 : BitVec 32) (X_arg4 : BufTy.Contents (Elt Ideal) arg4.view.ty) (X_arg5 : BufTy.Contents (Elt Ideal) arg5.view.ty) (k : Fin (k0_t1_loop i).trips) (acc : Carried Ideal) (f_arg8 : BufTy.Contents (Elt Ideal) arg8.view.ty) (f_arg9 : BufTy.Contents (Elt Ideal) arg9.view.ty) (h : Fin 16) (e : Fin 80) (j : Fin 256) :
    at9 arg9 (arg9.view.writes (Elt Ideal) f_arg9 ((trip_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).2.2.1 acc f_arg8 f_arg9)) h e j
      = G9 arg5 arg8 arg9 X_arg5 f_arg8 f_arg9 acc (tileOf i k) (ix3 h e j) := by
  rw [trip_accs]
  refine View.read_writes_apply_of_pieces arg9.view f_arg9 (G9 arg5 arg8 arg9 X_arg5 f_arg8 f_arg9 acc (tileOf i k)) _
    ?_ (ix3 h e j) ?_
  · exact View.PiecesOf.mem ⟨all9 15 (inb9 15) _ _ fun e j => newAcc_ld arg5 arg8 arg9 X_arg5 f_arg8 f_arg9 _ _ 15 _ _ (offV_15 i k) e j,
    all9 14 (inb9 14) _ _ fun e j => newAcc_ld arg5 arg8 arg9 X_arg5 f_arg8 f_arg9 _ _ 14 _ _ (offV_14 i k) e j,
    all9 13 (inb9 13) _ _ fun e j => newAcc_ld arg5 arg8 arg9 X_arg5 f_arg8 f_arg9 _ _ 13 _ _ (offV_13 i k) e j,
    all9 12 (inb9 12) _ _ fun e j => newAcc_ld arg5 arg8 arg9 X_arg5 f_arg8 f_arg9 _ _ 12 _ _ (offV_12 i k) e j,
    all9 11 (inb9 11) _ _ fun e j => newAcc_ld arg5 arg8 arg9 X_arg5 f_arg8 f_arg9 _ _ 11 _ _ (offV_11 i k) e j,
    all9 10 (inb9 10) _ _ fun e j => newAcc_ld arg5 arg8 arg9 X_arg5 f_arg8 f_arg9 _ _ 10 _ _ (offV_10 i k) e j,
    all9 9 (inb9 9) _ _ fun e j => newAcc_ld arg5 arg8 arg9 X_arg5 f_arg8 f_arg9 _ _ 9 _ _ (offV_9 i k) e j,
    all9 8 (inb9 8) _ _ fun e j => newAcc_ld arg5 arg8 arg9 X_arg5 f_arg8 f_arg9 _ _ 8 _ _ (offV_8 i k) e j,
    all9 7 (inb9 7) _ _ fun e j => newAcc_ld arg5 arg8 arg9 X_arg5 f_arg8 f_arg9 _ _ 7 _ _ (offV_7 i k) e j,
    all9 6 (inb9 6) _ _ fun e j => newAcc_ld arg5 arg8 arg9 X_arg5 f_arg8 f_arg9 _ _ 6 _ _ (offV_6 i k) e j,
    all9 5 (inb9 5) _ _ fun e j => newAcc_ld arg5 arg8 arg9 X_arg5 f_arg8 f_arg9 _ _ 5 _ _ (offV_5 i k) e j,
    all9 4 (inb9 4) _ _ fun e j => newAcc_ld arg5 arg8 arg9 X_arg5 f_arg8 f_arg9 _ _ 4 _ _ (offV_4 i k) e j,
    all9 3 (inb9 3) _ _ fun e j => newAcc_ld arg5 arg8 arg9 X_arg5 f_arg8 f_arg9 _ _ 3 _ _ (offV_3 i k) e j,
    all9 2 (inb9 2) _ _ fun e j => newAcc_ld arg5 arg8 arg9 X_arg5 f_arg8 f_arg9 _ _ 2 _ _ (offV_2 i k) e j,
    all9 1 (inb9 1) _ _ fun e j => newAcc_ld arg5 arg8 arg9 X_arg5 f_arg8 f_arg9 _ _ 1 _ _ (offV_1 i k) e j,
    all9 0 (inb9 0) _ _ fun e j => newAcc_ld arg5 arg8 arg9 X_arg5 f_arg8 f_arg9 _ _ 0 _ _ (offV_0 i k) e j, trivial⟩
  fin_cases h
  · exact ⟨_, List.mem_of_getElem? (i := 15) rfl, Rect.mem_set_of_eq_emb _ (ix3 0 e j) (emb9 0 (inb9 0) e j)⟩
  · exact ⟨_, List.mem_of_getElem? (i := 14) rfl, Rect.mem_set_of_eq_emb _ (ix3 0 e j) (emb9 1 (inb9 1) e j)⟩
  · exact ⟨_, List.mem_of_getElem? (i := 13) rfl, Rect.mem_set_of_eq_emb _ (ix3 0 e j) (emb9 2 (inb9 2) e j)⟩
  · exact ⟨_, List.mem_of_getElem? (i := 12) rfl, Rect.mem_set_of_eq_emb _ (ix3 0 e j) (emb9 3 (inb9 3) e j)⟩
  · exact ⟨_, List.mem_of_getElem? (i := 11) rfl, Rect.mem_set_of_eq_emb _ (ix3 0 e j) (emb9 4 (inb9 4) e j)⟩
  · exact ⟨_, List.mem_of_getElem? (i := 10) rfl, Rect.mem_set_of_eq_emb _ (ix3 0 e j) (emb9 5 (inb9 5) e j)⟩
  · exact ⟨_, List.mem_of_getElem? (i := 9) rfl, Rect.mem_set_of_eq_emb _ (ix3 0 e j) (emb9 6 (inb9 6) e j)⟩
  · exact ⟨_, List.mem_of_getElem? (i := 8) rfl, Rect.mem_set_of_eq_emb _ (ix3 0 e j) (emb9 7 (inb9 7) e j)⟩
  · exact ⟨_, List.mem_of_getElem? (i := 7) rfl, Rect.mem_set_of_eq_emb _ (ix3 0 e j) (emb9 8 (inb9 8) e j)⟩
  · exact ⟨_, List.mem_of_getElem? (i := 6) rfl, Rect.mem_set_of_eq_emb _ (ix3 0 e j) (emb9 9 (inb9 9) e j)⟩
  · exact ⟨_, List.mem_of_getElem? (i := 5) rfl, Rect.mem_set_of_eq_emb _ (ix3 0 e j) (emb9 10 (inb9 10) e j)⟩
  · exact ⟨_, List.mem_of_getElem? (i := 4) rfl, Rect.mem_set_of_eq_emb _ (ix3 0 e j) (emb9 11 (inb9 11) e j)⟩
  · exact ⟨_, List.mem_of_getElem? (i := 3) rfl, Rect.mem_set_of_eq_emb _ (ix3 0 e j) (emb9 12 (inb9 12) e j)⟩
  · exact ⟨_, List.mem_of_getElem? (i := 2) rfl, Rect.mem_set_of_eq_emb _ (ix3 0 e j) (emb9 13 (inb9 13) e j)⟩
  · exact ⟨_, List.mem_of_getElem? (i := 1) rfl, Rect.mem_set_of_eq_emb _ (ix3 0 e j) (emb9 14 (inb9 14) e j)⟩
  · exact ⟨_, List.mem_of_getElem? (i := 0) rfl, Rect.mem_set_of_eq_emb _ (ix3 0 e j) (emb9 15 (inb9 15) e j)⟩

theorem scores_at' (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec Ideal S128x256 .bf16) (v37 : FVec Ideal S128x256 .bf16) (v38 : FVec Ideal S128x256 .bf16) (v39 : FVec Ideal S128x256 .bf16) (v40 : FVec Ideal S128x256 .bf16) (v41 : FVec Ideal S128x256 .bf16) (v42 : FVec Ideal S128x256 .bf16) (v43 : FVec Ideal S128x256 .bf16) (v44 : FVec Ideal S128x256 .bf16) (v45 : FVec Ideal S128x256 .bf16) (v46 : FVec Ideal S128x256 .bf16) (v47 : FVec Ideal S128x256 .bf16) (v48 : FVec Ideal S128x256 .bf16) (v49 : FVec Ideal S128x256 .bf16) (v50 : FVec Ideal S128x256 .bf16) (v51 : FVec Ideal S128x256 .bf16) (v65 : BitVec 32) (c1_i32_118 : BitVec 32) (v246 : BitVec 32) (X_arg4 : BufTy.Contents (Elt Ideal) arg4.view.ty) (X_arg5 : BufTy.Contents (Elt Ideal) arg5.view.ty) (k : Fin (k0_t1_loop i).trips) (acc : Carried Ideal) (f_arg8 : BufTy.Contents (Elt Ideal) arg8.view.ty) (f_arg9 : BufTy.Contents (Elt Ideal) arg9.view.ty) (h : Fin 16) (r j : Fin 256) :
    at8 arg8 (arg8.view.writes (Elt Ideal) f_arg8 ((trip_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 k).2.1 acc f_arg8 f_arg9)) h r j
      = G8 arg4 X_arg4 (![v36, v37, v38, v39, v40, v41, v42, v43, v44, v45, v46, v47, v48, v49, v50, v51]) (tileOf i (min ((k : ℕ) + 1) (i 2 : ℕ))) (ix3 h r j) := by
  rw [trip_scores]
  refine View.read_writes_apply_of_pieces arg8.view f_arg8 (G8 arg4 X_arg4 (![v36, v37, v38, v39, v40, v41, v42, v43, v44, v45, v46, v47, v48, v49, v50, v51]) (tileOf i (min ((k : ℕ) + 1) (i 2 : ℕ)))) _
    ?_ (ix3 h r j) ?_
  · exact View.PiecesOf.mem ⟨all8 15 (inb8w 15) _ _ fun r j => scores_ld arg4 X_arg4 _ _ 15 _ _ (offK_15 i k) r j,
    all8 14 (inb8w 14) _ _ fun r j => scores_ld arg4 X_arg4 _ _ 14 _ _ (offK_14 i k) r j,
    all8 13 (inb8w 13) _ _ fun r j => scores_ld arg4 X_arg4 _ _ 13 _ _ (offK_13 i k) r j,
    all8 12 (inb8w 12) _ _ fun r j => scores_ld arg4 X_arg4 _ _ 12 _ _ (offK_12 i k) r j,
    all8 11 (inb8w 11) _ _ fun r j => scores_ld arg4 X_arg4 _ _ 11 _ _ (offK_11 i k) r j,
    all8 10 (inb8w 10) _ _ fun r j => scores_ld arg4 X_arg4 _ _ 10 _ _ (offK_10 i k) r j,
    all8 9 (inb8w 9) _ _ fun r j => scores_ld arg4 X_arg4 _ _ 9 _ _ (offK_9 i k) r j,
    all8 8 (inb8w 8) _ _ fun r j => scores_ld arg4 X_arg4 _ _ 8 _ _ (offK_8 i k) r j,
    all8 7 (inb8w 7) _ _ fun r j => scores_ld arg4 X_arg4 _ _ 7 _ _ (offK_7 i k) r j,
    all8 6 (inb8w 6) _ _ fun r j => scores_ld arg4 X_arg4 _ _ 6 _ _ (offK_6 i k) r j,
    all8 5 (inb8w 5) _ _ fun r j => scores_ld arg4 X_arg4 _ _ 5 _ _ (offK_5 i k) r j,
    all8 4 (inb8w 4) _ _ fun r j => scores_ld arg4 X_arg4 _ _ 4 _ _ (offK_4 i k) r j,
    all8 3 (inb8w 3) _ _ fun r j => scores_ld arg4 X_arg4 _ _ 3 _ _ (offK_3 i k) r j,
    all8 2 (inb8w 2) _ _ fun r j => scores_ld arg4 X_arg4 _ _ 2 _ _ (offK_2 i k) r j,
    all8 1 (inb8w 1) _ _ fun r j => scores_ld arg4 X_arg4 _ _ 1 _ _ (offK_1 i k) r j,
    all8 0 (inb8w 0) _ _ fun r j => scores_ld arg4 X_arg4 _ _ 0 _ _ (offK_0 i k) r j, trivial⟩
  fin_cases h
  · exact ⟨_, List.mem_of_getElem? (i := 15) rfl, Rect.mem_set_of_eq_emb _ (ix3 0 r j) (emb8 0 (inb8w 0) r j)⟩
  · exact ⟨_, List.mem_of_getElem? (i := 14) rfl, Rect.mem_set_of_eq_emb _ (ix3 0 r j) (emb8 1 (inb8w 1) r j)⟩
  · exact ⟨_, List.mem_of_getElem? (i := 13) rfl, Rect.mem_set_of_eq_emb _ (ix3 0 r j) (emb8 2 (inb8w 2) r j)⟩
  · exact ⟨_, List.mem_of_getElem? (i := 12) rfl, Rect.mem_set_of_eq_emb _ (ix3 0 r j) (emb8 3 (inb8w 3) r j)⟩
  · exact ⟨_, List.mem_of_getElem? (i := 11) rfl, Rect.mem_set_of_eq_emb _ (ix3 0 r j) (emb8 4 (inb8w 4) r j)⟩
  · exact ⟨_, List.mem_of_getElem? (i := 10) rfl, Rect.mem_set_of_eq_emb _ (ix3 0 r j) (emb8 5 (inb8w 5) r j)⟩
  · exact ⟨_, List.mem_of_getElem? (i := 9) rfl, Rect.mem_set_of_eq_emb _ (ix3 0 r j) (emb8 6 (inb8w 6) r j)⟩
  · exact ⟨_, List.mem_of_getElem? (i := 8) rfl, Rect.mem_set_of_eq_emb _ (ix3 0 r j) (emb8 7 (inb8w 7) r j)⟩
  · exact ⟨_, List.mem_of_getElem? (i := 7) rfl, Rect.mem_set_of_eq_emb _ (ix3 0 r j) (emb8 8 (inb8w 8) r j)⟩
  · exact ⟨_, List.mem_of_getElem? (i := 6) rfl, Rect.mem_set_of_eq_emb _ (ix3 0 r j) (emb8 9 (inb8w 9) r j)⟩
  · exact ⟨_, List.mem_of_getElem? (i := 5) rfl, Rect.mem_set_of_eq_emb _ (ix3 0 r j) (emb8 10 (inb8w 10) r j)⟩
  · exact ⟨_, List.mem_of_getElem? (i := 4) rfl, Rect.mem_set_of_eq_emb _ (ix3 0 r j) (emb8 11 (inb8w 11) r j)⟩
  · exact ⟨_, List.mem_of_getElem? (i := 3) rfl, Rect.mem_set_of_eq_emb _ (ix3 0 r j) (emb8 12 (inb8w 12) r j)⟩
  · exact ⟨_, List.mem_of_getElem? (i := 2) rfl, Rect.mem_set_of_eq_emb _ (ix3 0 r j) (emb8 13 (inb8w 13) r j)⟩
  · exact ⟨_, List.mem_of_getElem? (i := 1) rfl, Rect.mem_set_of_eq_emb _ (ix3 0 r j) (emb8 14 (inb8w 14) r j)⟩
  · exact ⟨_, List.mem_of_getElem? (i := 0) rfl, Rect.mem_set_of_eq_emb _ (ix3 0 r j) (emb8 15 (inb8w 15) r j)⟩

end Cert.KernelIdeal.Fox

end
-- ==== Proof.FoxMath.lean ====
/-
  Attention with a running maximum: the sums kept against the running maximum are the sums against the last one, and the
  quotient of two such sums does not depend on what the exponents are taken against.
-/
module

public import Idealize.ShloMosaic.PureOps.Ideal

@[expose] public section

noncomputable section

namespace Cert.FoxMath

open Idealize.ShloMosaic

/-- Two to the score less `M`, zero at a masked score. -/
def e2 (s : EReal) (M : ℝ) : ℝ := if s = ⊥ then 0 else (2 : ℝ) ^ (s.toReal - M)

theorem e2_bot (M : ℝ) : e2 ⊥ M = 0 := if_pos rfl

theorem e2_coe (s M : ℝ) : e2 (s : EReal) M = (2 : ℝ) ^ (s - M) := by
  unfold e2
  rw [if_neg (EReal.coe_ne_bot s), EReal.toReal_coe]

theorem e2_nonneg (s : EReal) (M : ℝ) : 0 ≤ e2 s M := by
  unfold e2
  split
  · exact le_rfl
  · positivity

theorem exp2_sub (s : EReal) (hs : s ≠ ⊤) (M : ℝ) : Ideal.exp2 (s - (M : EReal)) = (e2 s M : EReal) := by
  induction s with
  | bot => rw [e2_bot, EReal.bot_sub]; rfl
  | top => exact absurd rfl hs
  | coe x => rw [e2_coe, ← EReal.coe_sub]; rfl

theorem exp_sub (s : EReal) (hs : s ≠ ⊤) (R : ℝ) :
    Ideal.exp (s * ((Real.log 2 : ℝ) : EReal) - (R : EReal)) = (e2 s (R / Real.log 2) : EReal) := by
  have hl : 0 < Real.log 2 := Real.log_pos (by norm_num)
  induction s with
  | bot => rw [e2_bot, EReal.bot_mul_coe_of_pos hl, EReal.bot_sub]; rfl
  | top => exact absurd rfl hs
  | coe x =>
    rw [e2_coe, ← EReal.coe_mul, ← EReal.coe_sub]
    refine congrArg ((↑) : ℝ → EReal) (?_ : Real.exp _ = _)
    rw [Real.rpow_def_of_pos (by norm_num : (0:ℝ) < 2)]
    congr 1
    field_simp

theorem e2_shift (s : EReal) (M M' : ℝ) : (2 : ℝ) ^ (M - M') * e2 s M = e2 s M' := by
  unfold e2
  split
  · exact mul_zero _
  · rw [← Real.rpow_add (by norm_num : (0:ℝ) < 2)]
    congr 1
    ring

theorem coe_sum {ι : Type} (t : Finset ι) (f : ι → ℝ) : ((∑ i ∈ t, f i : ℝ) : EReal) = ∑ i ∈ t, (f i : EReal) :=
  map_sum (⟨⟨(↑), EReal.coe_zero⟩, EReal.coe_add⟩ : ℝ →+ EReal) f t

/-- One step: scaling the sum by the change of the maximum. -/
theorem rescale {ι : Type} (t : Finset ι) (s : ι → EReal) (w : ι → ℝ) (m m' : EReal) (hle : ∀ i ∈ t, s i ≤ m)
    (hm : m ≤ m') (hm' : m' ≠ ⊤) :
    Ideal.exp2 (m - m') * ∑ i ∈ t, (w i : EReal) * Ideal.exp2 (s i - m) = ∑ i ∈ t, (w i : EReal) * Ideal.exp2 (s i - m') := by
  induction m with
  | bot =>
    have h0 : ∀ x : EReal, Ideal.exp2 (⊥ - x) = 0 := fun x => by rw [EReal.bot_sub]; rfl
    rw [h0, zero_mul, Finset.sum_eq_zero]
    intro i hi
    rw [le_bot_iff.mp (hle i hi), h0, mul_zero]
  | top => exact absurd (top_le_iff.mp hm) hm'
  | coe M =>
    obtain ⟨M', rfl⟩ : ∃ M' : ℝ, m' = M' := by
      induction m' with
      | bot => exact absurd (le_bot_iff.mp hm) (EReal.coe_ne_bot M)
      | top => exact absurd rfl hm'
      | coe M' => exact ⟨M', rfl⟩
    have hs : ∀ i ∈ t, s i ≠ ⊤ := fun i hi h => by
      have := hle i hi
      rw [h] at this
      exact EReal.coe_ne_top M (top_le_iff.mp this)
    have key : ∀ X : ℝ, ∑ i ∈ t, (w i : EReal) * Ideal.exp2 (s i - X) = ((∑ i ∈ t, w i * e2 (s i) X : ℝ) : EReal) := by
      intro X
      rw [coe_sum]
      exact Finset.sum_congr rfl fun i hi => by rw [exp2_sub _ (hs i hi), EReal.coe_mul]
    rw [exp2_sub _ (EReal.coe_ne_top M), e2_coe, key, key, ← EReal.coe_mul, Finset.mul_sum]
    refine congrArg _ (Finset.sum_congr rfl fun i _ => ?_)
    rw [← e2_shift (s i) M M']
    ring

/-- THE LOOP'S INVARIANT. -/
theorem online (N : ℕ) (m a : ℕ → EReal) (s : ℕ → Fin 256 → EReal) (w : ℕ → Fin 256 → ℝ)
    (m0 : m 0 = ⊥) (a0 : a 0 = 0) (hs : ∀ n < N, ∀ r, s n r ≠ ⊤)
    (hm : ∀ n < N, m (n + 1) = max (m n) (Finset.univ.sup (s n)))
    (ha : ∀ n < N, a (n + 1) = Ideal.exp2 (m n - m (n + 1)) * a n + ∑ r, (w n r : EReal) * Ideal.exp2 (s n r - m (n + 1))) :
    ∀ n ≤ N, m n ≠ ⊤ ∧ (∀ t < n, ∀ r, s t r ≤ m n) ∧
      a n = ∑ p ∈ Finset.range n ×ˢ Finset.univ, (w p.1 p.2 : EReal) * Ideal.exp2 (s p.1 p.2 - m n) := by
  intro n
  induction n with
  | zero => intro _; exact ⟨by rw [m0]; exact bot_ne_top, fun t ht => absurd ht (Nat.not_lt_zero _), by simp [a0]⟩
  | succ n ih =>
    intro hn
    obtain ⟨h1, h2, h3⟩ := ih (Nat.le_of_succ_le hn)
    have hle : m n ≤ m (n + 1) := by rw [hm n hn]; exact le_max_left _ _
    have hsn : ∀ r, s n r ≤ m (n + 1) := fun r => by
      rw [hm n hn]; exact (Finset.le_sup (Finset.mem_univ r)).trans (le_max_right _ _)
    have htop : m (n + 1) ≠ ⊤ := by
      rw [hm n hn]
      refine ne_of_lt (max_lt (lt_top_iff_ne_top.mpr h1) ?_)
      exact (Finset.sup_lt_iff bot_lt_top).mpr fun r _ => lt_top_iff_ne_top.mpr (hs n hn r)
    refine ⟨htop, fun t ht r => ?_, ?_⟩
    · rcases Nat.lt_succ_iff_lt_or_eq.mp ht with h | rfl
      · exact (h2 t h r).trans hle
      · exact hsn r
    · rw [ha n hn, h3, rescale _ (fun p : ℕ × Fin 256 => s p.1 p.2) (fun p => w p.1 p.2) (m n) (m (n + 1)) ?_ hle htop]
      · rw [Finset.sum_product, Finset.sum_product, Finset.sum_range_succ]
      · intro p hp
        exact h2 p.1 (Finset.mem_range.mp (Finset.mem_product.mp hp).1) p.2

/-- The attention output: the values weighted by two to the scores. -/
def att {ι : Type} [Fintype ι] (s : ι → EReal) (v : ι → ℝ) : ℝ := (∑ i, v i * e2 (s i) 0) / ∑ i, e2 (s i) 0

theorem att_shift {ι : Type} (t : Finset ι) (s : ι → EReal) (v : ι → ℝ) (M M' : ℝ) :
    (∑ i ∈ t, v i * e2 (s i) M) / ∑ i ∈ t, e2 (s i) M = (∑ i ∈ t, v i * e2 (s i) M') / ∑ i ∈ t, e2 (s i) M' := by
  have hc : ((2 : ℝ) ^ (M - M')) ≠ 0 := (by positivity : (0:ℝ) < _).ne'
  rw [← mul_div_mul_left _ _ hc, Finset.mul_sum, Finset.mul_sum]
  congr 1
  · refine Finset.sum_congr rfl fun i _ => ?_
    rw [← e2_shift (s i) M M']; ring
  · exact Finset.sum_congr rfl fun i _ => e2_shift (s i) M M'

theorem sum_e2_pos {ι : Type} (t : Finset ι) (s : ι → EReal) (M : ℝ) (i₀ : ι) (hi : i₀ ∈ t) (h : s i₀ ≠ ⊥) :
    0 < ∑ i ∈ t, e2 (s i) M := by
  refine Finset.sum_pos' (fun i _ => e2_nonneg _ _) ⟨i₀, hi, ?_⟩
  unfold e2
  rw [if_neg h]
  positivity

theorem sum_e2 {ι : Type} (t : Finset ι) (s : ι → EReal) (w : ι → ℝ) (hs : ∀ i ∈ t, s i ≠ ⊤) (M : ℝ) :
    ∑ i ∈ t, (w i : EReal) * Ideal.exp2 (s i - M) = ((∑ i ∈ t, w i * e2 (s i) M : ℝ) : EReal) := by
  rw [coe_sum]
  exact Finset.sum_congr rfl fun i hi => by rw [exp2_sub _ (hs i hi), EReal.coe_mul]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The quotient of two sums kept by the loop. -/
theorem quotient (N : ℕ) (s : ℕ → Fin 256 → EReal) (v : ℕ → Fin 256 → ℝ) (mN aN lN : EReal) (hs : ∀ n < N, ∀ r, s n r ≠ ⊤)
    (htop : mN ≠ ⊤) (hle : ∀ t < N, ∀ r, s t r ≤ mN) (t₀ : ℕ) (ht : t₀ < N) (r₀ : Fin 256) (h0 : s t₀ r₀ ≠ ⊥)
    (ha : aN = ∑ p ∈ Finset.range N ×ˢ Finset.univ, (v p.1 p.2 : EReal) * Ideal.exp2 (s p.1 p.2 - mN))
    (hl : lN = ∑ p ∈ Finset.range N ×ˢ Finset.univ, ((1 : ℝ) : EReal) * Ideal.exp2 (s p.1 p.2 - mN)) :
    Ideal.div aN lN = (((∑ p ∈ Finset.range N ×ˢ (Finset.univ : Finset (Fin 256)), v p.1 p.2 * e2 (s p.1 p.2) 0)
      / ∑ p ∈ Finset.range N ×ˢ (Finset.univ : Finset (Fin 256)), e2 (s p.1 p.2) 0 : ℝ) : EReal) := by
  obtain ⟨M, rfl⟩ : ∃ M : ℝ, mN = M := by
    induction mN with
    | bot => exact absurd (le_bot_iff.mp (hle t₀ ht r₀)) h0
    | top => exact absurd rfl htop
    | coe M => exact ⟨M, rfl⟩
  have hs' : ∀ p ∈ Finset.range N ×ˢ (Finset.univ : Finset (Fin 256)), s p.1 p.2 ≠ ⊤ := fun p hp =>
    hs p.1 (Finset.mem_range.mp (Finset.mem_product.mp hp).1) p.2
  rw [ha, hl, sum_e2 _ (fun p : ℕ × Fin 256 => s p.1 p.2) (fun p => v p.1 p.2) hs',
    sum_e2 _ (fun p : ℕ × Fin 256 => s p.1 p.2) (fun _ => 1) hs', div_coe]
  · simp only [one_mul]
    exact congrArg _ (att_shift _ (fun p : ℕ × Fin 256 => s p.1 p.2) (fun p => v p.1 p.2) M 0)
  · simp only [one_mul]
    exact (sum_e2_pos _ (fun p : ℕ × Fin 256 => s p.1 p.2) M (t₀, r₀)
      (Finset.mem_product.mpr ⟨Finset.mem_range.mpr ht, Finset.mem_univ _⟩) h0).ne'

/-- The loop's tiles, counted back from tile `b`, are the tiles up to `b`; a tile past `b` is masked. -/
theorem tiles (b : ℕ) (hb : b < 16) (s : Fin 16 → Fin 256 → EReal) (g : Fin 16 → Fin 256 → ℝ)
    (hz : ∀ n : Fin 16, b < n → ∀ r, g n r = 0) (g' : ℕ → Fin 256 → ℝ)
    (hg : ∀ n (hn : n ≤ b) (r), g' n r = g ⟨b - n, by omega⟩ r) :
    ∑ p ∈ Finset.range (b + 1) ×ˢ (Finset.univ : Finset (Fin 256)), g' p.1 p.2 = ∑ p : Fin 16 × Fin 256, g p.1 p.2 := by
  rw [Finset.sum_product, Fintype.sum_prod_type]
  have h1 : ∀ n ∈ Finset.range (b + 1), ∑ r, g' n r = (fun k => if h : k < 16 then ∑ r, g ⟨k, h⟩ r else 0) (b + 1 - 1 - n) := by
    intro n hn
    have hn' : n ≤ b := Nat.lt_succ_iff.mp (Finset.mem_range.mp hn)
    show _ = if h : b + 1 - 1 - n < 16 then _ else _
    rw [dif_pos (by omega)]
    exact Finset.sum_congr rfl fun r _ => by rw [hg n hn' r]; rfl
  refine (Finset.sum_congr rfl h1).trans ((Finset.sum_range_reflect
    (fun k => if h : k < 16 then ∑ r, g ⟨k, h⟩ r else 0) (b + 1)).trans ?_)
  have h2 : ∑ n : Fin 16, ∑ r, g n r = ∑ k ∈ Finset.range 16, (if h : k < 16 then ∑ r, g ⟨k, h⟩ r else 0) := by
    rw [← Fin.sum_univ_eq_sum_range (fun k => if h : k < 16 then ∑ r, g ⟨k, h⟩ r else 0)]
    exact Finset.sum_congr rfl fun n _ => by rw [dif_pos n.isLt]
  refine Eq.trans ?_ h2.symm
  refine Finset.sum_subset (fun k hk => Finset.mem_range.mpr (by have := Finset.mem_range.mp hk; omega)) fun k hk hk' => ?_
  have h16 := Finset.mem_range.mp hk
  have hb' : b < k := by
    by_contra h
    exact hk' (Finset.mem_range.mpr (by omega))
  rw [dif_pos h16]
  exact Finset.sum_eq_zero fun r _ => hz ⟨k, h16⟩ hb' r

end Cert.FoxMath

end
-- ==== Proof.FoxLoop.lean ====
/-
  The attention loop, all its trips: the sums it keeps, against the last running maximum.
-/
module

public import proofs.«01_k».proof.Proof.FoxSem
public import proofs.«01_k».proof.Proof.FoxMath
public import Idealize.ShloMosaic.Lib.Pipeline.ReadBack
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal.Head Cert.FoxMath

/-- The weight of the value feature `e`: the feature, or one past the features. -/
def wOf (V : Fin 64 → Fin 256 → ℝ) (e : Fin 80) (r : Fin 256) : ℝ := if h : (e : ℕ) < 64 then V ⟨e, h⟩ r else 1

theorem tileSum_coe (V : Fin 64 → Fin 256 → EReal) (V' : Fin 64 → Fin 256 → ℝ) (hV : ∀ e r, V e r = V' e r)
    (s : Fin 256 → EReal) (M : EReal) (e : Fin 80) :
    tileSum V s M e = ∑ r, (wOf V' e r : EReal) * Ideal.exp2 (s r - M) := by
  refine Finset.sum_congr rfl fun r _ => ?_
  unfold wOf
  split
  · rw [hV]
  · rw [EReal.coe_one]

/-- The scores of the loop's tiles: those before the loop, and those each trip leaves for the next. -/
def scoreOf (s₀ : Fin 256 → EReal) (K : Fin 16 → Fin 256 → Fin 128 → EReal) (q : Fin 128 → EReal) (b : Fin 16) (n : ℕ)
    (r : Fin 256) : EReal := if n = 0 then s₀ r else ∑ d : Fin 128, K ⟨(b : ℕ) - n, by omega⟩ r d * q d

theorem loop_sums (𝒱 : Variants) (c : Dev nD) (bd : Option 𝒱.V) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole) (v16 : BitVec 32) (v36 : FVec Ideal S128x256 .bf16) (v37 : FVec Ideal S128x256 .bf16) (v38 : FVec Ideal S128x256 .bf16) (v39 : FVec Ideal S128x256 .bf16) (v40 : FVec Ideal S128x256 .bf16) (v41 : FVec Ideal S128x256 .bf16) (v42 : FVec Ideal S128x256 .bf16) (v43 : FVec Ideal S128x256 .bf16) (v44 : FVec Ideal S128x256 .bf16) (v45 : FVec Ideal S128x256 .bf16) (v46 : FVec Ideal S128x256 .bf16) (v47 : FVec Ideal S128x256 .bf16) (v48 : FVec Ideal S128x256 .bf16) (v49 : FVec Ideal S128x256 .bf16) (v50 : FVec Ideal S128x256 .bf16) (v51 : FVec Ideal S128x256 .bf16) (v65 : BitVec 32) (c1_i32_118 : BitVec 32) (v246 : BitVec 32) (X_arg4 : BufTy.Contents (Elt Ideal) arg4.view.ty) (X_arg5 : BufTy.Contents (Elt Ideal) arg5.view.ty) (G_arg8 : BufTy.Contents (Elt Ideal) arg8.view.ty) (G_arg9 : BufTy.Contents (Elt Ideal) arg9.view.ty) (init : Carried Ideal) (h : Fin 16) (j : Fin 256)
    (hi : row init h (ix2 0 j) = ⊥) (h9 : ∀ e, at9 arg9 G_arg9 h e j = 0)
    (V : Fin 16 → Fin 64 → Fin 256 → ℝ) (hV : ∀ n e r, atV arg5 X_arg5 n h e r = V n e r)
    (hs : ∀ n < (k0_t1_loop i).trips, ∀ r, scoreOf (fun r => at8 arg8 G_arg8 h r j) (fun n => atK arg4 X_arg4 n h)
      (fun d => ![v36, v37, v38, v39, v40, v41, v42, v43, v44, v45, v46, v47, v48, v49, v50, v51] h (ix2 d j)) (tileOf i 0) n r ≠ ⊤) :
    ∃ M : EReal, M ≠ ⊤ ∧ (∀ t < (k0_t1_loop i).trips, ∀ r, scoreOf (fun r => at8 arg8 G_arg8 h r j)
        (fun n => atK arg4 X_arg4 n h) (fun d => ![v36, v37, v38, v39, v40, v41, v42, v43, v44, v45, v46, v47, v48, v49, v50, v51] h (ix2 d j)) (tileOf i 0) t r ≤ M) ∧
      ∀ e, at9 arg9 (arg9.view.writes (Elt Ideal) G_arg9 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (k0_t1_loop i).trips).2.2) h e j
        = ∑ p ∈ Finset.range (k0_t1_loop i).trips ×ˢ Finset.univ, (wOf (V (tileOf i p.1)) e p.2 : EReal)
          * Ideal.exp2 (scoreOf (fun r => at8 arg8 G_arg8 h r j) (fun n => atK arg4 X_arg4 n h)
            (fun d => ![v36, v37, v38, v39, v40, v41, v42, v43, v44, v45, v46, v47, v48, v49, v50, v51] h (ix2 d j)) (tileOf i 0) p.1 p.2 - M) := by
  have hsc : ∀ n, n < (k0_t1_loop i).trips → ∀ r, at8 arg8 (arg8.view.writes (Elt Ideal) G_arg8 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.1) h r j
      = scoreOf (fun r => at8 arg8 G_arg8 h r j) (fun n => atK arg4 X_arg4 n h) (fun d => ![v36, v37, v38, v39, v40, v41, v42, v43, v44, v45, v46, v47, v48, v49, v50, v51] h (ix2 d j)) (tileOf i 0) n r := by
    intro n hn r
    cases n with
    | zero => rfl
    | succ n =>
      have hk : n < (k0_t1_loop i).trips := Nat.lt_of_succ_lt hn
      have e := st_k0_t1_succ (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init ⟨n, hk⟩
      have e' := congrArg (fun x => x.2.1) e
      rw [show (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (n + 1)).2.1 = _ from e']
      show at8 arg8 (arg8.view.writes (Elt Ideal) G_arg8 (_ ++ _)) h r j = _
      rw [View.writes_append]
      refine (scores_at' 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 ⟨n, hk⟩ (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).1 (arg8.view.writes (Elt Ideal) G_arg8 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.1) (arg9.view.writes (Elt Ideal) G_arg9 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.2) h r j).trans ?_
      have ht := trips_eq i
      unfold G8 scoreOf
      rw [if_neg (Nat.succ_ne_zero n)]
      have hmin : min (n + 1) (i 2 : ℕ) = n + 1 := min_eq_left (by omega)
      refine Finset.sum_congr rfl fun d _ => ?_
      have htile : tileOf i (min (n + 1) (i 2 : ℕ)) = ⟨((tileOf i 0 : Fin 16) : ℕ) - (n + 1), by omega⟩ := by
        rw [hmin]; rfl
      show atK arg4 X_arg4 (tileOf i (min (n + 1) (i 2 : ℕ))) h r d * ![v36, v37, v38, v39, v40, v41, v42, v43, v44, v45, v46, v47, v48, v49, v50, v51] h (ix2 d j) = _
      rw [htile]
  have key := fun e : Fin 80 => online (k0_t1_loop i).trips (fun n => row (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).1 h (ix2 0 j))
    (fun n => at9 arg9 (arg9.view.writes (Elt Ideal) G_arg9 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.2) h e j)
    (scoreOf (fun r => at8 arg8 G_arg8 h r j) (fun n => atK arg4 X_arg4 n h) (fun d => ![v36, v37, v38, v39, v40, v41, v42, v43, v44, v45, v46, v47, v48, v49, v50, v51] h (ix2 d j)) (tileOf i 0))
    (fun n => wOf (V (tileOf i n)) e) hi (h9 e) hs ?_ ?_ _ le_rfl
  · exact ⟨_, (key 0).1, (key 0).2.1, fun e => (key e).2.2⟩
  · intro n hn
    have e1 := congrArg (fun x => x.1) (st_k0_t1_succ (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init ⟨n, hn⟩)
    show row (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (n + 1)).1 h (ix2 0 j) = _
    rw [show (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (n + 1)).1 = _ from e1]
    refine (carried_at 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 ⟨n, hn⟩ (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).1 (arg8.view.writes (Elt Ideal) G_arg8 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.1) (arg9.view.writes (Elt Ideal) G_arg9 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.2) h j).trans ?_
    exact congrArg (fun f => max _ (Finset.univ.sup f)) (funext fun r => hsc n hn r)
  · intro n hn
    have e1 := congrArg (fun x => x.1) (st_k0_t1_succ (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init ⟨n, hn⟩)
    have e2 := congrArg (fun x => x.2.2) (st_k0_t1_succ (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init ⟨n, hn⟩)
    show at9 arg9 (arg9.view.writes (Elt Ideal) G_arg9 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (n + 1)).2.2) h e j = Ideal.exp2 (_ - row (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (n + 1)).1 h (ix2 0 j)) * _ + ∑ r, _ * Ideal.exp2 (_ - row (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (n + 1)).1 h (ix2 0 j))
    rw [show (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (n + 1)).2.2 = _ from e2, show (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init (n + 1)).1 = _ from e1]
    show at9 arg9 (arg9.view.writes (Elt Ideal) G_arg9 (_ ++ _)) h e j = _
    rw [View.writes_append]
    refine (accs_at 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 ⟨n, hn⟩ (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).1 (arg8.view.writes (Elt Ideal) G_arg8 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.1) (arg9.view.writes (Elt Ideal) G_arg9 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.2) h e j).trans ?_
    rw [← tileSum_coe (atV arg5 X_arg5 (tileOf i n) h) _ (hV _)]
    rw [show row _ h (ix2 0 j) = _ from carried_at 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 ⟨n, hn⟩ (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).1 (arg8.view.writes (Elt Ideal) G_arg8 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.1) (arg9.view.writes (Elt Ideal) G_arg9 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.2) h j]
    unfold G9
    have hx : (fun r => at8 arg8 (arg8.view.writes (Elt Ideal) G_arg8 (st_k0_t1 (F := Ideal) 𝒱 c bd i arg3 harg3 arg4 harg4 arg5 harg5 arg6 harg6 arg7 harg7 arg8 harg8 arg9 harg9 v16 v36 v37 v38 v39 v40 v41 v42 v43 v44 v45 v46 v47 v48 v49 v50 v51 v65 c1_i32_118 v246 X_arg4 X_arg5 G_arg8 G_arg9 init n).2.1) h r j) = _ := funext fun r => hsc n hn r
    rw [← hx]
    rfl

end Cert.KernelIdeal.Fox

end
-- ==== Proof.FoxVal.lean ====
/-
  What the attention kernel stores, on the extended reals, entry by entry.
-/
module

public import proofs.«01_k».proof.Proof.FoxBody
public import proofs.«01_k».proof.Proof.FoxLoop
public import Idealize.ShloMosaic.Lib.Pipeline.ReadBack
public import Idealize.ShloMosaic.Lib.Pointwise
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal.Head

open Cert.FoxMath

theorem ratio_at (a : FVec Ideal S1x64x256 .f32) (l : FVec Ideal S1x1x256 .f32) (e : Fin 64) (j : Fin 256) :
    ratio a l (ix2 e j) = Ideal.div (a (ix3 0 e j)) (l (ix3 0 0 j)) := by
  pointwise [ratio]

theorem cast_at (C : FVec Ideal S1024x256 .f32) (n : Fin 1024) (j : Fin 256) :
    shapeCast S1x1024x256 (truncf (F := Ideal) (φ := .f32) .bf16 C bitsLt_bf16_f32) shapeCasts_S1024x256_S1x1024x256 (ix3 0 n j) = C (ix2 n j) := by
  pointwise

theorem block_at (f : Fin 16 → FVec Ideal S64x256 .f32) (h : Fin 16) (e : Fin 64) (j : Fin 256) :
    block f (ix3 0 ⟨64 * h + e, by omega⟩ j) = f h (ix2 e j) := by
  have e1 := concatenate_ofFn_apply (t := S1024x256) (s₁ := S64x256) 0 (N := 16) f
    concatenates_S64x256_S64x256_S64x256_S64x256_S64x256_S64x256_S64x256_S64x256_S64x256_S64x256_S64x256_S64x256_S64x256_S64x256_S64x256_S64x256_S1024x256_d0
    rfl 64 rfl (ix2 ⟨64 * h + e, by omega⟩ j) h (by show (64 * (h : ℕ) + e) / 64 = h; omega) (ix2 e j)
    (by show (e : ℕ) = (64 * (h : ℕ) + e) % 64; omega)
    (fun b hb => by
      fin_cases b
      · exact absurd rfl hb
      · rfl)
  refine Eq.trans ?_ e1
  exact cast_at _ _ _

theorem diag_at (k : FVec Ideal S1x256x128 .bf16) (q : FVec Ideal S128x256 .bf16) (cm : FVec Ideal S1x256x256 .f32) (r j : Fin 256) :
    diag k q cm (ix3 0 r j) = (∑ d : Fin 128, k (ix3 0 r d) * q (ix2 d j)) + cm (ix3 0 r j) := by
  pointwise [diag]

theorem mask_at (h : Fin 16) (j : Fin 256) : row (masks (F := Ideal)) h (ix2 0 j) = ⊥ := by
  have e : ∀ y : S1x256.Idx, (broadcast S1x256 (Named.named (F := Ideal) κ "mask" (φ := .f32) 0xF149F2CA#32) : FVec Ideal S1x256 .f32) y = ⊥ := fun y => rfl
  fin_cases h <;> exact e (ix2 0 j)

/-- A lane of head `h`: a query feature, or one. -/
def lane (h : Fin 16) (Q : Fin 64 → ℝ) (d : Fin 128) : ℝ :=
  if (h : ℕ) % 2 = 0 then (if hd : (d : ℕ) < 64 then Q ⟨d, hd⟩ else 1)
  else (if hd : (d : ℕ) < 64 then 1 else Q ⟨d - 64, by omega⟩)

theorem one_at (d : Fin 64) (j : Fin 256) : (k0_pay637 (F := Ideal)) (ix2 d j) = 1 := by
  pointwise [k0_pay637]

theorem part_at (x : FVec Ideal S1x1x1024x256 .bf16) (h : Fin 16) (d : Fin 64) (j : Fin 256) :
    extractStridedSlice S64x256 ![64 * (h : ℕ), 0] (k0_pay636 x) (slicesQ h) (ix2 d j) = x (ix4 0 0 ⟨64 * h + d, by omega⟩ j) := by
  fin_cases h <;> pointwise [k0_pay636]

theorem qEven_at (x : FVec Ideal S1x1x1024x256 .bf16) (h : Fin 16) (d : Fin 128) (j : Fin 256) :
    qEven x h (ix2 d j) = if hd : (d : ℕ) < 64 then x (ix4 0 0 ⟨64 * h + d, by omega⟩ j) else 1 := by
  have e1 := concatenate_ofFn_apply (t := S128x256) (s₁ := S64x256) 0 (N := 2)
    ![extractStridedSlice S64x256 ![64 * (h : ℕ), 0] (k0_pay636 x) (slicesQ h), k0_pay637 (F := Ideal)]
    concatenates_S64x256_S64x256_S128x256_d0
    rfl 64 rfl (ix2 d j) ⟨d / 64, by omega⟩ rfl (ix2 ⟨d % 64, Nat.mod_lt _ (by decide)⟩ j) rfl
    (fun b hb => by
      fin_cases b
      · exact absurd rfl hb
      · rfl)
  refine (show qEven x h (ix2 d j) = _ from e1).trans ?_
  split
  · rename_i hd
    rw [show (⟨(d : ℕ) / 64, by omega⟩ : Fin 2) = 0 from Fin.ext (by show (d : ℕ) / 64 = 0; omega)]
    refine (part_at x h _ j).trans ?_
    exact congrArg (fun n => x (ix4 0 0 n j)) (Fin.ext (by show 64 * (h : ℕ) + d % 64 = 64 * h + d; omega))
  · rw [show (⟨(d : ℕ) / 64, by omega⟩ : Fin 2) = 1 from Fin.ext (by show (d : ℕ) / 64 = 1; omega)]
    exact one_at ⟨d % 64, Nat.mod_lt _ (by decide)⟩ j

theorem qOdd_at (x : FVec Ideal S1x1x1024x256 .bf16) (h : Fin 16) (d : Fin 128) (j : Fin 256) :
    qOdd x h (ix2 d j) = if hd : (d : ℕ) < 64 then 1 else x (ix4 0 0 ⟨64 * h + (d - 64), by omega⟩ j) := by
  have e1 := concatenate_ofFn_apply (t := S128x256) (s₁ := S64x256) 0 (N := 2)
    ![k0_pay637 (F := Ideal), extractStridedSlice S64x256 ![64 * (h : ℕ), 0] (k0_pay636 x) (slicesQ h)]
    concatenates_S64x256_S64x256_S128x256_d0
    rfl 64 rfl (ix2 d j) ⟨d / 64, by omega⟩ rfl (ix2 ⟨d % 64, Nat.mod_lt _ (by decide)⟩ j) rfl
    (fun b hb => by
      fin_cases b
      · exact absurd rfl hb
      · rfl)
  refine (show qOdd x h (ix2 d j) = _ from e1).trans ?_
  split
  · rw [show (⟨(d : ℕ) / 64, by omega⟩ : Fin 2) = 0 from Fin.ext (by show (d : ℕ) / 64 = 0; omega)]
    exact one_at ⟨d % 64, Nat.mod_lt _ (by decide)⟩ j
  · rw [show (⟨(d : ℕ) / 64, by omega⟩ : Fin 2) = 1 from Fin.ext (by show (d : ℕ) / 64 = 1; omega)]
    refine (part_at x h _ j).trans ?_
    exact congrArg (fun n => x (ix4 0 0 n j)) (Fin.ext (by show 64 * (h : ℕ) + d % 64 = 64 * h + (d - 64); omega))

theorem qs_at (x : FVec Ideal S1x1x1024x256 .bf16) (h : Fin 16) (j : Fin 256) (Q : Fin 64 → ℝ)
    (hQ : ∀ d : Fin 64, x (ix4 0 0 ⟨64 * h + d, by omega⟩ j) = Q d) (d : Fin 128) : qs x h (ix2 d j) = lane h Q d := by
  have he : (h : ℕ) % 2 = 0 → qEven x h (ix2 d j) = lane h Q d := fun hh => by
    rw [qEven_at]; unfold lane; rw [if_pos hh]
    split
    · rename_i hd; exact hQ ⟨d, hd⟩
    · rfl
  have ho : (h : ℕ) % 2 = 1 → qOdd x h (ix2 d j) = lane h Q d := fun hh => by
    rw [qOdd_at]; unfold lane; rw [if_neg (by omega)]
    split
    · rfl
    · exact hQ ⟨d - 64, by omega⟩
  fin_cases h
  · exact he rfl
  · exact ho rfl
  · exact he rfl
  · exact ho rfl
  · exact he rfl
  · exact ho rfl
  · exact he rfl
  · exact ho rfl
  · exact he rfl
  · exact ho rfl
  · exact he rfl
  · exact ho rfl
  · exact he rfl
  · exact ho rfl
  · exact he rfl
  · exact ho rfl

theorem ldQ_at (arg3 : Memref sig .tc .vmem S1x1x1024x256 .bf16) (harg3 : arg3.IsWhole) (x0 : Vec Ideal S1x1x1024x256 .bf16)
    (n : Fin 1024) (j : Fin 256) : ldQ arg3 harg3 x0 (ix4 0 0 n j) = x0 (ix4 0 0 n j) := by
  refine (congrArg (View.read (Elt Ideal) arg3.view (harg3.unread x0)) (funext fun b => Fin.ext ?_)).trans
    (congrFun (harg3.read_unread x0) (ix4 0 0 n j))
  fin_cases b
  · rfl
  · rfl
  · show 0 + 1 * (n : ℕ) = n; omega
  · show 0 + 1 * (j : ℕ) = j; omega

theorem ldC_at (arg6 : Memref sig .tc .vmem S1x256x256 .f32) (harg6 : arg6.IsWhole) (x3 : Vec Ideal S1x256x256 .f32)
    (off : Fin 3 → ℕ) (inb) (ho : off = ![0, 0, 0]) (r j : Fin 256) :
    View.readAt (Elt Ideal) arg6.view (Rect.unit (s := S1x256x256) off S1x256x256.size inb).toLoadRect (harg6.unread x3) (ix3 0 r j)
      = x3 (ix3 0 r j) := by
  subst ho
  refine (congrArg (View.read (Elt Ideal) arg6.view (harg6.unread x3)) (funext fun b => Fin.ext ?_)).trans
    (congrFun (harg6.read_unread x3) (ix3 0 r j))
  fin_cases b
  · rfl
  · show 0 + 1 * (r : ℕ) = r; omega
  · show 0 + 1 * (j : ℕ) = j; omega

/-- The scores before the loop, entry by entry. -/
def G0 (arg4 : Memref sig .tc .vmem S1x4096x2048 .bf16) (X : BufTy.Contents (Elt Ideal) arg4.view.ty)
    (q : Fin 16 → FVec Ideal S128x256 .bf16) (cm : Vec Ideal S1x256x256 .f32) (n : Fin 16) (y : S16x256x256.Idx) : EReal :=
  (∑ d : Fin 128, atK arg4 X n (y 0) (y 1) d * q (y 0) (ix2 d (y 2))) + cm (ix3 0 (y 1) (y 2))

theorem diag_ld (arg4 : Memref sig .tc .vmem S1x4096x2048 .bf16) (X : BufTy.Contents (Elt Ideal) arg4.view.ty)
    (q : FVec Ideal S128x256 .bf16) (n h : Fin 16) (off : Fin 3 → ℕ) (inb) (ho : off = ![0, 256 * (n : ℕ), 128 * (h : ℕ)])
    (arg6 : Memref sig .tc .vmem S1x256x256 .f32) (harg6 : arg6.IsWhole) (x3 : Vec Ideal S1x256x256 .f32)
    (off' : Fin 3 → ℕ) (inb') (ho' : off' = ![0, 0, 0]) (r j : Fin 256) :
    diag (View.readAt (Elt Ideal) arg4.view (Rect.unit (s := S1x4096x2048) off S1x256x128.size inb).toLoadRect X) q
        (View.readAt (Elt Ideal) arg6.view (Rect.unit (s := S1x256x256) off' S1x256x256.size inb').toLoadRect (harg6.unread x3)) (ix3 0 r j)
      = (∑ d : Fin 128, atK arg4 X n h r d * q (ix2 d j)) + x3 (ix3 0 r j) := by
  rw [diag_at, ldC_at arg6 harg6 x3 off' inb' ho']
  simp only [ldK_at arg4 X n h off inb ho]

theorem first_at (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec Ideal S1x1x1024x256 .bf16) (x1 : Vec Ideal S1x4096x2048 .bf16) (x2 : Vec Ideal S1x16x1024x256 .bf16) (x3 : Vec Ideal S1x256x256 .f32) (h : Fin 16) (r j : Fin 256) :
    at8 arg8 (arg8.view.writes (Elt Ideal) arg8.view.junk (kernelRun0_A.sl.HS0_16 (F := Ideal) c i arg3 harg3 arg4 harg4 arg6 harg6 x0 x1 x3)) h r j
      = G0 arg4 (harg4.unread x1) (qs (ldQ arg3 harg3 x0)) x3 (tileOf i 0) (ix3 h r j) := by
  rw [first_eq c i arg3 harg3 arg4 harg4 arg5 harg5 arg6 harg6 arg7 harg7 arg8 harg8 arg9 harg9 x0 x1 x2 x3]
  refine View.read_writes_apply_of_pieces arg8.view (arg8.view.junk : BufTy.Contents (Elt Ideal) arg8.view.ty) (G0 arg4 (harg4.unread x1) (qs (ldQ arg3 harg3 x0)) x3 (tileOf i 0)) _
    ?_ (ix3 h r j) ?_
  · exact View.PiecesOf.mem ⟨all8 15 (inb8w 15) _ _ fun e j => diag_ld arg4 (harg4.unread x1) _ (tileOf i 0) 15 _ _ (offI_15 i) arg6 harg6 x3 _ _ (off_first i) e j,
    all8 14 (inb8w 14) _ _ fun e j => diag_ld arg4 (harg4.unread x1) _ (tileOf i 0) 14 _ _ (offI_14 i) arg6 harg6 x3 _ _ (off_first i) e j,
    all8 13 (inb8w 13) _ _ fun e j => diag_ld arg4 (harg4.unread x1) _ (tileOf i 0) 13 _ _ (offI_13 i) arg6 harg6 x3 _ _ (off_first i) e j,
    all8 12 (inb8w 12) _ _ fun e j => diag_ld arg4 (harg4.unread x1) _ (tileOf i 0) 12 _ _ (offI_12 i) arg6 harg6 x3 _ _ (off_first i) e j,
    all8 11 (inb8w 11) _ _ fun e j => diag_ld arg4 (harg4.unread x1) _ (tileOf i 0) 11 _ _ (offI_11 i) arg6 harg6 x3 _ _ (off_first i) e j,
    all8 10 (inb8w 10) _ _ fun e j => diag_ld arg4 (harg4.unread x1) _ (tileOf i 0) 10 _ _ (offI_10 i) arg6 harg6 x3 _ _ (off_first i) e j,
    all8 9 (inb8w 9) _ _ fun e j => diag_ld arg4 (harg4.unread x1) _ (tileOf i 0) 9 _ _ (offI_9 i) arg6 harg6 x3 _ _ (off_first i) e j,
    all8 8 (inb8w 8) _ _ fun e j => diag_ld arg4 (harg4.unread x1) _ (tileOf i 0) 8 _ _ (offI_8 i) arg6 harg6 x3 _ _ (off_first i) e j,
    all8 7 (inb8w 7) _ _ fun e j => diag_ld arg4 (harg4.unread x1) _ (tileOf i 0) 7 _ _ (offI_7 i) arg6 harg6 x3 _ _ (off_first i) e j,
    all8 6 (inb8w 6) _ _ fun e j => diag_ld arg4 (harg4.unread x1) _ (tileOf i 0) 6 _ _ (offI_6 i) arg6 harg6 x3 _ _ (off_first i) e j,
    all8 5 (inb8w 5) _ _ fun e j => diag_ld arg4 (harg4.unread x1) _ (tileOf i 0) 5 _ _ (offI_5 i) arg6 harg6 x3 _ _ (off_first i) e j,
    all8 4 (inb8w 4) _ _ fun e j => diag_ld arg4 (harg4.unread x1) _ (tileOf i 0) 4 _ _ (offI_4 i) arg6 harg6 x3 _ _ (off_first i) e j,
    all8 3 (inb8w 3) _ _ fun e j => diag_ld arg4 (harg4.unread x1) _ (tileOf i 0) 3 _ _ (offI_3 i) arg6 harg6 x3 _ _ (off_first i) e j,
    all8 2 (inb8w 2) _ _ fun e j => diag_ld arg4 (harg4.unread x1) _ (tileOf i 0) 2 _ _ (offI_2 i) arg6 harg6 x3 _ _ (off_first i) e j,
    all8 1 (inb8w 1) _ _ fun e j => diag_ld arg4 (harg4.unread x1) _ (tileOf i 0) 1 _ _ (offI_1 i) arg6 harg6 x3 _ _ (off_first i) e j,
    all8 0 (inb8w 0) _ _ fun e j => diag_ld arg4 (harg4.unread x1) _ (tileOf i 0) 0 _ _ (offI_0 i) arg6 harg6 x3 _ _ (off_first i) e j, trivial⟩
  fin_cases h
  · exact ⟨_, List.mem_of_getElem? (i := 15) rfl, Rect.mem_set_of_eq_emb _ (ix3 0 r j) (emb8 0 (inb8w 0) r j)⟩
  · exact ⟨_, List.mem_of_getElem? (i := 14) rfl, Rect.mem_set_of_eq_emb _ (ix3 0 r j) (emb8 1 (inb8w 1) r j)⟩
  · exact ⟨_, List.mem_of_getElem? (i := 13) rfl, Rect.mem_set_of_eq_emb _ (ix3 0 r j) (emb8 2 (inb8w 2) r j)⟩
  · exact ⟨_, List.mem_of_getElem? (i := 12) rfl, Rect.mem_set_of_eq_emb _ (ix3 0 r j) (emb8 3 (inb8w 3) r j)⟩
  · exact ⟨_, List.mem_of_getElem? (i := 11) rfl, Rect.mem_set_of_eq_emb _ (ix3 0 r j) (emb8 4 (inb8w 4) r j)⟩
  · exact ⟨_, List.mem_of_getElem? (i := 10) rfl, Rect.mem_set_of_eq_emb _ (ix3 0 r j) (emb8 5 (inb8w 5) r j)⟩
  · exact ⟨_, List.mem_of_getElem? (i := 9) rfl, Rect.mem_set_of_eq_emb _ (ix3 0 r j) (emb8 6 (inb8w 6) r j)⟩
  · exact ⟨_, List.mem_of_getElem? (i := 8) rfl, Rect.mem_set_of_eq_emb _ (ix3 0 r j) (emb8 7 (inb8w 7) r j)⟩
  · exact ⟨_, List.mem_of_getElem? (i := 7) rfl, Rect.mem_set_of_eq_emb _ (ix3 0 r j) (emb8 8 (inb8w 8) r j)⟩
  · exact ⟨_, List.mem_of_getElem? (i := 6) rfl, Rect.mem_set_of_eq_emb _ (ix3 0 r j) (emb8 9 (inb8w 9) r j)⟩
  · exact ⟨_, List.mem_of_getElem? (i := 5) rfl, Rect.mem_set_of_eq_emb _ (ix3 0 r j) (emb8 10 (inb8w 10) r j)⟩
  · exact ⟨_, List.mem_of_getElem? (i := 4) rfl, Rect.mem_set_of_eq_emb _ (ix3 0 r j) (emb8 11 (inb8w 11) r j)⟩
  · exact ⟨_, List.mem_of_getElem? (i := 3) rfl, Rect.mem_set_of_eq_emb _ (ix3 0 r j) (emb8 12 (inb8w 12) r j)⟩
  · exact ⟨_, List.mem_of_getElem? (i := 2) rfl, Rect.mem_set_of_eq_emb _ (ix3 0 r j) (emb8 13 (inb8w 13) r j)⟩
  · exact ⟨_, List.mem_of_getElem? (i := 1) rfl, Rect.mem_set_of_eq_emb _ (ix3 0 r j) (emb8 14 (inb8w 14) r j)⟩
  · exact ⟨_, List.mem_of_getElem? (i := 0) rfl, Rect.mem_set_of_eq_emb _ (ix3 0 r j) (emb8 15 (inb8w 15) r j)⟩

theorem zero_at (arg9 : Memref sig .tc .vmem S16x80x256 .f32) (h : Fin 16) (e : Fin 80) (j : Fin 256) :
    at9 arg9 (arg9.view.writes (Elt Ideal) arg9.view.junk (kernelRun0_A.sl.HS1_1 (F := Ideal))) h e j = 0 := by
  rw [show kernelRun0_A.sl.HS1_1 (F := Ideal) = [⟨Rect.unit (s := S16x80x256) ![0, 0, 0] S16x80x256.size inb_S16x80x256_S16x80x256_0_0_0, k0_pay683 (F := Ideal)⟩] from rfl]
  refine View.read_writes_apply_of_pieces arg9.view (arg9.view.junk : BufTy.Contents (Elt Ideal) arg9.view.ty) (fun _ => (0 : EReal)) _ ?_ (ix3 h e j) ?_
  · intro p hp
    obtain rfl := List.mem_singleton.mp hp
    intro x
    show Ideal.ofBits .f32 0x00000000#32 = 0
    simp [Ideal.ofBits, Ideal.ieee]
  · refine ⟨_, List.mem_of_getElem? (i := 0) rfl, Rect.mem_set_of_eq_emb _ (ix3 h e j) (funext fun b => Fin.ext ?_)⟩
    fin_cases b
    · show 0 + 1 * (h : ℕ) = h; omega
    · show 0 + 1 * (e : ℕ) = e; omega
    · show 0 + 1 * (j : ℕ) = j; omega

end Cert.KernelIdeal.Fox

end
-- ==== Proof.FoxEntry.lean ====
/-
  The attention kernel's block on real inputs: each entry is a quotient of weighted sums.
-/
module

public import proofs.«01_k».proof.Proof.FoxStore
public import proofs.«01_k».proof.Proof.FoxVal
public import Idealize.ShloMosaic.Lib.Pipeline.ReadBack
public import Idealize.ShloMosaic.Lib.Pointwise
public import Idealize.ShloMosaic.Lib.Exec
public import Idealize.ShloMosaic.Lib.Tactic
public import Idealize.ShloMosaic.Lib.Pipeline.Kit

@[expose] public section

set_option maxRecDepth 131072
set_option maxHeartbeats 16000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal.Head

open Cert.FoxMath

/-- The score of a key against a query, in exponents of two; a later key has none. -/
def score (L : Fin 16 → Fin 256 → ℝ) (b : Fin 16) (j : Fin 256) (n : Fin 16) (r : Fin 256) : EReal :=
  if 256 * (n : ℕ) + r ≤ 256 * b + j then (L n r : EReal) else ⊥

/-- The weighted mean of the values. -/
def mean (L : Fin 16 → Fin 256 → ℝ) (v : Fin 16 → Fin 256 → ℝ) (b : Fin 16) (j : Fin 256) : ℝ :=
  (∑ p : Fin 16 × Fin 256, v p.1 p.2 * e2 (score L b j p.1 p.2) 0) / ∑ p : Fin 16 × Fin 256, e2 (score L b j p.1 p.2) 0

theorem score_ne_top (L : Fin 16 → Fin 256 → ℝ) (b : Fin 16) (j : Fin 256) (n : Fin 16) (r : Fin 256) : score L b j n r ≠ ⊤ := by
  unfold score; split
  · exact EReal.coe_ne_top _
  · exact bot_ne_top

theorem dot_coe (K Q : Fin 128 → ℝ) : (∑ d : Fin 128, (K d : EReal) * (Q d : EReal)) = ((∑ d : Fin 128, K d * Q d : ℝ) : EReal) := by
  rw [coe_sum]; exact Finset.sum_congr rfl fun d _ => (EReal.coe_mul _ _).symm

theorem qs_vec (x : FVec Ideal S1x1x1024x256 .bf16) : qs x = ![qs x 0, qs x 1, qs x 2, qs x 3, qs x 4, qs x 5, qs x 6, qs x 7, qs x 8, qs x 9, qs x 10, qs x 11, qs x 12, qs x 13, qs x 14, qs x 15] := by
  funext h; fin_cases h <;> rfl

theorem store_at (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec Ideal S1x1x1024x256 .bf16) (x1 : Vec Ideal S1x4096x2048 .bf16) (x2 : Vec Ideal S1x16x1024x256 .bf16) (x3 : Vec Ideal S1x256x256 .f32) (b h : Fin 16) (e : Fin 64) (j : Fin 256)
    (hb : (i 2 : ℕ) = b) (Q : Fin 64 → ℝ) (K : Fin 16 → Fin 256 → Fin 128 → ℝ) (V : Fin 16 → Fin 64 → Fin 256 → ℝ)
    (hQ : ∀ d : Fin 64, x0 (ix4 0 0 ⟨64 * h + d, by omega⟩ j) = Q d)
    (hK : ∀ (n : Fin 16) (r : Fin 256) (d : Fin 128), x1 (ix3 0 ⟨256 * n + r, by omega⟩ ⟨128 * h + d, by omega⟩) = K n r d)
    (hV : ∀ (n : Fin 16) (e : Fin 64) (r : Fin 256), x2 (ix4 0 n ⟨64 * h + e, by omega⟩ r) = V n e r)
    (hC : ∀ r : Fin 256, x3 (ix3 0 r j) = if (r : ℕ) ≤ j then 0 else ⊥) :
    block (F := Ideal) (fun h => ratio
      (View.readAt (Elt Ideal) arg9.view (Rect.unit (s := S16x80x256) ![(h : ℕ), 0, 0] S1x64x256.size (inbA h)).toLoadRect
        (arg9.view.writes (Elt Ideal) arg9.view.junk ((lastSt (F := Ideal) c i arg3 harg3 arg4 harg4 arg5 harg5 arg6 harg6 arg7 harg7 arg8 harg8 arg9 harg9 x0 x1 x2 x3).2.2 ++ kernelRun0_A.sl.HS1_1)))
      (View.readAt (Elt Ideal) arg9.view (Rect.unit (s := S16x80x256) ![(h : ℕ), 64, 0] S1x1x256.size (inbL h)).toLoadRect
        (arg9.view.writes (Elt Ideal) arg9.view.junk ((lastSt (F := Ideal) c i arg3 harg3 arg4 harg4 arg5 harg5 arg6 harg6 arg7 harg7 arg8 harg8 arg9 harg9 x0 x1 x2 x3).2.2 ++ kernelRun0_A.sl.HS1_1)))) (ix3 0 ⟨64 * h + e, by omega⟩ j)
      = ((mean (fun n r => ∑ d : Fin 128, K n r d * lane h Q d) (fun n r => V n e r) b j : ℝ) : EReal) := by
  have hKa : ∀ n r d, atK arg4 (harg4.unread x1) n h r d = (K n r d : EReal) := fun n r d =>
    (congrFun (harg4.read_unread x1) _).trans (hK n r d)
  have hVa : ∀ n e r, atV arg5 (harg5.unread x2) n h e r = (V n e r : EReal) := fun n e r =>
    (congrFun (harg5.read_unread x2) _).trans (hV n e r)
  have hq : ∀ d, qs (ldQ arg3 harg3 x0) h (ix2 d j) = (lane h Q d : EReal) := fun d =>
    qs_at _ h j Q (fun d => (ldQ_at arg3 harg3 x0 _ j).trans (hQ d)) d
  have htr : (k0_t1_loop i).trips = (b : ℕ) + 1 := (trips_eq i).trans (by rw [hb])
  have htile : tileOf i 0 = b := Fin.ext (by show (i 2 : ℕ) - 0 = b; omega)
  set L : Fin 16 → Fin 256 → ℝ := fun n r => ∑ d : Fin 128, K n r d * lane h Q d with hL
  have hsc : ∀ n, n < (k0_t1_loop i).trips → ∀ r, scoreOf
      (fun r => at8 arg8 (arg8.view.writes (Elt Ideal) arg8.view.junk (kernelRun0_A.sl.HS0_16 (F := Ideal) c i arg3 harg3 arg4 harg4 arg6 harg6 x0 x1 x3)) h r j)
      (fun n => atK arg4 (harg4.unread x1) n h) (fun d => qs (ldQ arg3 harg3 x0) h (ix2 d j)) (tileOf i 0) n r
      = score L b j ⟨(b : ℕ) - n, by omega⟩ r := by
    intro n hn r
    rw [htr] at hn
    unfold scoreOf
    split
    · rename_i h0
      subst h0
      show at8 _ _ h r j = _
      rw [first_at c i arg3 harg3 arg4 harg4 arg5 harg5 arg6 harg6 arg7 harg7 arg8 harg8 arg9 harg9 x0 x1 x2 x3]
      show (∑ d : Fin 128, atK arg4 (harg4.unread x1) (tileOf i 0) h r d * qs (ldQ arg3 harg3 x0) h (ix2 d j)) + x3 (ix3 0 r j) = _
      simp only [hKa, hq, dot_coe, htile, hC]
      unfold score
      by_cases hr : (r : ℕ) ≤ j
      · rw [if_pos hr, if_pos (show 256 * ((b : ℕ) - 0) + (r : ℕ) ≤ 256 * b + j by omega), add_zero]; rfl
      · rw [if_neg hr, if_neg (show ¬ 256 * ((b : ℕ) - 0) + (r : ℕ) ≤ 256 * b + j by omega), EReal.add_bot]
    · rename_i h0
      simp only [hKa, hq, dot_coe, htile]
      unfold score
      rw [if_pos (show 256 * ((b : ℕ) - n) + (r : ℕ) ≤ 256 * b + j by omega)]
  obtain ⟨M, hM, hle, hsum⟩ := loop_sums Variants.none c none i arg3 harg3 arg4 harg4 arg5 harg5 arg6 harg6 arg7 harg7 arg8 harg8 arg9 harg9 (kernelRun0_A.sl.v16 i) (qs (ldQ arg3 harg3 x0) 0) (qs (ldQ arg3 harg3 x0) 1) (qs (ldQ arg3 harg3 x0) 2) (qs (ldQ arg3 harg3 x0) 3) (qs (ldQ arg3 harg3 x0) 4) (qs (ldQ arg3 harg3 x0) 5) (qs (ldQ arg3 harg3 x0) 6) (qs (ldQ arg3 harg3 x0) 7) (qs (ldQ arg3 harg3 x0) 8) (qs (ldQ arg3 harg3 x0) 9) (qs (ldQ arg3 harg3 x0) 10) (qs (ldQ arg3 harg3 x0) 11) (qs (ldQ arg3 harg3 x0) 12) (qs (ldQ arg3 harg3 x0) 13) (qs (ldQ arg3 harg3 x0) 14) (qs (ldQ arg3 harg3 x0) 15)
    (kernelRun0_A.sl.v65 i) 1#32 (kernelRun0_A.sl.v246 i) (harg4.unread x1) (harg5.unread x2)
    (arg8.view.writes (Elt Ideal) arg8.view.junk (kernelRun0_A.sl.HS0_16 (F := Ideal) c i arg3 harg3 arg4 harg4 arg6 harg6 x0 x1 x3))
    (arg9.view.writes (Elt Ideal) arg9.view.junk (kernelRun0_A.sl.HS1_1 (F := Ideal))) masks h j (mask_at h j) (fun e => zero_at arg9 h e j) V hVa
    (by rw [← qs_vec]; exact fun n hn r => (hsc n hn r).trans_ne (score_ne_top _ _ _ _ _))
  rw [← qs_vec] at hle hsum
  rw [block_at, ratio_at]
  have hA : ∀ e : Fin 64, View.readAt (Elt Ideal) arg9.view (Rect.unit (s := S16x80x256) ![(h : ℕ), 0, 0] S1x64x256.size (inbA h)).toLoadRect
        (arg9.view.writes (Elt Ideal) arg9.view.junk ((lastSt (F := Ideal) c i arg3 harg3 arg4 harg4 arg5 harg5 arg6 harg6 arg7 harg7 arg8 harg8 arg9 harg9 x0 x1 x2 x3).2.2 ++ kernelRun0_A.sl.HS1_1)) (ix3 0 e j)
      = ∑ p ∈ Finset.range (k0_t1_loop i).trips ×ˢ Finset.univ, (V (tileOf i p.1) e p.2 : EReal)
          * Ideal.exp2 (score L b j ⟨(b : ℕ) - p.1, by omega⟩ p.2 - M) := by
    intro e
    rw [View.writes_append]
    refine Eq.trans ?_ ((hsum ⟨e, by omega⟩).trans (Finset.sum_congr rfl fun p hp => ?_))
    · refine congrArg (View.read (Elt Ideal) arg9.view _) (funext fun b => Fin.ext ?_)
      fin_cases b
      · show (h : ℕ) + 1 * 0 = h; omega
      · show 0 + 1 * (e : ℕ) = e; omega
      · show 0 + 1 * (j : ℕ) = j; omega
    · have hp' := Finset.mem_range.mp (Finset.mem_product.mp hp).1
      rw [hsc p.1 hp' p.2]
      unfold wOf
      rw [dif_pos (show ((⟨e, by omega⟩ : Fin 80) : ℕ) < 64 from e.2)]
  have hB : View.readAt (Elt Ideal) arg9.view (Rect.unit (s := S16x80x256) ![(h : ℕ), 64, 0] S1x1x256.size (inbL h)).toLoadRect
        (arg9.view.writes (Elt Ideal) arg9.view.junk ((lastSt (F := Ideal) c i arg3 harg3 arg4 harg4 arg5 harg5 arg6 harg6 arg7 harg7 arg8 harg8 arg9 harg9 x0 x1 x2 x3).2.2 ++ kernelRun0_A.sl.HS1_1)) (ix3 0 0 j)
      = ∑ p ∈ Finset.range (k0_t1_loop i).trips ×ˢ Finset.univ, ((1 : ℝ) : EReal)
          * Ideal.exp2 (score L b j ⟨(b : ℕ) - p.1, by omega⟩ p.2 - M) := by
    rw [View.writes_append]
    refine Eq.trans ?_ ((hsum ⟨64, by omega⟩).trans (Finset.sum_congr rfl fun p hp => ?_))
    · refine congrArg (View.read (Elt Ideal) arg9.view _) (funext fun b => Fin.ext ?_)
      fin_cases b
      · show (h : ℕ) + 1 * 0 = h; omega
      · show 64 + 1 * 0 = 64; omega
      · show 0 + 1 * (j : ℕ) = j; omega
    · have hp' := Finset.mem_range.mp (Finset.mem_product.mp hp).1
      rw [hsc p.1 hp' p.2]
      unfold wOf
      rw [dif_neg (show ¬ (64 : ℕ) < 64 by omega)]
  rw [hA, hB, htr]
  rw [htr] at hle hsc
  refine (quotient ((b : ℕ) + 1) (fun n r => score L b j ⟨(b : ℕ) - n, by omega⟩ r) (fun n r => V (tileOf i n) e r) M _ _
    (fun _ _ _ => score_ne_top _ _ _ _ _) hM (fun t ht r => (hsc t ht r) ▸ hle t ht r) 0 (by omega) 0 ?_ rfl rfl).trans ?_
  · show score L b j ⟨(b : ℕ) - 0, by omega⟩ 0 ≠ ⊥
    unfold score
    rw [if_pos (show 256 * ((b : ℕ) - 0) + ((0 : Fin 256) : ℕ) ≤ 256 * b + j by show 256 * ((b : ℕ) - 0) + 0 ≤ _; omega)]
    exact EReal.coe_ne_bot _
  · have hbot : ∀ n : Fin 16, (b : ℕ) < n → ∀ r, e2 (score L b j n r) 0 = 0 := fun n hn r => by
      unfold score
      rw [if_neg (by omega), e2_bot]
    refine congrArg (fun x : ℝ => (x : EReal)) ?_
    unfold mean
    refine congrArg₂ (· / ·) ?_ ?_
    · exact tiles b b.2 (score L b j) (fun n r => V n e r * e2 (score L b j n r) 0)
        (fun n hn r => by rw [hbot n hn r, mul_zero]) (fun n r => V (tileOf i n) e r * e2 (score L b j ⟨(b : ℕ) - n, by omega⟩ r) 0) (fun n hn r => by
          show V (tileOf i n) e r * _ = _
          rw [show tileOf i n = ⟨(b : ℕ) - n, by omega⟩ from Fin.ext (by show (i 2 : ℕ) - n = b - n; omega)])
    · exact tiles b b.2 (score L b j) (fun n r => e2 (score L b j n r) 0) hbot (fun n r => e2 (score L b j ⟨(b : ℕ) - n, by omega⟩ r) 0) (fun n hn r => rfl)

end Cert.KernelIdeal.Fox

end
-- ==== Proof.FoxSpec.lean ====
/-
  Attention on real inputs: the mean of the values up to a position, weighted by the exponents of two of the scores.
-/
module

public import proofs.«01_k».proof.Proof.FoxEntry

@[expose] public section

set_option maxRecDepth 16384

noncomputable section

open Idealize.ShloMosaic Idealize.ShloMosaic.TcCoe Idealize.SL.Sem

namespace Cert.FoxSpec

open Cert.KernelIdeal Cert.KernelIdeal.Fox

/-- Feature `d` of the query of head `h` at a position. -/
def qry (fm : FVec Ideal S8x16x2048x256 .bf16) (s : Fin 8) (h b : Fin 16) (j : Fin 256) (d : Fin 64) : ℝ :=
  (fm (ix4 s b ⟨64 * h + d, by omega⟩ j)).toReal

/-- Feature `e` of the value of head `h` at a position. -/
def val (fm : FVec Ideal S8x16x2048x256 .bf16) (s : Fin 8) (h n : Fin 16) (e : Fin 64) (r : Fin 256) : ℝ :=
  (fm (ix4 s n ⟨1024 + 64 * h + e, by omega⟩ r)).toReal

/-- Lane `d` of the key and the gate term of head `h` at a position. -/
def key (ka : FVec Ideal S32768x2048 .bf16) (s : Fin 8) (h n : Fin 16) (r : Fin 256) (d : Fin 128) : ℝ :=
  (ka (ix2 ⟨4096 * s + (256 * n + r), by omega⟩ ⟨128 * h + d, by omega⟩)).toReal

/-- The score of the key at row `r` of tile `n` for the query at column `j` of tile `b`. -/
def logit (fm : FVec Ideal S8x16x2048x256 .bf16) (ka : FVec Ideal S32768x2048 .bf16) (s : Fin 8) (h b : Fin 16) (j : Fin 256)
    (n : Fin 16) (r : Fin 256) : ℝ := ∑ d : Fin 128, key ka s h n r d * lane h (qry fm s h b j) d

/-- Feature `e` of the result of head `h` at column `j` of tile `b`. -/
def attn (fm : FVec Ideal S8x16x2048x256 .bf16) (ka : FVec Ideal S32768x2048 .bf16) (s : Fin 8) (h : Fin 16) (e : Fin 64) (b : Fin 16)
    (j : Fin 256) : ℝ := mean (logit fm ka s h b j) (fun n r => val fm s h n e r) b j

/-- The whole result. -/
def result (fm : FVec Ideal S8x16x2048x256 .bf16) (ka : FVec Ideal S32768x2048 .bf16) (y : S8x1024x4096.Idx) : EReal :=
  ((attn fm ka (y 0) ⟨(y 1 : ℕ) / 64, by have : (y 1 : ℕ) < 1024 := (y 1).2; omega⟩ ⟨(y 1 : ℕ) % 64, Nat.mod_lt _ (by decide)⟩
    ⟨(y 2 : ℕ) / 256, by have : (y 2 : ℕ) < 4096 := (y 2).2; omega⟩ ⟨(y 2 : ℕ) % 256, Nat.mod_lt _ (by decide)⟩ : ℝ) : EReal)

theorem result_at (fm : FVec Ideal S8x16x2048x256 .bf16) (ka : FVec Ideal S32768x2048 .bf16) (s : Fin 8) (h : Fin 16) (e : Fin 64)
    (b : Fin 16) (j : Fin 256) :
    result fm ka (ix3 s ⟨64 * h + e, by omega⟩ ⟨256 * b + j, by omega⟩) = ((attn fm ka s h e b j : ℝ) : EReal) := by
  have e1 : (⟨(64 * (h : ℕ) + e) / 64, by omega⟩ : Fin 16) = h := Fin.ext (by show (64 * (h : ℕ) + e) / 64 = h; omega)
  have e2 : (⟨(64 * (h : ℕ) + e) % 64, by omega⟩ : Fin 64) = e := Fin.ext (by show (64 * (h : ℕ) + e) % 64 = e; omega)
  have e3 : (⟨(256 * (b : ℕ) + j) / 256, by omega⟩ : Fin 16) = b := Fin.ext (by show (256 * (b : ℕ) + j) / 256 = b; omega)
  have e4 : (⟨(256 * (b : ℕ) + j) % 256, by omega⟩ : Fin 256) = j := Fin.ext (by show (256 * (b : ℕ) + j) % 256 = j; omega)
  show ((attn fm ka s ⟨(64 * (h : ℕ) + e) / 64, _⟩ ⟨(64 * (h : ℕ) + e) % 64, _⟩ ⟨(256 * (b : ℕ) + j) / 256, _⟩
    ⟨(256 * (b : ℕ) + j) % 256, _⟩ : ℝ) : EReal) = _
  rw [e1, e2, e3, e4]

/-- An array of real numbers. -/
def AllReal {s : Shape} {φ : FTy} (x : FVec Ideal s φ) : Prop := ∀ y, ((x y : EReal)) = (((x y : EReal).toReal : ℝ) : EReal)

end Cert.FoxSpec

end
-- ==== Proof.FoxFinite.lean ====
/- The condition of the attention's claim, that every entry of both arguments is finite, read entry by entry. -/
module

public import proofs.«01_k».proof.Pre_finite
public import proofs.«01_k».proof.Proof.FoxSpec

@[expose] public section

noncomputable section

namespace Cert.Finite

open Idealize.ShloMosaic Cert.Pre_finite

theorem facts : Cert.Pre_finite.Facts where
  bcast_S_S8x16x2048x256 := by decide
  reducesTo_S8x16x2048x256_S_d0_1_2_3 := by decide
  h_S_ := by decide
  bcast_S_S32768x2048 := by decide
  reducesTo_S32768x2048_S_d0_1 := by decide

instance : Cert.Pre_finite.Facts := facts

theorem both (a b : BitVec 1) (h : IntOp.andi a b = 1#1) : a = 1#1 ∧ b = 1#1 := by
  revert a b; decide

theorem foldl_andi {ι : Type} (l : List ι) (x : ι → BitVec 1) (a : BitVec 1) (h : l.foldl (fun r i => IntOp.andi r (x i)) a = 1#1) :
    a = 1#1 ∧ ∀ i ∈ l, x i = 1#1 := by
  induction l generalizing a with
  | nil => exact ⟨h, fun i hi => absurd hi (by simp)⟩
  | cons b l ih =>
    obtain ⟨h1, h2⟩ := ih _ h
    obtain ⟨h3, h4⟩ := both _ _ h1
    refine ⟨h3, fun i hi => ?_⟩
    rcases List.mem_cons.mp hi with rfl | hi
    · exact h4
    · exact h2 i hi

theorem reduce_andi {s u t : Shape} {axes : List (Fin s.rank)} (x : IVec s 1) (init : IVec u 1) (h : s.ReducesTo axes t)
    (hu : 0 < u.numel) (j : t.Idx) (hr : Host.reduce IntOp.andi x init h hu j = 1#1) (i : s.Idx) (hi : h.drop i = j) : x i = 1#1 := by
  rw [Host.reduce_eq_foldl] at hr
  refine (foldl_andi _ x _ hr).2 i ?_
  rw [List.mem_filter]
  exact ⟨List.mem_map.mpr ⟨s.rowMajor i, List.mem_finRange _, Equiv.symm_apply_apply _ _⟩, by simpa using hi⟩

theorem inf_at : Ideal.ofBits .bf16 0x7F80#16 = ⊤ := by
  simp [Ideal.ofBits, Ideal.ieee]

theorem real_of_lt (x : EReal) (h : max x (-x) < ⊤) : x = ((x.toReal : ℝ) : EReal) := by
  obtain ⟨h1, h2⟩ := max_lt_iff.mp h
  refine (EReal.coe_toReal h1.ne fun hb => ?_).symm
  rw [hb, EReal.neg_bot] at h2
  exact lt_irrefl _ h2

theorem real_of_cmp (x y : EReal) (hy : y = ⊤) (h : Ideal.cmp .olt (max x (-x)) y = 1#1) : x = ((x.toReal : ℝ) : EReal) := by
  refine real_of_lt x ?_
  rw [← hy]
  by_contra hn
  simp [Ideal.cmp, hn] at h

theorem index (i j : S_.Idx) : i = j := funext fun b => b.elim0

/-- THE CONDITION: every entry of both arrays is a real number. -/
theorem reals (x : FVec Ideal S8x16x2048x256 .bf16) (y : FVec Ideal S32768x2048 .bf16)
    (h : Cert.Pre_finite.fn (F := Ideal) x y = fun _ => 1#1) : FoxSpec.AllReal x ∧ FoxSpec.AllReal y := by
  obtain ⟨hx, hy⟩ := both _ _ (congrFun h ix0)
  exact ⟨fun i => real_of_cmp _ _ inf_at (reduce_andi _ _ _ _ _ hx i (index _ _)), fun i => real_of_cmp _ _ inf_at (reduce_andi _ _ _ _ _ hy i (index _ _))⟩

end Cert.Finite

end
-- ==== Proof.FoxFinal.lean ====
/-
  What the attention kernel's result array holds after the run, on real inputs.
-/
module

public import proofs.«01_k».proof.Proof.FoxSpec
public import proofs.«01_k».proof.Proof.FoxIdealFrame
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen Cert.FoxSpec

variable (m : (ℓ : Loc nD τ sig) → Buf (Elt Ideal) ℓ)

/-- Which block of its array every window holds at grid point `t`. -/
theorem idx : ∀ t : Fin cfg0.N, win0_0.index t = ![t.val / 16, t.val % 16, 0, 0] ∧ win0_1.index t = ![t.val / 16, 0, 0]
    ∧ win0_2.index t = ![t.val / 16, 0, 1, 0] ∧ win0_3.index t = ![0, 0, 0] ∧ win0_4.index t = ![t.val / 16, 0, t.val % 16]
    ∧ ((grid0.coords t) 2 : ℕ) = t.val % 16 ∧ t.val < 128 :=
  (by decide +kernel : ∀ t : Fin grid0.N, _)

theorem blk0 (c : Dev nD) (t : Fin cfg0.N) (n : Fin 1024) (j : Fin 256) (hN : t.val < 128) :
    (iblk m c 0 t : Vec Ideal S1x1x1024x256 .bf16) (ix4 0 0 n j)
      = (m ((c : Thread nD τ).loc main_arg0) : FVec Ideal S8x16x2048x256 .bf16)
        (ix4 ⟨t.val / 16, by omega⟩ ⟨t.val % 16, by omega⟩ ⟨n, by omega⟩ j) := by
  blk_point [iblk, V, idx t]

theorem blk2 (c : Dev nD) (t : Fin cfg0.N) (k : Fin 16) (n : Fin 1024) (j : Fin 256) (hN : t.val < 128) :
    (iblk m c 2 t : Vec Ideal S1x16x1024x256 .bf16) (ix4 0 k n j)
      = (m ((c : Thread nD τ).loc main_arg0) : FVec Ideal S8x16x2048x256 .bf16)
        (ix4 ⟨t.val / 16, by omega⟩ k ⟨1024 + n, by omega⟩ j) := by
  blk_point [iblk, V, idx t]

/-- The keys' array, as the kernel is given it. -/
theorem V_main_v0 (c : Dev nD) : V m c main_v0
    = shapeCast S8x4096x2048 (m ((c : Thread nD τ).loc main_arg1) : FVec Ideal S32768x2048 .bf16) shapeCasts_S32768x2048_S8x4096x2048 := by
  rfl

/-- The causal table, as the kernel is given it. -/
theorem V_main_v17 (c : Dev nD) : V m c main_v17
    = select (cmpi .sge (subi (broadcastInDim S1x256x256 ![0, 1, 2] bcast_S1x1x256_S1x256x256_0_1_2
        (addi (broadcastInDim S1x1x256 ![0, 1, 2] bcast_S1x1x1_S1x1x256_0_1_2
          (muli (broadcastInDim S1x1x1 ![0] bcast_S1_S1x1x1_0 (iotaInDim S1 32 0)) (broadcastInDim S1x1x1 ![] bcast_S_S1x1x1 (constantI S_ 32 256#32))))
          (broadcastInDim S1x1x256 ![2] bcast_S256_S1x1x256_2 (iotaInDim S256 32 0))))
        (broadcastInDim S1x256x256 ![0, 1, 2] bcast_S1x256x1_S1x256x256_0_1_2 (broadcastInDim S1x256x1 ![1] bcast_S256_S1x256x1_1 (iotaInDim S256 32 0))))
        (broadcastInDim S1x256x256 ![] bcast_S_S1x256x256 (constantI S_ 32 0#32)))
      (broadcastInDim S1x256x256 ![] bcast_S_S1x256x256 (constant (F := Ideal) S_ .f32 0x00000000#32))
      (broadcastInDim S1x256x256 ![] bcast_S_S1x256x256 (constant (F := Ideal) S_ .f32 0xFF800000#32)) := by
  rfl

theorem rd1 (X : FVec Ideal S8x4096x2048 .bf16) (t : Fin cfg0.N) (k : Fin 4096) (d : Fin 2048) (hN : t.val < 128) :
    ((cfg0.win 1).blk t).view.read (Elt Ideal) X (ix3 0 k d) = X (ix3 ⟨t.val / 16, by omega⟩ k d) := by
  blk_point [idx t]

theorem rd3 (X : FVec Ideal S1x256x256 .f32) (t : Fin cfg0.N) (r j : Fin 256) :
    ((cfg0.win 3).blk t).view.read (Elt Ideal) X (ix3 0 r j) = X (ix3 0 r j) := by
  blk_point [idx t]

theorem cast_keys (X : FVec Ideal S32768x2048 .bf16) (s : Fin 8) (k : Fin 4096) (d : Fin 2048) :
    shapeCast S8x4096x2048 X shapeCasts_S32768x2048_S8x4096x2048 (ix3 s k d) = X (ix2 ⟨4096 * s + k, by omega⟩ d) := by
  pointwise
  exact congrArg (fun n => X (ix2 n d)) (Fin.ext (by show (s : ℕ) * 4096 + k = 4096 * s + k; omega))

theorem blk1 (c : Dev nD) (t : Fin cfg0.N) (k : Fin 4096) (d : Fin 2048) (hN : t.val < 128) :
    (iblk m c 1 t : Vec Ideal S1x4096x2048 .bf16) (ix3 0 k d)
      = (m ((c : Thread nD τ).loc main_arg1) : FVec Ideal S32768x2048 .bf16)
        (ix2 ⟨4096 * (t.val / 16) + k, by omega⟩ d) := by
  refine (rd1 (V m c main_v0) t k d hN).trans ?_
  rw [V_main_v0]
  exact cast_keys _ _ _ _

theorem later : ∀ r j : Fin 256, IntOp.cmpi .sge (IntOp.subi (IntOp.addi (IntOp.muli 0#32 256#32) (BitVec.ofNat 32 (j : ℕ))) (BitVec.ofNat 32 (r : ℕ))) 0#32
    = if (r : ℕ) ≤ j then 1#1 else 0#1 := by
  decide +kernel

theorem blk3 (c : Dev nD) (t : Fin cfg0.N) (r j : Fin 256) :
    (iblk m c 3 t : Vec Ideal S1x256x256 .f32) (ix3 0 r j) = if (r : ℕ) ≤ j then (0 : EReal) else ⊥ := by
  refine (rd3 (V m c main_v17) t r j).trans ?_
  rw [V_main_v17]
  pointwise
  rw [later]
  split
  · rfl
  · show Ideal.ofBits .f32 0xFF800000#32 = ⊥
    simp [Ideal.ofBits, Ideal.ieee]

theorem out_eq (c : Dev nD) (i : grid0.Coords) (arg3 : Memref sig .tc .vmem S1x1x1024x256 .bf16) (harg3 : arg3.IsWhole) (arg4 : Memref sig .tc .vmem S1x4096x2048 .bf16) (harg4 : arg4.IsWhole) (arg5 : Memref sig .tc .vmem S1x16x1024x256 .bf16) (harg5 : arg5.IsWhole) (arg6 : Memref sig .tc .vmem S1x256x256 .f32) (harg6 : arg6.IsWhole) (arg7 : Memref sig .tc .vmem S1x1024x256 .bf16) (harg7 : arg7.IsWhole) (arg8 : Memref sig .tc .vmem S16x256x256 .f32) (harg8 : arg8.IsWhole) (arg9 : Memref sig .tc .vmem S16x80x256 .f32) (harg9 : arg9.IsWhole)
    (x0 : Vec Ideal S1x1x1024x256 .bf16) (x1 : Vec Ideal S1x4096x2048 .bf16) (x2 : Vec Ideal S1x16x1024x256 .bf16) (x3 : Vec Ideal S1x256x256 .f32)
    (b h : Fin 16) (e : Fin 64) (j : Fin 256)
    (hb : (i 2 : ℕ) = b) (Q : Fin 64 → ℝ) (K : Fin 16 → Fin 256 → Fin 128 → ℝ) (V : Fin 16 → Fin 64 → Fin 256 → ℝ)
    (hQ : ∀ d : Fin 64, x0 (ix4 0 0 ⟨64 * h + d, by omega⟩ j) = Q d)
    (hK : ∀ (n : Fin 16) (r : Fin 256) (d : Fin 128), x1 (ix3 0 ⟨256 * n + r, by omega⟩ ⟨128 * h + d, by omega⟩) = K n r d)
    (hV : ∀ (n : Fin 16) (e : Fin 64) (r : Fin 256), x2 (ix4 0 n ⟨64 * h + e, by omega⟩ r) = V n e r)
    (hC : ∀ r : Fin 256, x3 (ix3 0 r j) = if (r : ℕ) ≤ j then 0 else ⊥) :
    out0_A_4 c i arg3 harg3 arg4 harg4 arg5 harg5 arg6 harg6 arg7 harg7 arg8 harg8 arg9 harg9 x0 x1 x2 x3 (ix3 0 ⟨64 * h + e, by omega⟩ j)
      = ((mean (fun n r => ∑ d : Fin 128, K n r d * lane h Q d) (fun n r => V n e r) b j : ℝ) : EReal) := by
  refine Eq.trans ?_ (store_at c i arg3 harg3 arg4 harg4 arg5 harg5 arg6 harg6 arg7 harg7 arg8 harg8 arg9 harg9 x0 x1 x2 x3 b h e j hb Q K V hQ hK hV hC)
  unfold out0_A_4
  rw [run_eq]
  have hw : ∀ y : S1x1024x256.Idx, (Rect.unit (s := S1x1024x256) ![0, 0, 0] S1x1024x256.size inb_S1x1024x256_S1x1024x256_0_0_0).emb y = y := fun y => by
    refine funext fun b => Fin.ext ?_
    fin_cases b
    · exact (by omega : ∀ n : ℕ, 0 + 1 * n = n) (y 0)
    · exact (by omega : ∀ n : ℕ, 0 + 1 * n = n) (y 1)
    · exact (by omega : ∀ n : ℕ, 0 + 1 * n = n) (y 2)
  generalize block (F := Ideal) _ = B
  refine View.read_writes_apply_of_pieces VO0_4 (VO0_4.junk : BufTy.Contents (Elt Ideal) VO0_4.ty) B _ ?_ (ix3 0 ⟨64 * h + e, by omega⟩ j) ?_
  · intro p hp
    obtain rfl := List.mem_singleton.mp hp
    intro x
    exact congrArg B (hw x).symm
  · exact ⟨_, List.mem_of_getElem? (i := 0) rfl, Rect.mem_set_of_eq_emb _ _ (hw _)⟩

theorem place (t : Fin cfg0.N) (n : Fin 1024) (j : Fin 256) (hN : t.val < 128) :
    ((View.whole main_v18).slice (win0_4.rect t)).emb (ix3 0 n j)
      = ix3 ⟨t.val / 16, by omega⟩ n ⟨256 * (t.val % 16) + j, by omega⟩ := by
  refine funext fun b => Fin.ext ?_
  fin_cases b <;> blk_simp [idx t]
  · rfl
  · rfl
  · show t.val % 16 * 256 + (j : ℕ) = 256 * (t.val % 16) + j
    omega

/-- THE RESULT ARRAY after the run. -/
theorem final (c : Dev nD) (h0 : AllReal (s := S8x16x2048x256) (φ := .bf16) (m ((c : Thread nD τ).loc main_arg0)))
    (h1 : AllReal (s := S32768x2048) (φ := .bf16) (m ((c : Thread nD τ).loc main_arg1))) :
    (dats m 0 c).arrAt 4 (cfgs 0).N
      = result (m ((c : Thread nD τ).loc main_arg0)) (m ((c : Thread nD τ).loc main_arg1)) := by
  refine (dats m 0 c).arrAt_eq_of_covers 4 _ (by decide +kernel) fun t _ y => ?_
  blk_simp
  rw [after0_4]
  unfold outsAt0
  idx_vars y
  obtain rfl : y0 = 0 := Subsingleton.elim _ _
  have hN : t.val < 128 := (idx t).2.2.2.2.2.2
  obtain ⟨h, e, rfl⟩ : ∃ (h : Fin 16) (e : Fin 64), y1 = ⟨64 * h + e, by omega⟩ :=
    ⟨⟨y1 / 64, by omega⟩, ⟨y1 % 64, by omega⟩, Fin.ext (by show (y1 : ℕ) = 64 * (y1 / 64) + y1 % 64; omega)⟩
  refine (out_eq c (grid0.coords t) _ _ _ _ _ _ _ _ _ _ _ _ _ _ _ _ _ _ ⟨t.val % 16, by omega⟩ h e y2 (idx t).2.2.2.2.2.1
    (qry (m ((c : Thread nD τ).loc main_arg0)) ⟨t.val / 16, by omega⟩ h ⟨t.val % 16, by omega⟩ y2)
    (key (m ((c : Thread nD τ).loc main_arg1)) ⟨t.val / 16, by omega⟩ h)
    (val (m ((c : Thread nD τ).loc main_arg0)) ⟨t.val / 16, by omega⟩ h) ?_ ?_ ?_ ?_).trans ?_
  · intro d
    exact (blk0 m c t _ _ hN).trans (h0 _)
  · intro n r d
    exact (blk1 m c t _ _ hN).trans (h1 _)
  · intro n e r
    refine (blk2 m c t _ _ _ hN).trans ((h0 _).trans ?_)
    unfold val
    refine congrArg (fun n : Fin 2048 => (((m ((c : Thread nD τ).loc main_arg0) : FVec Ideal S8x16x2048x256 .bf16) (ix4 _ _ n _) : EReal).toReal : EReal)) (Fin.ext ?_)
    show 1024 + (64 * (h : ℕ) + e) = 1024 + 64 * h + e
    omega
  · intro r
    exact blk3 m c t r y2
  · rw [place t _ _ hN]
    exact (result_at _ _ _ h e ⟨t.val % 16, by omega⟩ y2).symm

end Cert.KernelIdeal.Fox

end
-- ==== Proof.FoxRef.lean ====
/-
  The attention as the reference computes it, read entry by entry.
-/
module

public import proofs.«01_k».proof.Proof.FoxSpec
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.FoxMath

/-- The features, split by part, head and lane. -/
def parts (fm : FVec Ideal S8x16x2048x256 .bf16) : FVec Ideal S8x16x2x16x64x256 .f32 :=
  shapeCast _ (extf .f32 fm bitsLt_bf16_f32) shapeCasts_S8x16x2048x256_S8x16x2x16x64x256

/-- The queries. -/
def queries (fm : FVec Ideal S8x16x2048x256 .bf16) : FVec Ideal S8x16x4096x64 .f32 :=
  shapeCast _ (transpose S8x16x16x256x64 [0, 2, 1, 4, 3] (shapeCast _ (extractStridedSlice S8x16x1x16x64x256 ![0, 0, 0, 0, 0, 0] (parts fm) slices_S8x16x2x16x64x256_S8x16x1x16x64x256_0_0_0_0_0_0) shapeCasts_S8x16x1x16x64x256_S8x16x16x64x256) transposes_S8x16x16x64x256_S8x16x16x256x64_0_2_1_4_3) shapeCasts_S8x16x16x256x64_S8x16x4096x64

/-- The values. -/
def values (fm : FVec Ideal S8x16x2048x256 .bf16) : FVec Ideal S8x16x4096x64 .f32 :=
  shapeCast _ (transpose S8x16x16x256x64 [0, 2, 1, 4, 3] (shapeCast _ (extractStridedSlice S8x16x1x16x64x256 ![0, 0, 1, 0, 0, 0] (parts fm) slices_S8x16x2x16x64x256_S8x16x1x16x64x256_0_0_1_0_0_0) shapeCasts_S8x16x1x16x64x256_S8x16x16x64x256) transposes_S8x16x16x64x256_S8x16x16x256x64_0_2_1_4_3) shapeCasts_S8x16x16x256x64_S8x16x4096x64

/-- The keys and gate terms, by head and half. -/
def halves (ka : FVec Ideal S32768x2048 .bf16) : FVec Ideal S8x16x4096x2x64 .f32 :=
  transpose S8x16x4096x2x64 [0, 2, 1, 3, 4] (shapeCast _ (extf .f32 ka bitsLt_bf16_f32) shapeCasts_S32768x2048_S8x4096x16x2x64) transposes_S8x4096x16x2x64_S8x16x4096x2x64_0_2_1_3_4

/-- The first half. -/
def half0 (ka : FVec Ideal S32768x2048 .bf16) : FVec Ideal S8x16x4096x64 .f32 :=
  shapeCast _ (extractStridedSlice S8x16x4096x1x64 ![0, 0, 0, 0, 0] (halves ka) slices_S8x16x4096x2x64_S8x16x4096x1x64_0_0_0_0_0) shapeCasts_S8x16x4096x1x64_S8x16x4096x64

/-- The second half. -/
def half1 (ka : FVec Ideal S32768x2048 .bf16) : FVec Ideal S8x16x4096x64 .f32 :=
  shapeCast _ (extractStridedSlice S8x16x4096x1x64 ![0, 0, 0, 1, 0] (halves ka) slices_S8x16x4096x2x64_S8x16x4096x1x64_0_0_0_1_0) shapeCasts_S8x16x4096x1x64_S8x16x4096x64

/-- Whether a head's number is even. -/
def even : IVec S16 1 :=
  cmpi .eq (select (andi (cmpi .ne (cmpi .slt (Host.remsi (iotaInDim S16 32 0) (broadcastInDim S16 ![] bcast_S_S16 (select (cmpi .eq (id (constantI S_ 32 2#32)) (constantI S_ 32 0#32)) (constantI S_ 32 1#32) (id (constantI S_ 32 2#32))))) (broadcastInDim S16 ![] bcast_S_S16 (constantI S_ 32 0#32))) (broadcastInDim S16 ![] bcast_S_S16 (cmpi .slt (select (cmpi .eq (id (constantI S_ 32 2#32)) (constantI S_ 32 0#32)) (constantI S_ 32 1#32) (id (constantI S_ 32 2#32))) (constantI S_ 32 0#32)))) (cmpi .ne (Host.remsi (iotaInDim S16 32 0) (broadcastInDim S16 ![] bcast_S_S16 (select (cmpi .eq (id (constantI S_ 32 2#32)) (constantI S_ 32 0#32)) (constantI S_ 32 1#32) (id (constantI S_ 32 2#32))))) (broadcastInDim S16 ![] bcast_S_S16 (constantI S_ 32 0#32)))) (addi (Host.remsi (iotaInDim S16 32 0) (broadcastInDim S16 ![] bcast_S_S16 (select (cmpi .eq (id (constantI S_ 32 2#32)) (constantI S_ 32 0#32)) (constantI S_ 32 1#32) (id (constantI S_ 32 2#32))))) (broadcastInDim S16 ![] bcast_S_S16 (select (cmpi .eq (id (constantI S_ 32 2#32)) (constantI S_ 32 0#32)) (constantI S_ 32 1#32) (id (constantI S_ 32 2#32))))) (Host.remsi (iotaInDim S16 32 0) (broadcastInDim S16 ![] bcast_S_S16 (select (cmpi .eq (id (constantI S_ 32 2#32)) (constantI S_ 32 0#32)) (constantI S_ 32 1#32) (id (constantI S_ 32 2#32)))))) (broadcastInDim S16 ![] bcast_S_S16 (constantI S_ 32 0#32))

/-- The same over the positions and lanes. -/
def evens : IVec S8x16x4096x64 1 :=
  broadcastInDim S8x16x4096x64 ![0, 1, 2, 3] bcast_S1x16x1x1_S8x16x4096x64_0_1_2_3 (broadcastInDim S1x16x1x1 ![1] bcast_S16_S1x16x1x1_1 even)

/-- The keys. -/
def keys (ka : FVec Ideal S32768x2048 .bf16) : FVec Ideal S8x16x4096x64 .f32 := select evens (half0 ka) (half1 ka)

/-- The gate terms, summed over the lanes. -/
def gates (ka : FVec Ideal S32768x2048 .bf16) : FVec Ideal S8x16x4096 .f32 :=
  Host.reduceAdd (select evens (half1 ka) (half0 ka)) (constant S_ .f32 0x00000000#32) reducesTo_S8x16x4096x64_S8x16x4096_d3 h_S_

/-- Which keys a query sees. -/
def seen : IVec S4096x4096 1 :=
  cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))

/-- The scores, with the causal mask. -/
def logits (fm : FVec Ideal S8x16x2048x256 .bf16) (ka : FVec Ideal S32768x2048 .bf16) : FVec Ideal S8x16x4096x4096 .f32 :=
  select (broadcastInDim S8x16x4096x4096 ![2, 3] bcast_S4096x4096_S8x16x4096x4096_2_3 seen)
    (mulf (addf (Host.dotGeneral dot_S8x16x4096x64_S8x16x4096x64_S8x16x4096x4096_3_3_2_2_01_01 none (queries fm) (keys ka))
      (broadcastInDim S8x16x4096x4096 ![0, 1, 2, 3] bcast_S8x16x1x4096_S8x16x4096x4096_0_1_2_3 (broadcastInDim S8x16x1x4096 ![0, 1, 3] bcast_S8x16x4096_S8x16x1x4096_0_1_3 (gates ka))))
      (broadcastInDim S8x16x4096x4096 ![] bcast_S_S8x16x4096x4096 (id (Host.log (constant S_ .f32 0x40000000#32)))))
    (broadcastInDim S8x16x4096x4096 ![] bcast_S_S8x16x4096x4096 (id (constant S_ .f32 0xFF800000#32)))

/-- The largest score of a query. -/
def tops (L : FVec Ideal S8x16x4096x4096 .f32) : FVec Ideal S8x16x4096 .f32 :=
  maximumf (broadcastInDim S8x16x4096 ![] bcast_S_S8x16x4096 (constant S_ .f32 0xFF800000#32))
    (Host.reduce FloatOps.maximumf L (constant S_ .f32 0xFF800000#32) reducesTo_S8x16x4096x4096_S8x16x4096_d3 h_S_)

/-- The exponentials of the scores against the largest. -/
def exps (L : FVec Ideal S8x16x4096x4096 .f32) : FVec Ideal S8x16x4096x4096 .f32 :=
  Host.exp (subf L (broadcastInDim S8x16x4096x4096 ![0, 1, 2, 3] bcast_S8x16x4096x1_S8x16x4096x4096_0_1_2_3 (broadcastInDim S8x16x4096x1 ![0, 1, 2] bcast_S8x16x4096_S8x16x4096x1_0_1_2 (tops L))))

/-- The exponentials over their sum. -/
def soft (L : FVec Ideal S8x16x4096x4096 .f32) : FVec Ideal S8x16x4096x4096 .f32 :=
  Host.divf (exps L) (broadcastInDim S8x16x4096x4096 ![0, 1, 2, 3] bcast_S8x16x4096x1_S8x16x4096x4096_0_1_2_3 (broadcastInDim S8x16x4096x1 ![0, 1, 2] bcast_S8x16x4096_S8x16x4096x1_0_1_2
    (Host.reduceAdd (exps L) (constant S_ .f32 0x00000000#32) reducesTo_S8x16x4096x4096_S8x16x4096_d3 h_S_)))

/-- Whether a query sees any key. -/
def anySeen : IVec S4096 1 := Host.reduce IntOp.ori seen (constantI S_ 1 0#1) reducesTo_S4096x4096_S4096_d1 h_S_

/-- The weights, none where no key is seen. -/
def weights (L : FVec Ideal S8x16x4096x4096 .f32) : FVec Ideal S8x16x4096x4096 .f32 :=
  mulf (soft L) (broadcastInDim S8x16x4096x4096 ![0, 1, 2, 3] bcast_S1x1x4096x1_S8x16x4096x4096_0_1_2_3 (broadcastInDim S1x1x4096x1 ![2, 3] bcast_S4096x1_S1x1x4096x1_2_3 (uitofp .f32 (broadcastInDim S4096x1 ![0] bcast_S4096_S4096x1_0 anySeen))))

/-- The result. -/
def res (fm : FVec Ideal S8x16x2048x256 .bf16) (ka : FVec Ideal S32768x2048 .bf16) : FVec Ideal S8x1024x4096 .bf16 :=
  truncf .bf16 (shapeCast _ (transpose S8x16x64x4096 [0, 1, 3, 2] (Host.dotGeneral dot_S8x16x4096x4096_S8x16x4096x64_S8x16x4096x64_3_2_2_3_01_01 none (weights (logits fm ka)) (values fm)) transposes_S8x16x4096x64_S8x16x64x4096_0_1_3_2) shapeCasts_S8x16x64x4096_S8x1024x4096) bitsLt_bf16_f32

theorem queries_at (fm : FVec Ideal S8x16x2048x256 .bf16) (s : Fin 8) (h : Fin 16) (t : Fin 4096) (d : Fin 64) :
    queries fm (ix4 s h t d) = fm (ix4 s ⟨t / 256, by omega⟩ ⟨64 * h + d, by omega⟩ ⟨t % 256, by omega⟩) := by
  pointwise [queries, parts]
  exact congrArg (fun n => fm (ix4 _ _ n _)) (Fin.ext (by show (h : ℕ) * 64 + d = 64 * h + d; omega))

theorem values_at (fm : FVec Ideal S8x16x2048x256 .bf16) (s : Fin 8) (h : Fin 16) (t : Fin 4096) (d : Fin 64) :
    values fm (ix4 s h t d) = fm (ix4 s ⟨t / 256, by omega⟩ ⟨1024 + 64 * h + d, by omega⟩ ⟨t % 256, by omega⟩) := by
  pointwise [values, parts]
  exact congrArg (fun n => fm (ix4 _ _ n _)) (Fin.ext (by show 1024 + (h : ℕ) * 64 + d = 1024 + 64 * h + d; omega))

theorem half0_at (ka : FVec Ideal S32768x2048 .bf16) (s : Fin 8) (h : Fin 16) (k : Fin 4096) (d : Fin 64) :
    half0 ka (ix4 s h k d) = ka (ix2 ⟨4096 * s + k, by omega⟩ ⟨128 * h + d, by omega⟩) := by
  pointwise [half0, halves]
  exact congrArg₂ (fun n l => ka (ix2 n l)) (Fin.ext (by show (s : ℕ) * 4096 + k = 4096 * s + k; omega)) (Fin.ext (by show (h : ℕ) * 128 + d = 128 * h + d; omega))

theorem half1_at (ka : FVec Ideal S32768x2048 .bf16) (s : Fin 8) (h : Fin 16) (k : Fin 4096) (d : Fin 64) :
    half1 ka (ix4 s h k d) = ka (ix2 ⟨4096 * s + k, by omega⟩ ⟨128 * h + (64 + d), by omega⟩) := by
  pointwise [half1, halves]
  exact congrArg₂ (fun n l => ka (ix2 n l)) (Fin.ext (by show (s : ℕ) * 4096 + k = 4096 * s + k; omega)) (Fin.ext (by show (h : ℕ) * 128 + 64 + d = 128 * h + (64 + d); omega))

theorem even_at (h : Fin 16) : even (ix1 h) = if (h : ℕ) % 2 = 0 then 1#1 else 0#1 := by
  revert h; decide +kernel

theorem evens_at (s : Fin 8) (h : Fin 16) (k : Fin 4096) (d : Fin 64) : evens (ix4 s h k d) = even (ix1 h) := by
  pointwise [evens]

theorem seen_at (t k : Fin 4096) : seen (ix2 t k) = IntOp.cmpi .sle (BitVec.ofNat 32 (k : ℕ)) (BitVec.ofNat 32 (t : ℕ)) := by
  pointwise [seen]

theorem gates_at (ka : FVec Ideal S32768x2048 .bf16) (s : Fin 8) (h : Fin 16) (k : Fin 4096) :
    gates ka (ix3 s h k) = ∑ d : Fin 64, Scalar.select (even (ix1 h)) (half1 ka (ix4 s h k d)) (half0 ka (ix4 s h k d)) := by
  pointwise [gates, evens]

theorem logits_at (fm : FVec Ideal S8x16x2048x256 .bf16) (ka : FVec Ideal S32768x2048 .bf16) (s : Fin 8) (h : Fin 16) (t k : Fin 4096) :
    logits fm ka (ix4 s h t k) = Scalar.select (seen (ix2 t k))
      (((∑ d : Fin 64, queries fm (ix4 s h t d) * keys ka (ix4 s h k d)) + gates ka (ix3 s h k)) * Ideal.log (Ideal.ofBits .f32 0x40000000#32))
      (Ideal.ofBits .f32 0xFF800000#32) := by
  pointwise [logits]
  rfl

theorem fold_real {ι : Type} (S : Finset ι) (x : ι → EReal) (hx : ∀ i, x i ≠ ⊤) (i₀ : ι) (hi : i₀ ∈ S) (h₀ : x i₀ ≠ ⊥) :
    ∃ R : ℝ, S.fold max ⊥ x = R := by
  have h1 : S.fold max ⊥ x < ⊤ := (Finset.fold_max_lt _).mpr ⟨bot_lt_top, fun i _ => lt_top_iff_ne_top.mpr (hx i)⟩
  have h2 : x i₀ ≤ S.fold max ⊥ x := (Finset.le_fold_max _).mpr (Or.inr ⟨i₀, hi, le_rfl⟩)
  exact ⟨_, (EReal.coe_toReal h1.ne (fun h => h₀ (le_bot_iff.mp (h ▸ h2)))).symm⟩

theorem reduce_real {s t u : Shape} {axes : List (Fin s.rank)} (x : FVec Ideal s .f32) (init : FVec Ideal u .f32) (h : s.ReducesTo axes t)
    (hu : 0 < u.numel) (hb : ∀ y, (init y : EReal) = ⊥) (j : t.Idx) (hx : ∀ i, (x i : EReal) ≠ ⊤) (i₀ : s.Idx) (hi : h.drop i₀ = j)
    (h₀ : (x i₀ : EReal) ≠ ⊥) : ∃ R : ℝ, Host.reduce (α := Ideal .f32) FloatOps.maximumf x init h hu j = (R : EReal) := by
  obtain ⟨R, hR⟩ := fold_real (Finset.univ.filter fun i => h.drop i = j) x hx i₀ (Finset.mem_filter.mpr ⟨Finset.mem_univ _, hi⟩) h₀
  refine ⟨R, Eq.trans (Host.reduce_eq_fold (α := EReal) max x init h hu j) ?_⟩
  rw [hb]; exact hR

theorem foldl_ori {ι : Type} (l : List ι) (x : ι → BitVec 1) (i₀ : ι) (h₀ : x i₀ = 1#1) (a : BitVec 1) (hi : i₀ ∈ l ∨ a = 1#1) :
    l.foldl (fun r i => IntOp.ori r (x i)) a = 1#1 := by
  have o1 : ∀ b : BitVec 1, IntOp.ori 1#1 b = 1#1 := by decide
  have o2 : ∀ b : BitVec 1, IntOp.ori b 1#1 = 1#1 := by decide
  induction l generalizing a with
  | nil => exact hi.resolve_left (by simp)
  | cons b l ih =>
    refine ih _ ?_
    rcases hi with hi | rfl
    · rcases List.mem_cons.mp hi with rfl | hi
      · exact Or.inr (by show IntOp.ori a (x i₀) = 1#1; rw [h₀, o2])
      · exact Or.inl hi
    · exact Or.inr (o1 _)

theorem reduce_ori {s t u : Shape} {axes : List (Fin s.rank)} (x : IVec s 1) (init : IVec u 1) (h : s.ReducesTo axes t)
    (hu : 0 < u.numel) (j : t.Idx) (i₀ : s.Idx) (hi : h.drop i₀ = j) (h₀ : x i₀ = 1#1) : Host.reduce IntOp.ori x init h hu j = 1#1 := by
  rw [Host.reduce_eq_foldl]
  refine foldl_ori _ x i₀ h₀ _ (Or.inl ?_)
  rw [List.mem_filter]
  refine ⟨List.mem_map.mpr ⟨s.rowMajor i₀, List.mem_finRange _, Equiv.symm_apply_apply _ _⟩, by simpa using hi⟩

theorem bot_at (y : S_.Idx) : ((constant (F := Ideal) S_ .f32 0xFF800000#32) y : EReal) = ⊥ := by
  show Ideal.ofBits .f32 0xFF800000#32 = ⊥
  simp [Ideal.ofBits, Ideal.ieee]

theorem maximumf_at {s : Shape} (x y : FVec Ideal s .f32) (i : s.Idx) : (maximumf x y i : EReal) = max (x i : EReal) (y i) := rfl

theorem drop_at (s : Fin 8) (h : Fin 16) (t k : Fin 4096) :
    reducesTo_S8x16x4096x4096_S8x16x4096_d3.drop (ix4 s h t k) = ix3 s h t := by
  funext b
  fin_cases b <;> rfl

theorem fill_at (y : S8x16x4096.Idx) :
    ((broadcastInDim S8x16x4096 ![] bcast_S_S8x16x4096 (constant (F := Ideal) S_ .f32 0xFF800000#32)) y : EReal) = ⊥ := bot_at _

theorem tops_real (L : FVec Ideal S8x16x4096x4096 .f32) (hL : ∀ i, (L i : EReal) ≠ ⊤) (s : Fin 8) (h : Fin 16) (t : Fin 4096)
    (h₀ : (L (ix4 s h t t) : EReal) ≠ ⊥) : ∃ R : ℝ, (tops L (ix3 s h t) : EReal) = R := by
  obtain ⟨R, hR⟩ := reduce_real L (constant S_ .f32 0xFF800000#32) reducesTo_S8x16x4096x4096_S8x16x4096_d3 h_S_ bot_at (ix3 s h t) hL
    (ix4 s h t t) (drop_at s h t t) h₀
  refine ⟨R, ?_⟩
  unfold tops
  rw [maximumf_at, fill_at]
  exact (max_eq_right bot_le).trans hR

theorem anySeen_at (t : Fin 4096) (h : seen (ix2 t t) = 1#1) : anySeen (ix1 t) = 1#1 :=
  reduce_ori seen _ _ _ _ (ix2 t t) (funext fun b => by fin_cases b; rfl) h

theorem exps_at (L : FVec Ideal S8x16x4096x4096 .f32) (s : Fin 8) (h : Fin 16) (t k : Fin 4096) :
    exps L (ix4 s h t k) = Ideal.exp (L (ix4 s h t k) - tops L (ix3 s h t)) := by
  pointwise [exps]

theorem soft_at (L : FVec Ideal S8x16x4096x4096 .f32) (s : Fin 8) (h : Fin 16) (t k : Fin 4096) :
    soft L (ix4 s h t k) = Ideal.div (exps L (ix4 s h t k)) (∑ k : Fin 4096, exps L (ix4 s h t k)) := by
  pointwise [soft]

theorem weights_at (L : FVec Ideal S8x16x4096x4096 .f32) (s : Fin 8) (h : Fin 16) (t k : Fin 4096) :
    weights L (ix4 s h t k) = soft L (ix4 s h t k) * (((anySeen (ix1 t)).toNat : ℝ) : EReal) := by
  pointwise [weights]
  rfl

theorem res_at (fm : FVec Ideal S8x16x2048x256 .bf16) (ka : FVec Ideal S32768x2048 .bf16) (s : Fin 8) (h : Fin 16) (e : Fin 64) (t : Fin 4096) :
    res fm ka (ix3 s ⟨64 * h + e, by omega⟩ t) = ∑ k : Fin 4096, weights (logits fm ka) (ix4 s h t k) * values fm (ix4 s h k e) := by
  pointwise [res]

end Cert.ReferenceIdeal.Rows

end
-- ==== Proof.FoxRefEq.lean ====
/-
  The attention as the reference computes it, as the printed program's result term.
-/
module

public import proofs.«01_k».proof.Proof.FoxRef
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.FoxMath

/-- The printed program's result term is `res` of its arguments. -/
theorem res_eq (m : (ℓ : Loc nD τ sig) → Buf (Elt Ideal) ℓ) (c : Dev nD) :
    Cert.ReferenceIdeal.Value.res_out0 m c = res (m ((c : Thread nD τ).loc main_arg0)) (m ((c : Thread nD τ).loc main_arg1)) := by
  unfold Cert.ReferenceIdeal.Value.res_out0 Cert.ReferenceIdeal.Value.res_main_v64 res weights soft exps tops logits seen anySeen gates keys evens even half1 half0 halves values queries parts seen
  rfl

end Cert.ReferenceIdeal.Rows

end
-- ==== Proof.FoxRefVal.lean ====
/-
  The attention of the reference on real inputs is the weighted mean.
-/
module

public import proofs.«01_k».proof.Proof.FoxRef
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.FoxMath

open Cert.FoxSpec Cert.KernelIdeal.Fox

theorem seen_iff (t k : Fin 4096) : seen (ix2 t k) = if (k : ℕ) ≤ t then 1#1 else 0#1 := by
  rw [seen_at]
  have e : ∀ n : Fin 4096, (BitVec.ofNat 32 (n : ℕ)).toInt = (n : ℕ) := fun n => by
    rw [BitVec.toInt_ofNat']
    have := n.2
    rw [Int.bmod_eq_of_le] <;> norm_num <;> omega
  show BitVec.ofBool (decide ((BitVec.ofNat 32 (k : ℕ)).toInt ≤ (BitVec.ofNat 32 (t : ℕ)).toInt)) = _
  rw [e, e]
  by_cases hk : (k : ℕ) ≤ t
  · rw [if_pos hk, decide_eq_true (by exact_mod_cast hk)]; rfl
  · rw [if_neg hk, decide_eq_false (by exact_mod_cast hk)]; rfl

theorem two_at : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e]
  show (if (2 : ℝ) ≤ 0 then ⊥ else ((Real.log 2 : ℝ) : EReal)) = _
  rw [if_neg (by norm_num)]

theorem lanes (f : Fin 128 → ℝ) : ∑ d : Fin 128, f d = (∑ d : Fin 64, f ⟨d, by omega⟩) + ∑ d : Fin 64, f ⟨64 + d, by omega⟩ :=
  Fin.sum_univ_add (a := 64) (b := 64) f

/-- The tile and the row of a position. -/
abbrev tl (k : Fin 4096) : Fin 16 := ⟨k / 256, by omega⟩
abbrev at' (k : Fin 4096) : Fin 256 := ⟨k % 256, by omega⟩

theorem positions (g : Fin 16 → Fin 256 → ℝ) : ∑ k : Fin 4096, g (tl k) (at' k) = ∑ p : Fin 16 × Fin 256, g p.1 p.2 := by
  refine (Fintype.sum_equiv (finProdFinEquiv (m := 16) (n := 256)) (fun p => g p.1 p.2) (fun k : Fin (16 * 256) => g (tl k) (at' k)) fun p => ?_).symm
  have e : ((finProdFinEquiv p : Fin (16 * 256)) : ℕ) = p.2 + 256 * p.1 := rfl
  rw [show tl (finProdFinEquiv p) = p.1 from Fin.ext (by show ((finProdFinEquiv p : Fin (16 * 256)) : ℕ) / 256 = p.1; omega),
    show at' (finProdFinEquiv p) = p.2 from Fin.ext (by show ((finProdFinEquiv p : Fin (16 * 256)) : ℕ) % 256 = p.2; omega)]

variable (fm : FVec Ideal S8x16x2048x256 .bf16) (ka : FVec Ideal S32768x2048 .bf16) (h0 : AllReal fm) (h1 : AllReal ka)

include h0 in
theorem query_real (s : Fin 8) (h : Fin 16) (t : Fin 4096) (d : Fin 64) :
    (queries fm (ix4 s h t d) : EReal) = (qry fm s h (tl t) (at' t) d : ℝ) := by
  rw [queries_at]; exact h0 _

include h0 in
theorem value_real (s : Fin 8) (h : Fin 16) (t : Fin 4096) (d : Fin 64) :
    (values fm (ix4 s h t d) : EReal) = (val fm s h (tl t) d (at' t) : ℝ) := by
  rw [values_at]; exact h0 _

theorem row_eq (s : Fin 8) (k : Fin 4096) :
    (⟨4096 * s + k, by omega⟩ : Fin 32768) = ⟨4096 * s + (256 * (tl k : ℕ) + (at' k : ℕ)), by omega⟩ :=
  Fin.ext (by show 4096 * (s : ℕ) + k = 4096 * s + (256 * (k / 256) + k % 256); omega)

include h1 in
theorem half0_real (s : Fin 8) (h : Fin 16) (k : Fin 4096) (d : Fin 64) :
    (half0 ka (ix4 s h k d) : EReal) = (key ka s h (tl k) (at' k) ⟨d, by omega⟩ : ℝ) := by
  rw [half0_at, row_eq]; exact h1 _

include h1 in
theorem half1_real (s : Fin 8) (h : Fin 16) (k : Fin 4096) (d : Fin 64) :
    (half1 ka (ix4 s h k d) : EReal) = (key ka s h (tl k) (at' k) ⟨64 + d, by omega⟩ : ℝ) := by
  rw [half1_at, row_eq]; exact h1 _

theorem keys_at (s : Fin 8) (h : Fin 16) (k : Fin 4096) (d : Fin 64) :
    keys ka (ix4 s h k d) = Scalar.select (even (ix1 h)) (half0 ka (ix4 s h k d)) (half1 ka (ix4 s h k d)) := by
  rw [← evens_at s h k d]; rfl

theorem dot_real (f g : Fin 64 → ℝ) : (∑ d : Fin 64, (f d : EReal) * (g d : EReal)) = ((∑ d : Fin 64, f d * g d : ℝ) : EReal) := by
  rw [coe_sum]; exact Finset.sum_congr rfl fun d _ => (EReal.coe_mul _ _).symm

include h0 h1 in
theorem raw_real (s : Fin 8) (h : Fin 16) (t k : Fin 4096) :
    ((∑ d : Fin 64, (queries fm (ix4 s h t d) : EReal) * keys ka (ix4 s h k d)) + gates ka (ix3 s h k) : EReal)
      = (logit fm ka s h (tl t) (at' t) (tl k) (at' k) : ℝ) := by
  rw [gates_at]
  simp only [keys_at, even_at]
  unfold logit
  rw [lanes]
  by_cases hh : (h : ℕ) % 2 = 0
  · simp only [if_pos hh]
    show (∑ d : Fin 64, (queries fm (ix4 s h t d) : EReal) * half0 ka (ix4 s h k d)) + ∑ d : Fin 64, (half1 ka (ix4 s h k d) : EReal) = _
    simp only [query_real fm h0, half0_real ka h1, half1_real ka h1]
    rw [dot_real, ← coe_sum, ← EReal.coe_add]
    refine congrArg (fun x : ℝ => (x : EReal)) (congrArg₂ (· + ·) (Finset.sum_congr rfl fun d _ => ?_) (Finset.sum_congr rfl fun d _ => ?_))
    · unfold lane
      rw [if_pos hh, dif_pos (show ((⟨d, by omega⟩ : Fin 128) : ℕ) < 64 from d.2), mul_comm]
    · unfold lane
      rw [if_pos hh, dif_neg (show ¬ 64 + (d : ℕ) < 64 by omega), mul_one]
  · simp only [if_neg hh]
    show (∑ d : Fin 64, (queries fm (ix4 s h t d) : EReal) * half1 ka (ix4 s h k d)) + ∑ d : Fin 64, (half0 ka (ix4 s h k d) : EReal) = _
    simp only [query_real fm h0, half0_real ka h1, half1_real ka h1]
    rw [dot_real, ← coe_sum, ← EReal.coe_add, add_comm]
    refine congrArg (fun x : ℝ => (x : EReal)) (congrArg₂ (· + ·) (Finset.sum_congr rfl fun d _ => ?_) (Finset.sum_congr rfl fun d _ => ?_))
    · unfold lane
      rw [if_neg hh, dif_pos (show ((⟨d, by omega⟩ : Fin 128) : ℕ) < 64 from d.2), mul_one]
    · unfold lane
      rw [if_neg hh, dif_neg (show ¬ 64 + (d : ℕ) < 64 by omega), mul_comm]
      refine congrArg (fun n => _ * qry fm s h (tl t) (at' t) n) (Fin.ext ?_)
      show (d : ℕ) = 64 + d - 64
      omega

/-- The score of a key, in exponents of two. -/
abbrev sc (s : Fin 8) (h : Fin 16) (t k : Fin 4096) : EReal :=
  score (logit fm ka s h (tl t) (at' t)) (tl t) (at' t) (tl k) (at' k)

include h0 h1 in
theorem logits_real (s : Fin 8) (h : Fin 16) (t k : Fin 4096) :
    (logits fm ka (ix4 s h t k) : EReal) = sc fm ka s h t k * ((Real.log 2 : ℝ) : EReal) := by
  rw [logits_at, seen_iff, two_at]
  unfold sc score
  by_cases hk : (k : ℕ) ≤ t
  · rw [if_pos hk, if_pos (show 256 * ((k : ℕ) / 256) + k % 256 ≤ 256 * (t / 256) + t % 256 by omega)]
    show (_ + _ : EReal) * _ = _
    rw [raw_real fm ka h0 h1]
  · rw [if_neg hk, if_neg (show ¬ 256 * ((k : ℕ) / 256) + k % 256 ≤ 256 * (t / 256) + t % 256 by omega),
      EReal.bot_mul_coe_of_pos (Real.log_pos (by norm_num))]
    exact bot_at ix0

include h0 h1 in
theorem res_real (s : Fin 8) (h : Fin 16) (e : Fin 64) (t : Fin 4096) :
    (res fm ka (ix3 s ⟨64 * h + e, by omega⟩ t) : EReal) = (attn fm ka s h e (tl t) (at' t) : ℝ) := by
  have hl : 0 < Real.log 2 := Real.log_pos (by norm_num)
  have hne : ∀ s h t k, sc fm ka s h t k ≠ ⊤ := fun _ _ _ _ => score_ne_top _ _ _ _ _
  have htt : sc fm ka s h t t = (logit fm ka s h (tl t) (at' t) (tl t) (at' t) : ℝ) := by
    unfold sc score; rw [if_pos le_rfl]
  have htop : ∀ i, (logits fm ka i : EReal) ≠ ⊤ := fun i => by
    obtain ⟨s, h, t, k, rfl⟩ : ∃ (s : Fin 8) (h : Fin 16) (t k : Fin 4096), i = ix4 s h t k := ⟨i 0, i 1, i 2, i 3, eq_ix4 i⟩
    rw [logits_real fm ka h0 h1]
    unfold sc score
    split
    · rw [← EReal.coe_mul]; exact EReal.coe_ne_top _
    · rw [EReal.bot_mul_coe_of_pos hl]; exact bot_ne_top
  obtain ⟨R, hR⟩ := tops_real (logits fm ka) htop s h t (by
    rw [logits_real fm ka h0 h1, htt, ← EReal.coe_mul]; exact EReal.coe_ne_bot _)
  have hexp : ∀ k, (exps (logits fm ka) (ix4 s h t k) : EReal) = (e2 (sc fm ka s h t k) (R / Real.log 2) : ℝ) := fun k => by
    rw [exps_at, logits_real fm ka h0 h1]
    show Ideal.exp (_ * _ - (tops (logits fm ka) (ix3 s h t) : EReal)) = _
    rw [hR, exp_sub _ (hne s h t k)]
  have hpos := sum_e2_pos Finset.univ (fun k => sc fm ka s h t k) (R / Real.log 2) t (Finset.mem_univ _) (by rw [htt]; exact EReal.coe_ne_bot _)
  have hany : anySeen (ix1 t) = 1#1 := anySeen_at t (by rw [seen_iff, if_pos le_rfl])
  have hw : ∀ k, (weights (logits fm ka) (ix4 s h t k) : EReal)
      = ((e2 (sc fm ka s h t k) (R / Real.log 2) / ∑ k, e2 (sc fm ka s h t k) (R / Real.log 2) : ℝ) : EReal) := fun k => by
    rw [weights_at, hany, soft_at]
    simp only [hexp]
    rw [← coe_sum]
    show Ideal.div _ _ * (((1 : ℕ) : ℝ) : EReal) = _
    rw [div_coe _ _ hpos.ne', Nat.cast_one, EReal.coe_one, mul_one]
  rw [res_at]
  simp only [hw, value_real fm h0]
  rw [show (∑ k : Fin 4096, ((e2 (sc fm ka s h t k) (R / Real.log 2) / ∑ k, e2 (sc fm ka s h t k) (R / Real.log 2) : ℝ) : EReal)
        * (val fm s h (tl k) e (at' k) : ℝ))
      = ((∑ k : Fin 4096, e2 (sc fm ka s h t k) (R / Real.log 2) / (∑ k, e2 (sc fm ka s h t k) (R / Real.log 2))
        * val fm s h (tl k) e (at' k) : ℝ) : EReal) from by
    rw [coe_sum]; exact Finset.sum_congr rfl fun k _ => (EReal.coe_mul _ _).symm]
  refine congrArg (fun x : ℝ => (x : EReal)) ?_
  unfold attn mean
  rw [← positions (fun n r => val fm s h n e r * e2 (score (logit fm ka s h (tl t) (at' t)) (tl t) (at' t) n r) 0),
    ← positions (fun n r => e2 (score (logit fm ka s h (tl t) (at' t)) (tl t) (at' t) n r) 0)]
  refine Eq.trans ?_ (att_shift Finset.univ (fun k => sc fm ka s h t k) (fun k => val fm s h (tl k) e (at' k)) (R / Real.log 2) 0)
  rw [Finset.sum_div]
  exact Finset.sum_congr rfl fun k _ => by ring

/-- THE REFERENCE'S RESULT on real inputs. -/
theorem res_result (h0 : AllReal fm) (h1 : AllReal ka) : res fm ka = result fm ka := by
  funext y
  obtain ⟨s, n, t, rfl⟩ : ∃ (s : Fin 8) (n : Fin 1024) (t : Fin 4096), y = ix3 s n t := ⟨y 0, y 1, y 2, eq_ix3 y⟩
  obtain ⟨h, e, rfl⟩ : ∃ (h : Fin 16) (e : Fin 64), n = ⟨64 * h + e, by omega⟩ :=
    ⟨⟨n / 64, by omega⟩, ⟨n % 64, by omega⟩, Fin.ext (by show (n : ℕ) = 64 * (n / 64) + n % 64; omega)⟩
  obtain ⟨b, j, rfl⟩ : ∃ (b : Fin 16) (j : Fin 256), t = ⟨256 * b + j, by omega⟩ :=
    ⟨⟨t / 256, by omega⟩, ⟨t % 256, by omega⟩, Fin.ext (by show (t : ℕ) = 256 * (t / 256) + t % 256; omega)⟩
  refine (res_real fm ka h0 h1 s h e _).trans ?_
  rw [show tl ⟨256 * b + j, by omega⟩ = b from Fin.ext (by show (256 * (b : ℕ) + j) / 256 = b; omega),
    show at' ⟨256 * b + j, by omega⟩ = j from Fin.ext (by show (256 * (b : ℕ) + j) % 256 = j; omega)]
  exact (result_at fm ka s h e b j).symm

end Cert.ReferenceIdeal.Rows

end
-- ==== Proof.FoxClaims.lean ====
/- The claim about the attention kernel: on finite arguments its array is the reference's, element by element. -/
module

public import proofs.«01_k».proof.Defs
public import proofs.«01_k».proof.Proof.FoxFinite
public import proofs.«01_k».proof.Proof.FoxFinal
public import proofs.«01_k».proof.Proof.FoxRefEq
public import proofs.«01_k».proof.Proof.FoxRefVal
public import Idealize.ShloMosaic.Lib.Claim

@[expose] public section

noncomputable section

namespace Cert.FoxClaims

open Idealize.ShloMosaic Idealize.SL.Sem

instance : Cert.KernelIdeal.Facts := Cert.KernelIdeal.Gen.facts
instance : Cert.ReferenceIdeal.Facts := Cert.ReferenceIdeal.Gen.facts

/-- The attention: the kernel's array is the reference's. -/
theorem attention : Cert.algebraic_KernelIdeal_ReferenceIdeal_pre_finite := by
  intro m g m' g' hpre hagree
  refine ⟨fun c => (Cert.KernelIdeal.Fox.dats m 0 c).arrAt 4 (Cert.KernelIdeal.cfgs 0).N, ?_, ?_⟩
  · exact θ_run_mono (θ_run_and (Cert.KernelIdeal.Fox.run_main m g) (Cert.KernelIdeal.Fox.unchanged m g))
      fun r h c => ⟨(h.1 c).1 4, h.2 c⟩
  · refine θ_run_mono (Cert.ReferenceIdeal.Value.run m' g') fun r h c => ⟨(h c).1.trans ?_, (h c).2⟩
    obtain ⟨a0, a1⟩ := hagree c
    obtain ⟨h0, h1⟩ := Finite.reals _ _ (hpre c)
    show Cert.ReferenceIdeal.Value.res_out0 m' c = _
    rw [Cert.ReferenceIdeal.Rows.res_eq, a0, a1]
    exact (Cert.ReferenceIdeal.Rows.res_result _ _ h0 h1).trans (Cert.KernelIdeal.Fox.final m c h0 h1).symm

end Cert.FoxClaims

end
-- ==== Proof.PostRow.lean ====
/-
  The end of a layer, one token row at a time: the mathematics that both the kernels and the references are read as.
  A row is a function of the 1024 feature positions; matrices are functions of two positions.
-/
module

public import Idealize.ShloMosaic.Lib.Pointwise

@[expose] public section

noncomputable section

open Idealize.ShloMosaic

namespace Cert.PostRow

/-- The residual row plus the output projection of the row's attention output. -/
def proj (h o : Fin 1024 → EReal) (w : Fin 1024 → Fin 1024 → EReal) (j : Fin 1024) : EReal :=
  h j + ∑ k : Fin 1024, o k * w k j

/-- A row of two halves. -/
def pair (a b : Fin 512 → EReal) (k : Fin 1024) : EReal :=
  if h : (k : ℕ) < 512 then a ⟨k, h⟩ else b ⟨(k : ℕ) - 512, by omega⟩

/-- Feature `k` of the first half, and of the second. -/
def lo (k : Fin 512) : Fin 1024 := ⟨k, by omega⟩
def hi (k : Fin 512) : Fin 1024 := ⟨512 + (k : ℕ), by omega⟩

/-- The projection of a row of two halves, half by half. -/
theorem proj_pair (h : Fin 1024 → EReal) (a b : Fin 512 → EReal) (w : Fin 1024 → Fin 1024 → EReal) (j : Fin 1024) :
    proj h (pair a b) w j = h j + (∑ k : Fin 512, a k * w (lo k) j + ∑ k : Fin 512, b k * w (hi k) j) := by
  unfold proj
  rw [Fin.sum_univ_two_halves 512 512 rfl]
  refine congrArg _ (congrArg₂ _ (Finset.sum_congr rfl fun k _ => ?_) (Finset.sum_congr rfl fun k _ => ?_))
  · have : (k : ℕ) < 512 := k.isLt
    simp [pair, lo]
  · simp [pair, hi]

/-- Root-mean-square normalisation of a row, scaled by the gain `g`. -/
def norm (x g : Fin 1024 → EReal) (j : Fin 1024) : EReal :=
  x j * Ideal.rsqrt (Ideal.div (∑ k : Fin 1024, x k * x k) (Ideal.ofBits .f32 0x44800000#32)
    + Ideal.ofBits .f32 0x3727C5AC#32) * g j

/-- One hidden unit: the rectified product of the row with a column of the first matrix. -/
def hid (x : Fin 1024 → EReal) (w : Fin 1024 → Fin 4096 → EReal) (n : Fin 4096) : EReal :=
  max (∑ k : Fin 1024, x k * w k n) 0

/-- The row plus the squared hidden units times the second matrix. -/
def mlp (x y : Fin 1024 → EReal) (w1 : Fin 1024 → Fin 4096 → EReal) (w2 : Fin 4096 → Fin 1024 → EReal)
    (j : Fin 1024) : EReal :=
  x j + ∑ n : Fin 4096, hid y w1 n * hid y w1 n * w2 n j

/-- Hidden unit `n` of the tile of 1024 that begins at `a * 1024`. -/
def unit (a : Fin 4) (n : Fin 1024) : Fin 4096 := ⟨(a : ℕ) * 1024 + n, by omega⟩

/-- The hidden units taken in four successive tiles of 1024, each added to the row before, give the whole sum. -/
theorem mlp_tiles (x y : Fin 1024 → EReal) (w1 : Fin 1024 → Fin 4096 → EReal) (w2 : Fin 4096 → Fin 1024 → EReal)
    (j : Fin 1024) :
    x j + (∑ n : Fin 1024, hid y w1 (unit 0 n) * hid y w1 (unit 0 n) * w2 (unit 0 n) j)
      + (∑ n : Fin 1024, hid y w1 (unit 1 n) * hid y w1 (unit 1 n) * w2 (unit 1 n) j)
      + (∑ n : Fin 1024, hid y w1 (unit 2 n) * hid y w1 (unit 2 n) * w2 (unit 2 n) j)
      + (∑ n : Fin 1024, hid y w1 (unit 3 n) * hid y w1 (unit 3 n) * w2 (unit 3 n) j)
      = mlp x y w1 w2 j := by
  unfold mlp
  rw [Fin.sum_univ_tiles 4 1024 rfl (fun n => hid y w1 n * hid y w1 n * w2 n j), Fin.sum_univ_four]
  simp only [← add_assoc]
  rfl

end Cert.PostRow

end
-- ==== Proof.PostFinal.lean ====
/-
  The end of layer 1 and the final norm, as the kernel computes it: what one block of 512 rows is, row by row, and
  what the result array holds after the run.
-/
module

public import proofs.«01_k».proof.Proof.PostRow
public import proofs.«01_k».proof.Proof.Gen.Kernel2Ideal.Frame
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Rows

open Cert.Kernel2Ideal Cert.Kernel2Ideal.Gen Cert.PostRow

variable (m : (ℓ : Loc nD τ sig) → Buf (Elt Ideal) ℓ)

/-- The residual row plus the output projection, one row of a block. -/
theorem pay2_at (v0 : Vec Ideal S512x1024 .f32) (v1 : Vec Ideal S1x1024x512 .bf16) (v3 : Vec Ideal S1024x1024 .bf16)
    (r : Fin 512) (j : Fin 1024) :
    k0_pay2 v0 v1 v3 (ix2 r j)
      = proj (fun j => v0 (ix2 r j)) (fun k => v1 (ix3 0 k r)) (fun k j => v3 (ix2 k j)) j := by
  unfold proj
  pointwise [k0_pay2]

/-- The normalised row, one row of a block. -/
theorem pay3_at (v8 : Vec Ideal S512x1024 .f32) (v10 : Vec Ideal S1x1024 .f32) (r : Fin 512) (j : Fin 1024) :
    k0_pay3 v8 v10 (ix2 r j) = norm (fun j => v8 (ix2 r j)) (fun j => v10 (ix2 0 j)) j := by
  unfold PostRow.norm
  pointwise [k0_pay3]

/-- The last normalisation, one row of a block. -/
theorem pay1_at (v : Vec Ideal S512x1024 .f32) (g : Vec Ideal S1x1024 .f32) (r : Fin 512) (j : Fin 1024) :
    k0_pay1 (k0_pay10 v) (k0_pay11 g) (k0_pay12 v) k0_pay13 (ix2 r j)
      = norm (fun j => v (ix2 r j)) (fun j => g (ix2 0 j)) j := by
  unfold PostRow.norm
  pointwise [k0_pay1, k0_pay10, k0_pay11, k0_pay12, k0_pay13]

/-- One tile of 1024 hidden units added to a row: the first tile. -/
theorem pay5_at (y : Vec Ideal S512x1024 .bf16) (w1 : Vec Ideal S1024x1024 .bf16) (x : Vec Ideal S512x1024 .f32)
    (w2 : Vec Ideal S1024x1024 .bf16) (r : Fin 512) (j : Fin 1024) :
    k0_pay5 (k0_pay4 y w1) (FloatOps.ofBits FTy.f32 0#32) x w2 (ix2 r j)
      = x (ix2 r j) + ∑ n : Fin 1024, max (∑ k : Fin 1024, y (ix2 r k) * w1 (ix2 k n)) 0
          * max (∑ k : Fin 1024, y (ix2 r k) * w1 (ix2 k n)) 0 * w2 (ix2 n j) := by
  pointwise [k0_pay5, k0_pay4]

/-- The second tile. -/
theorem pay6_at (y : Vec Ideal S512x1024 .bf16) (w1 : Vec Ideal S1024x1024 .bf16) (x : Vec Ideal S512x1024 .f32)
    (w2 : Vec Ideal S1024x1024 .bf16) (r : Fin 512) (j : Fin 1024) :
    k0_pay6 y w1 x w2 (ix2 r j)
      = x (ix2 r j) + ∑ n : Fin 1024, max (∑ k : Fin 1024, y (ix2 r k) * w1 (ix2 k n)) 0
          * max (∑ k : Fin 1024, y (ix2 r k) * w1 (ix2 k n)) 0 * w2 (ix2 n j) := by
  pointwise [k0_pay6]

/-- The third tile. -/
theorem pay8_at (y : Vec Ideal S512x1024 .bf16) (w1 : Vec Ideal S1024x1024 .bf16) (x : Vec Ideal S512x1024 .f32)
    (w2 : Vec Ideal S1024x1024 .bf16) (r : Fin 512) (j : Fin 1024) :
    k0_pay8 (k0_pay7 y w1) x w2 (ix2 r j)
      = x (ix2 r j) + ∑ n : Fin 1024, max (∑ k : Fin 1024, y (ix2 r k) * w1 (ix2 k n)) 0
          * max (∑ k : Fin 1024, y (ix2 r k) * w1 (ix2 k n)) 0 * w2 (ix2 n j) := by
  pointwise [k0_pay8, k0_pay7]

/-- The last tile. -/
theorem pay9_at (y : Vec Ideal S512x1024 .bf16) (w1 : Vec Ideal S1024x1024 .bf16) (x : Vec Ideal S512x1024 .f32)
    (w2 : Vec Ideal S1024x1024 .bf16) (r : Fin 512) (j : Fin 1024) :
    k0_pay9 y w1 x w2 (ix2 r j)
      = x (ix2 r j) + ∑ n : Fin 1024, max (∑ k : Fin 1024, y (ix2 r k) * w1 (ix2 k n)) 0
          * max (∑ k : Fin 1024, y (ix2 r k) * w1 (ix2 k n)) 0 * w2 (ix2 n j) := by
  pointwise [k0_pay9]

/-- The whole perceptron of a block: the four tiles, when tile `a` of either matrix is its columns or rows from
    `a * 1024` on. -/
theorem mlp_at (x : Vec Ideal S512x1024 .f32) (g : Vec Ideal S1x1024 .f32)
    (p0 p1 p2 p3 q0 q1 q2 q3 : Vec Ideal S1024x1024 .bf16)
    (W1 : Fin 1024 → Fin 4096 → EReal) (W2 : Fin 4096 → Fin 1024 → EReal)
    (hp0 : ∀ k n, p0 (ix2 k n) = W1 k (unit 0 n)) (hp1 : ∀ k n, p1 (ix2 k n) = W1 k (unit 1 n))
    (hp2 : ∀ k n, p2 (ix2 k n) = W1 k (unit 2 n)) (hp3 : ∀ k n, p3 (ix2 k n) = W1 k (unit 3 n))
    (hq0 : ∀ n j, q0 (ix2 n j) = W2 (unit 0 n) j) (hq1 : ∀ n j, q1 (ix2 n j) = W2 (unit 1 n) j)
    (hq2 : ∀ n j, q2 (ix2 n j) = W2 (unit 2 n) j) (hq3 : ∀ n j, q3 (ix2 n j) = W2 (unit 3 n) j)
    (r : Fin 512) (j : Fin 1024) :
    k0_pay9 (k0_pay3 x g) p3
        (k0_pay8 (k0_pay7 (k0_pay3 x g) p2)
          (k0_pay6 (k0_pay3 x g) p1
            (k0_pay5 (k0_pay4 (k0_pay3 x g) p0) (FloatOps.ofBits FTy.f32 0#32) x q0) q1) q2) q3 (ix2 r j)
      = mlp (fun j => x (ix2 r j)) (norm (fun j => x (ix2 r j)) fun j => g (ix2 0 j)) W1 W2 j := by
  rw [pay9_at, pay8_at, pay6_at, pay5_at, ← mlp_tiles]
  simp only [pay3_at, hp0, hp1, hp2, hp3, hq0, hq1, hq2, hq3]
  rfl

/-- The block the body stores, from its seven input blocks. -/
theorem body_at (b0 : Vec Ideal S1x1024x512 .bf16) (b1 : Vec Ideal S512x1024 .f32) (b2 : Vec Ideal S1024x1024 .bf16)
    (b3 b6 : Vec Ideal S1x1024 .f32) (p0 p1 p2 p3 q0 q1 q2 q3 : Vec Ideal S1024x1024 .bf16)
    (h o g gf : Fin 1024 → EReal) (W : Fin 1024 → Fin 1024 → EReal)
    (W1 : Fin 1024 → Fin 4096 → EReal) (W2 : Fin 4096 → Fin 1024 → EReal) (r : Fin 512)
    (h0 : ∀ k, b0 (ix3 0 k r) = o k) (h1 : ∀ j, b1 (ix2 r j) = h j) (h2 : ∀ k j, b2 (ix2 k j) = W k j)
    (h3 : ∀ j, b3 (ix2 0 j) = g j) (h6 : ∀ j, b6 (ix2 0 j) = gf j)
    (hp0 : ∀ k n, p0 (ix2 k n) = W1 k (unit 0 n)) (hp1 : ∀ k n, p1 (ix2 k n) = W1 k (unit 1 n))
    (hp2 : ∀ k n, p2 (ix2 k n) = W1 k (unit 2 n)) (hp3 : ∀ k n, p3 (ix2 k n) = W1 k (unit 3 n))
    (hq0 : ∀ n j, q0 (ix2 n j) = W2 (unit 0 n) j) (hq1 : ∀ n j, q1 (ix2 n j) = W2 (unit 1 n) j)
    (hq2 : ∀ n j, q2 (ix2 n j) = W2 (unit 2 n) j) (hq3 : ∀ n j, q3 (ix2 n j) = W2 (unit 3 n) j) (j : Fin 1024) :
    k0_pay1
        (k0_pay10 (k0_pay9 (k0_pay3 (k0_pay2 b1 b0 b2) b3) p3
          (k0_pay8 (k0_pay7 (k0_pay3 (k0_pay2 b1 b0 b2) b3) p2)
            (k0_pay6 (k0_pay3 (k0_pay2 b1 b0 b2) b3) p1
              (k0_pay5 (k0_pay4 (k0_pay3 (k0_pay2 b1 b0 b2) b3) p0) (FloatOps.ofBits FTy.f32 0#32)
                (k0_pay2 b1 b0 b2) q0) q1) q2) q3)) (k0_pay11 b6)
        (k0_pay12 (k0_pay9 (k0_pay3 (k0_pay2 b1 b0 b2) b3) p3
          (k0_pay8 (k0_pay7 (k0_pay3 (k0_pay2 b1 b0 b2) b3) p2)
            (k0_pay6 (k0_pay3 (k0_pay2 b1 b0 b2) b3) p1
              (k0_pay5 (k0_pay4 (k0_pay3 (k0_pay2 b1 b0 b2) b3) p0) (FloatOps.ofBits FTy.f32 0#32)
                (k0_pay2 b1 b0 b2) q0) q1) q2) q3)) k0_pay13 (ix2 r j)
      = norm (mlp (proj h o W) (norm (proj h o W) g) W1 W2) gf j := by
  rw [pay1_at]
  simp only [mlp_at _ _ p0 p1 p2 p3 q0 q1 q2 q3 W1 W2 hp0 hp1 hp2 hp3 hq0 hq1 hq2 hq3, pay2_at, h0, h1, h2, h3, h6]

/-- Which block of its array every window holds at grid point `t`. -/
theorem idx : ∀ t : Fin cfg0.N, win0_0.index t = ![t.val / 8, 0, t.val % 8] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] ∧ t.val < 64 :=
  (by decide +kernel : ∀ t : Fin grid0.N, _)

/-- Row `i` of the result, from the argument arrays. -/
def row (O : FVec Ideal S8x1024x4096 .bf16) (H : FVec Ideal S32768x1024 .f32) (W : FVec Ideal S1x1024x1024 .f32)
    (G : FVec Ideal S2x1024 .f32) (W1 : FVec Ideal S2x1024x4096 .f32) (W2 : FVec Ideal S2x4096x1024 .f32)
    (GF : FVec Ideal S1024 .f32) (i : Fin 32768) : Fin 1024 → EReal :=
  let x := proj (fun j => H (ix2 i j))
    (fun k => O (ix3 ⟨(i : ℕ) / 4096, by omega⟩ k ⟨(i : ℕ) % 4096, by omega⟩)) (fun k j => W (ix3 0 k j))
  norm (mlp x (norm x fun j => G (ix2 1 j)) (fun k n => W1 (ix3 1 k n)) (fun n j => W2 (ix3 1 n j)))
    (fun j => GF (ix1 j))

/-- The same of device `c`'s argument arrays. -/
abbrev rowOf (c : Dev nD) : Fin 32768 → Fin 1024 → EReal :=
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- THE RESULT ARRAY after the run: row `i` at `rowOf`. -/
theorem final (c : Dev nD) : (dats m 0 c).arrAt 7 (cfgs 0).N
    = fun i : S32768x1024.Idx => (rowOf m c (i 0) (i 1) : EReal) := by
  refine (dats m 0 c).arrAt_eq_of_covers 7 _ (by decide +kernel) fun t _ y => ?_
  blk_simp
  rw [after0_7]
  unfold outsAt0
  frame_open
  simp (disch := decide) only [↓ View.readCov_skip, ↓ View.readCov_cons_toLoadRect, ↓ View.readCov_fill]
  frame_out
  idx_vars y
  have hN := idx t
  refine (body_at _ _ _ _ _ _ _ _ _ _ _ _ _
    (fun j => (m ((c : Thread nD τ).loc main_arg1) : FVec Ideal S32768x1024 .f32) (ix2 ⟨512 * t.val + y0, by omega⟩ j))
    (fun k => (m ((c : Thread nD τ).loc main_arg0) : FVec Ideal S8x1024x4096 .bf16)
      (ix3 ⟨(512 * t.val + y0) / 4096, by omega⟩ k ⟨(512 * t.val + y0) % 4096, by omega⟩))
    (fun j => (m ((c : Thread nD τ).loc main_arg3) : FVec Ideal S2x1024 .f32) (ix2 1 j))
    (fun j => (m ((c : Thread nD τ).loc main_arg6) : FVec Ideal S1024 .f32) (ix1 j))
    (fun k j => (m ((c : Thread nD τ).loc main_arg2) : FVec Ideal S1x1024x1024 .f32) (ix3 0 k j))
    (fun k n => (m ((c : Thread nD τ).loc main_arg4) : FVec Ideal S2x1024x4096 .f32) (ix3 1 k n))
    (fun n j => (m ((c : Thread nD τ).loc main_arg5) : FVec Ideal S2x4096x1024 .f32) (ix3 1 n j))
    y0 ?_ ?_ ?_ ?_ ?_ ?_ ?_ ?_ ?_ ?_ ?_ ?_ ?_ y1).trans ?_
  all_goals try intro a
  all_goals try intro b
  all_goals try pointwise
  all_goals try (blk_point [iblk, V, idx t, unit]; done)
  refine Eq.trans (b := rowOf m c ⟨512 * t.val + y0, by omega⟩ y1) rfl
    (congrArg₂ (rowOf m c) (Fin.ext ?_) (Fin.ext ?_)) <;> (blk_simp [idx t] <;> try (dsimp only; omega))

end Cert.Kernel2Ideal.Rows

end
-- ==== Proof.PostFinalRef.lean ====
/-
  The end of layer 1 and the final norm, as the reference computes it, read row by row.
-/
module

public import proofs.«01_k».proof.Proof.PostRow
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Reference2Ideal.Rows

open Cert.Reference2Ideal Cert.Reference2Ideal.Gen Cert.PostRow

/-- The residual stream after the output projection. -/
def stream (O : FVec Ideal S8x1024x4096 .bf16) (H : FVec Ideal S32768x1024 .f32) (W : FVec Ideal S1x1024x1024 .f32) :
    FVec Ideal S32768x1024 .f32 :=
  addf H (Host.dotGeneral dot_S32768x1024_S1024x1024_S32768x1024_1_0_0_1_n_n none
    (shapeCast S32768x1024 (transpose S8x4096x1024 [0, 2, 1] (extf .f32 O bitsLt_bf16_f32)
      transposes_S8x1024x4096_S8x4096x1024_0_2_1) shapeCasts_S8x4096x1024_S32768x1024)
    (shapeCast S1024x1024 W shapeCasts_S1x1024x1024_S1024x1024))

/-- The normalisation of every row. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf
    (Host.divf (broadcastInDim S32768x1 ![0] bcast_S32768_S32768x1_0 (Host.reduceAdd (mulf x x)
      (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x3727C5AC#32))))))
    (broadcastInDim S32768x1024 ![0, 1] bcast_S1x1024_S32768x1024_0_1
      (broadcastInDim S1x1024 ![1] bcast_S1024_S1x1024_1 g))

/-- The rectified hidden units of every row. -/
def units (y : FVec Ideal S32768x1024 .f32) (W1 : FVec Ideal S2x1024x4096 .f32) : FVec Ideal S32768x4096 .f32 :=
  maximumf (Host.dotGeneral dot_S32768x1024_S1024x4096_S32768x4096_1_0_0_1_n_n none y
    (shapeCast S1024x4096 (extractStridedSlice S1x1024x4096 ![1, 0, 0] W1 slices_S2x1024x4096_S1x1024x4096_1_0_0)
      shapeCasts_S1x1024x4096_S1024x4096))
    (broadcastInDim S32768x4096 ![] bcast_S_S32768x4096 (constant S_ .f32 0x00000000#32))

/-- The stream plus the perceptron's output. -/
def added (x : FVec Ideal S32768x1024 .f32) (a : FVec Ideal S32768x4096 .f32) (W2 : FVec Ideal S2x4096x1024 .f32) :
    FVec Ideal S32768x1024 .f32 :=
  addf x (Host.dotGeneral dot_S32768x4096_S4096x1024_S32768x1024_1_0_0_1_n_n none (mulf a a)
    (shapeCast S4096x1024 (extractStridedSlice S1x4096x1024 ![1, 0, 0] W2 slices_S2x4096x1024_S1x4096x1024_1_0_0)
      shapeCasts_S1x4096x1024_S4096x1024))

/-- The gain of layer 1. -/
def gain (G : FVec Ideal S2x1024 .f32) : FVec Ideal S1024 .f32 :=
  shapeCast S1024 (extractStridedSlice S1x1024 ![1, 0] G slices_S2x1024_S1x1024_1_0) shapeCasts_S1x1024_S1024

/-- The reference's result as these five steps. -/
def res (O : FVec Ideal S8x1024x4096 .bf16) (H : FVec Ideal S32768x1024 .f32) (W : FVec Ideal S1x1024x1024 .f32)
    (G : FVec Ideal S2x1024 .f32) (W1 : FVec Ideal S2x1024x4096 .f32) (W2 : FVec Ideal S2x4096x1024 .f32)
    (GF : FVec Ideal S1024 .f32) : FVec Ideal S32768x1024 .f32 :=
  normed (added (stream O H W) (units (normed (stream O H W) (gain G)) W1) W2) GF

theorem stream_at (O : FVec Ideal S8x1024x4096 .bf16) (H : FVec Ideal S32768x1024 .f32)
    (W : FVec Ideal S1x1024x1024 .f32) (i : Fin 32768) (j : Fin 1024) :
    stream O H W (ix2 i j) = proj (fun j => H (ix2 i j))
      (fun k => O (ix3 ⟨(i : ℕ) / 4096, by omega⟩ k ⟨(i : ℕ) % 4096, by omega⟩)) (fun k j => W (ix3 0 k j)) j := by
  unfold proj
  pointwise [stream]

theorem normed_at (x : FVec Ideal S32768x1024 .f32) (g : FVec Ideal S1024 .f32) (i : Fin 32768) (j : Fin 1024) :
    normed x g (ix2 i j) = norm (fun j => x (ix2 i j)) (fun j => g (ix1 j)) j := by
  unfold PostRow.norm
  pointwise [normed]

theorem added_at (x y : FVec Ideal S32768x1024 .f32) (W1 : FVec Ideal S2x1024x4096 .f32)
    (W2 : FVec Ideal S2x4096x1024 .f32) (i : Fin 32768) (j : Fin 1024) :
    added x (units y W1) W2 (ix2 i j)
      = mlp (fun j => x (ix2 i j)) (fun j => y (ix2 i j)) (fun k n => W1 (ix3 1 k n)) (fun n j => W2 (ix3 1 n j)) j := by
  unfold mlp hid
  pointwise [added, units]

theorem gain_at (G : FVec Ideal S2x1024 .f32) (j : Fin 1024) : gain G (ix1 j) = G (ix2 1 j) := by
  pointwise [gain]

/-- THE REFERENCE'S RESULT, row by row. -/
theorem res_at (O : FVec Ideal S8x1024x4096 .bf16) (H : FVec Ideal S32768x1024 .f32) (W : FVec Ideal S1x1024x1024 .f32)
    (G : FVec Ideal S2x1024 .f32) (W1 : FVec Ideal S2x1024x4096 .f32) (W2 : FVec Ideal S2x4096x1024 .f32)
    (GF : FVec Ideal S1024 .f32) (i : Fin 32768) (j : Fin 1024) :
    res O H W G W1 W2 GF (ix2 i j) =
      let x := proj (fun j => H (ix2 i j))
        (fun k => O (ix3 ⟨(i : ℕ) / 4096, by omega⟩ k ⟨(i : ℕ) % 4096, by omega⟩)) (fun k j => W (ix3 0 k j))
      norm (mlp x (norm x fun j => G (ix2 1 j)) (fun k n => W1 (ix3 1 k n)) (fun n j => W2 (ix3 1 n j)))
        (fun j => GF (ix1 j)) j := by
  unfold res
  simp only [normed_at, added_at, stream_at, gain_at]

/-- The printed program's result term is `res` of its arguments. -/
theorem res_eq (m : (ℓ : Loc nD τ sig) → Buf (Elt Ideal) ℓ) (c : Dev nD) :
    Cert.Reference2Ideal.Value.res_out0 m c
      = res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  unfold Cert.Reference2Ideal.Value.res_out0 Cert.Reference2Ideal.Value.res_main_v42 res normed added units stream gain
  rfl

end Cert.Reference2Ideal.Rows

end
-- ==== Proof.Post.lean ====
/-
  The end of layer 0, as the kernel computes it: what one block of 512 rows is, row by row, and
  what the result array holds after the run.
-/
module

public import proofs.«01_k».proof.Proof.PostRow
public import proofs.«01_k».proof.Proof.Gen.Kernel3Ideal.Frame
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Rows

open Cert.Kernel3Ideal Cert.Kernel3Ideal.Gen Cert.PostRow

variable (m : (ℓ : Loc nD τ sig) → Buf (Elt Ideal) ℓ)

/-- The residual row plus the output projection of its two halves, one row of a block. -/
theorem pay1_at (v0 : Vec Ideal S512x1024 .f32) (v1 : Vec Ideal S1x512x512 .bf16) (v3 : Vec Ideal S512x1024 .bf16)
    (v7 : Vec Ideal S1x512x512 .bf16) (v9 : Vec Ideal S512x1024 .bf16)
    (w : Fin 1024 → Fin 1024 → EReal) (h3 : ∀ k j, v3 (ix2 k j) = w (lo k) j) (h9 : ∀ k j, v9 (ix2 k j) = w (hi k) j)
    (r : Fin 512) (j : Fin 1024) :
    k0_pay1 v0 v1 v3 v7 v9 (ix2 r j)
      = proj (fun j => v0 (ix2 r j)) (pair (fun k => v1 (ix3 0 k r)) fun k => v7 (ix3 0 k r)) w j := by
  rw [proj_pair, ← add_assoc]
  simp only [← h3, ← h9]
  pointwise [k0_pay1]

/-- The normalised row, one row of a block. -/
theorem pay3_at (v8 : Vec Ideal S512x1024 .f32) (v10 : Vec Ideal S1x1024 .f32) (r : Fin 512) (j : Fin 1024) :
    k0_pay3 (k0_pay2 v8 v10) (ix2 r j) = norm (fun j => v8 (ix2 r j)) (fun j => v10 (ix2 0 j)) j := by
  unfold PostRow.norm
  pointwise [k0_pay3, k0_pay2]

/-- One tile of 1024 hidden units added to a row: the first tile. -/
theorem pay4_at (y : Vec Ideal S512x1024 .bf16) (w1 : Vec Ideal S1024x1024 .bf16) (x : Vec Ideal S512x1024 .f32)
    (w2 : Vec Ideal S1024x1024 .bf16) (r : Fin 512) (j : Fin 1024) :
    k0_pay4 y w1 x w2 (ix2 r j)
      = x (ix2 r j) + ∑ n : Fin 1024, max (∑ k : Fin 1024, y (ix2 r k) * w1 (ix2 k n)) 0
          * max (∑ k : Fin 1024, y (ix2 r k) * w1 (ix2 k n)) 0 * w2 (ix2 n j) := by
  pointwise [k0_pay4]

/-- The second tile. -/
theorem pay5_at (y : Vec Ideal S512x1024 .bf16) (w1 : Vec Ideal S1024x1024 .bf16) (x : Vec Ideal S512x1024 .f32)
    (w2 : Vec Ideal S1024x1024 .bf16) (r : Fin 512) (j : Fin 1024) :
    k0_pay5 y w1 x w2 (ix2 r j)
      = x (ix2 r j) + ∑ n : Fin 1024, max (∑ k : Fin 1024, y (ix2 r k) * w1 (ix2 k n)) 0
          * max (∑ k : Fin 1024, y (ix2 r k) * w1 (ix2 k n)) 0 * w2 (ix2 n j) := by
  pointwise [k0_pay5]

/-- The third tile. -/
theorem pay6_at (y : Vec Ideal S512x1024 .bf16) (w1 : Vec Ideal S1024x1024 .bf16) (x : Vec Ideal S512x1024 .f32)
    (w2 : Vec Ideal S1024x1024 .bf16) (r : Fin 512) (j : Fin 1024) :
    k0_pay6 y w1 x w2 (ix2 r j)
      = x (ix2 r j) + ∑ n : Fin 1024, max (∑ k : Fin 1024, y (ix2 r k) * w1 (ix2 k n)) 0
          * max (∑ k : Fin 1024, y (ix2 r k) * w1 (ix2 k n)) 0 * w2 (ix2 n j) := by
  pointwise [k0_pay6]

/-- The last tile. -/
theorem pay7_at (y : Vec Ideal S512x1024 .bf16) (w1 : Vec Ideal S1024x1024 .bf16) (x : Vec Ideal S512x1024 .f32)
    (w2 : Vec Ideal S1024x1024 .bf16) (r : Fin 512) (j : Fin 1024) :
    k0_pay7 y w1 x w2 (ix2 r j)
      = x (ix2 r j) + ∑ n : Fin 1024, max (∑ k : Fin 1024, y (ix2 r k) * w1 (ix2 k n)) 0
          * max (∑ k : Fin 1024, y (ix2 r k) * w1 (ix2 k n)) 0 * w2 (ix2 n j) := by
  pointwise [k0_pay7]

/-- The whole perceptron of a block: the four tiles, when tile `a` of either matrix is its columns or rows from
    `a * 1024` on. -/
theorem mlp_at (x : Vec Ideal S512x1024 .f32) (g : Vec Ideal S1x1024 .f32)
    (p0 p1 p2 p3 q0 q1 q2 q3 : Vec Ideal S1024x1024 .bf16)
    (W1 : Fin 1024 → Fin 4096 → EReal) (W2 : Fin 4096 → Fin 1024 → EReal)
    (hp0 : ∀ k n, p0 (ix2 k n) = W1 k (unit 0 n)) (hp1 : ∀ k n, p1 (ix2 k n) = W1 k (unit 1 n))
    (hp2 : ∀ k n, p2 (ix2 k n) = W1 k (unit 2 n)) (hp3 : ∀ k n, p3 (ix2 k n) = W1 k (unit 3 n))
    (hq0 : ∀ n j, q0 (ix2 n j) = W2 (unit 0 n) j) (hq1 : ∀ n j, q1 (ix2 n j) = W2 (unit 1 n) j)
    (hq2 : ∀ n j, q2 (ix2 n j) = W2 (unit 2 n) j) (hq3 : ∀ n j, q3 (ix2 n j) = W2 (unit 3 n) j)
    (r : Fin 512) (j : Fin 1024) :
    k0_pay7 (k0_pay3 (k0_pay2 x g)) p3 (k0_pay6 (k0_pay3 (k0_pay2 x g)) p2
        (k0_pay5 (k0_pay3 (k0_pay2 x g)) p1 (k0_pay4 (k0_pay3 (k0_pay2 x g)) p0 x q0) q1) q2) q3 (ix2 r j)
      = mlp (fun j => x (ix2 r j)) (norm (fun j => x (ix2 r j)) fun j => g (ix2 0 j)) W1 W2 j := by
  rw [pay7_at, pay6_at, pay5_at, pay4_at, ← mlp_tiles]
  simp only [pay3_at, hp0, hp1, hp2, hp3, hq0, hq1, hq2, hq3]
  rfl

/-- The block the body stores, from its input blocks. -/
theorem body_at (b0 b1 : Vec Ideal S1x512x512 .bf16) (b2 : Vec Ideal S512x1024 .f32) (u0 u1 : Vec Ideal S512x1024 .bf16)
    (b4 : Vec Ideal S1x1024 .f32) (p0 p1 p2 p3 q0 q1 q2 q3 : Vec Ideal S1024x1024 .bf16)
    (h : Fin 1024 → EReal) (o o' : Fin 512 → EReal) (g : Fin 1024 → EReal) (W : Fin 1024 → Fin 1024 → EReal)
    (W1 : Fin 1024 → Fin 4096 → EReal) (W2 : Fin 4096 → Fin 1024 → EReal) (r : Fin 512)
    (h0 : ∀ k, b0 (ix3 0 k r) = o k) (h1 : ∀ k, b1 (ix3 0 k r) = o' k) (h2 : ∀ j, b2 (ix2 r j) = h j)
    (hu0 : ∀ k j, u0 (ix2 k j) = W (lo k) j) (hu1 : ∀ k j, u1 (ix2 k j) = W (hi k) j)
    (h4 : ∀ j, b4 (ix2 0 j) = g j)
    (hp0 : ∀ k n, p0 (ix2 k n) = W1 k (unit 0 n)) (hp1 : ∀ k n, p1 (ix2 k n) = W1 k (unit 1 n))
    (hp2 : ∀ k n, p2 (ix2 k n) = W1 k (unit 2 n)) (hp3 : ∀ k n, p3 (ix2 k n) = W1 k (unit 3 n))
    (hq0 : ∀ n j, q0 (ix2 n j) = W2 (unit 0 n) j) (hq1 : ∀ n j, q1 (ix2 n j) = W2 (unit 1 n) j)
    (hq2 : ∀ n j, q2 (ix2 n j) = W2 (unit 2 n) j) (hq3 : ∀ n j, q3 (ix2 n j) = W2 (unit 3 n) j) (j : Fin 1024) :
    k0_pay7 (k0_pay3 (k0_pay2 (k0_pay1 b2 b0 u0 b1 u1) b4)) p3 (k0_pay6 (k0_pay3 (k0_pay2 (k0_pay1 b2 b0 u0 b1 u1) b4)) p2
      (k0_pay5 (k0_pay3 (k0_pay2 (k0_pay1 b2 b0 u0 b1 u1) b4)) p1
        (k0_pay4 (k0_pay3 (k0_pay2 (k0_pay1 b2 b0 u0 b1 u1) b4)) p0 (k0_pay1 b2 b0 u0 b1 u1) q0) q1) q2) q3 (ix2 r j)
      = mlp (proj h (pair o o') W) (norm (proj h (pair o o') W) g) W1 W2 j := by
  rw [mlp_at _ _ p0 p1 p2 p3 q0 q1 q2 q3 W1 W2 hp0 hp1 hp2 hp3 hq0 hq1 hq2 hq3]
  simp only [pay1_at _ _ _ _ _ W hu0 hu1, h0, h1, h2, h4]

/-- Which block of its array every window holds at grid point `t`. -/
theorem idx : ∀ t : Fin cfg0.N, win0_0.index t = ![t.val / 8, 0, t.val % 8] ∧ win0_1.index t = ![t.val / 8, 0, t.val % 8]
    ∧ win0_2.index t = ![t.val, 0] ∧ win0_3.index t = ![0, 0] ∧ win0_4.index t = ![0, 0] ∧ win0_5.index t = ![0, 0]
    ∧ win0_6.index t = ![0, 0] ∧ win0_7.index t = ![t.val, 0] ∧ t.val < 64 :=
  (by decide +kernel : ∀ t : Fin grid0.N, _)

/-- Row `i` of the result, from the argument arrays. -/
def row (O P : FVec Ideal S8x512x4096 .bf16) (H : FVec Ideal S32768x1024 .f32) (W : FVec Ideal S1x1024x1024 .f32)
    (G : FVec Ideal S2x1024 .f32) (W1 : FVec Ideal S2x1024x4096 .f32) (W2 : FVec Ideal S2x4096x1024 .f32)
    (i : Fin 32768) : Fin 1024 → EReal :=
  let x := proj (fun j => H (ix2 i j))
    (pair (fun k => O (ix3 ⟨(i : ℕ) / 4096, by omega⟩ k ⟨(i : ℕ) % 4096, by omega⟩))
      fun k => P (ix3 ⟨(i : ℕ) / 4096, by omega⟩ k ⟨(i : ℕ) % 4096, by omega⟩)) (fun k j => W (ix3 0 k j))
  mlp x (norm x fun j => G (ix2 0 j)) (fun k n => W1 (ix3 0 k n)) (fun n j => W2 (ix3 0 n j))

/-- The same of device `c`'s argument arrays. -/
abbrev rowOf (c : Dev nD) : Fin 32768 → Fin 1024 → EReal :=
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- THE RESULT ARRAY after the run: row `i` at `rowOf`. -/
theorem final (c : Dev nD) : (dats m 0 c).arrAt 7 (cfgs 0).N
    = fun i : S32768x1024.Idx => (rowOf m c (i 0) (i 1) : EReal) := by
  refine (dats m 0 c).arrAt_eq_of_covers 7 _ (by decide +kernel) fun t _ y => ?_
  blk_simp
  rw [after0_7]
  unfold outsAt0
  frame_open
  simp (disch := decide) only [↓ View.readCov_skip, ↓ View.readCov_cons_toLoadRect, ↓ View.readCov_fill]
  frame_out
  idx_vars y
  have hN := idx t
  refine (body_at _ _ _ _ _ _ _ _ _ _ _ _ _ _
    (fun j => (m ((c : Thread nD τ).loc main_arg2) : FVec Ideal S32768x1024 .f32) (ix2 ⟨512 * t.val + y0, by omega⟩ j))
    (fun k => (m ((c : Thread nD τ).loc main_arg0) : FVec Ideal S8x512x4096 .bf16)
      (ix3 ⟨(512 * t.val + y0) / 4096, by omega⟩ k ⟨(512 * t.val + y0) % 4096, by omega⟩))
    (fun k => (m ((c : Thread nD τ).loc main_arg1) : FVec Ideal S8x512x4096 .bf16)
      (ix3 ⟨(512 * t.val + y0) / 4096, by omega⟩ k ⟨(512 * t.val + y0) % 4096, by omega⟩))
    (fun j => (m ((c : Thread nD τ).loc main_arg4) : FVec Ideal S2x1024 .f32) (ix2 0 j))
    (fun k j => (m ((c : Thread nD τ).loc main_arg3) : FVec Ideal S1x1024x1024 .f32) (ix3 0 k j))
    (fun k n => (m ((c : Thread nD τ).loc main_arg5) : FVec Ideal S2x1024x4096 .f32) (ix3 0 k n))
    (fun n j => (m ((c : Thread nD τ).loc main_arg6) : FVec Ideal S2x4096x1024 .f32) (ix3 0 n j))
    y0 ?_ ?_ ?_ ?_ ?_ ?_ ?_ ?_ ?_ ?_ ?_ ?_ ?_ ?_ y1).trans ?_
  all_goals try intro a
  all_goals try intro b
  all_goals try pointwise
  all_goals try (blk_point [iblk, V, idx t, unit, lo, hi]; done)
  refine Eq.trans (b := rowOf m c ⟨512 * t.val + y0, by omega⟩ y1) rfl
    (congrArg₂ (rowOf m c) (Fin.ext ?_) (Fin.ext ?_)) <;> (blk_simp [idx t] <;> try (dsimp only; omega))

end Cert.Kernel3Ideal.Rows

end
-- ==== Proof.PostRef.lean ====
/-
  The end of layer 0, as the reference computes it, read row by row.
-/
module

public import proofs.«01_k».proof.Proof.PostRow
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Reference3Ideal.Rows

open Cert.Reference3Ideal Cert.Reference3Ideal.Gen Cert.PostRow

/-- The residual stream after the output projection. -/
def stream (O P : FVec Ideal S8x512x4096 .bf16) (H : FVec Ideal S32768x1024 .f32) (W : FVec Ideal S1x1024x1024 .f32) :
    FVec Ideal S32768x1024 .f32 :=
  addf H (Host.dotGeneral dot_S32768x1024_S1024x1024_S32768x1024_1_0_0_1_n_n none
    (shapeCast S32768x1024 (transpose S8x4096x1024 [0, 2, 1] (concatenate S8x1024x4096 1 [⟨S8x512x4096, extf .f32 O bitsLt_bf16_f32⟩,
        ⟨S8x512x4096, extf .f32 P bitsLt_bf16_f32⟩] concatenates_S8x512x4096_S8x512x4096_S8x1024x4096_d1)
      transposes_S8x1024x4096_S8x4096x1024_0_2_1) shapeCasts_S8x4096x1024_S32768x1024)
    (shapeCast S1024x1024 W shapeCasts_S1x1024x1024_S1024x1024))

/-- The normalisation of every row. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf
    (Host.divf (broadcastInDim S32768x1 ![0] bcast_S32768_S32768x1_0 (Host.reduceAdd (mulf x x)
      (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x3727C5AC#32))))))
    (broadcastInDim S32768x1024 ![0, 1] bcast_S1x1024_S32768x1024_0_1
      (broadcastInDim S1x1024 ![1] bcast_S1024_S1x1024_1 g))

/-- The rectified hidden units of every row. -/
def units (y : FVec Ideal S32768x1024 .f32) (W1 : FVec Ideal S2x1024x4096 .f32) : FVec Ideal S32768x4096 .f32 :=
  maximumf (Host.dotGeneral dot_S32768x1024_S1024x4096_S32768x4096_1_0_0_1_n_n none y
    (shapeCast S1024x4096 (extractStridedSlice S1x1024x4096 ![0, 0, 0] W1 slices_S2x1024x4096_S1x1024x4096_0_0_0)
      shapeCasts_S1x1024x4096_S1024x4096))
    (broadcastInDim S32768x4096 ![] bcast_S_S32768x4096 (constant S_ .f32 0x00000000#32))

/-- The stream plus the perceptron's output. -/
def added (x : FVec Ideal S32768x1024 .f32) (a : FVec Ideal S32768x4096 .f32) (W2 : FVec Ideal S2x4096x1024 .f32) :
    FVec Ideal S32768x1024 .f32 :=
  addf x (Host.dotGeneral dot_S32768x4096_S4096x1024_S32768x1024_1_0_0_1_n_n none (mulf a a)
    (shapeCast S4096x1024 (extractStridedSlice S1x4096x1024 ![0, 0, 0] W2 slices_S2x4096x1024_S1x4096x1024_0_0_0)
      shapeCasts_S1x4096x1024_S4096x1024))

/-- The gain of layer 0. -/
def gain (G : FVec Ideal S2x1024 .f32) : FVec Ideal S1024 .f32 :=
  shapeCast S1024 (extractStridedSlice S1x1024 ![0, 0] G slices_S2x1024_S1x1024_0_0) shapeCasts_S1x1024_S1024

/-- The reference's result as these steps. -/
def res (O P : FVec Ideal S8x512x4096 .bf16) (H : FVec Ideal S32768x1024 .f32) (W : FVec Ideal S1x1024x1024 .f32)
    (G : FVec Ideal S2x1024 .f32) (W1 : FVec Ideal S2x1024x4096 .f32) (W2 : FVec Ideal S2x4096x1024 .f32) : FVec Ideal S32768x1024 .f32 :=
  added (stream O P H W) (units (normed (stream O P H W) (gain G)) W1) W2

theorem stream_at (O P : FVec Ideal S8x512x4096 .bf16) (H : FVec Ideal S32768x1024 .f32)
    (W : FVec Ideal S1x1024x1024 .f32) (i : Fin 32768) (j : Fin 1024) :
    stream O P H W (ix2 i j) = proj (fun j => H (ix2 i j))
      (pair (fun k => O (ix3 ⟨(i : ℕ) / 4096, by omega⟩ k ⟨(i : ℕ) % 4096, by omega⟩))
        fun k => P (ix3 ⟨(i : ℕ) / 4096, by omega⟩ k ⟨(i : ℕ) % 4096, by omega⟩)) (fun k j => W (ix3 0 k j)) j := by
  rw [proj_pair]
  pointwise [stream]
  rfl

theorem normed_at (x : FVec Ideal S32768x1024 .f32) (g : FVec Ideal S1024 .f32) (i : Fin 32768) (j : Fin 1024) :
    normed x g (ix2 i j) = norm (fun j => x (ix2 i j)) (fun j => g (ix1 j)) j := by
  unfold PostRow.norm
  pointwise [normed]

theorem added_at (x y : FVec Ideal S32768x1024 .f32) (W1 : FVec Ideal S2x1024x4096 .f32)
    (W2 : FVec Ideal S2x4096x1024 .f32) (i : Fin 32768) (j : Fin 1024) :
    added x (units y W1) W2 (ix2 i j)
      = mlp (fun j => x (ix2 i j)) (fun j => y (ix2 i j)) (fun k n => W1 (ix3 0 k n)) (fun n j => W2 (ix3 0 n j)) j := by
  unfold mlp hid
  pointwise [added, units]

theorem gain_at (G : FVec Ideal S2x1024 .f32) (j : Fin 1024) : gain G (ix1 j) = G (ix2 0 j) := by
  pointwise [gain]

/-- THE REFERENCE'S RESULT, row by row. -/
theorem res_at (O P : FVec Ideal S8x512x4096 .bf16) (H : FVec Ideal S32768x1024 .f32) (W : FVec Ideal S1x1024x1024 .f32)
    (G : FVec Ideal S2x1024 .f32) (W1 : FVec Ideal S2x1024x4096 .f32) (W2 : FVec Ideal S2x4096x1024 .f32) (i : Fin 32768) (j : Fin 1024) :
    res O P H W G W1 W2 (ix2 i j) =
      let x := proj (fun j => H (ix2 i j))
        (pair (fun k => O (ix3 ⟨(i : ℕ) / 4096, by omega⟩ k ⟨(i : ℕ) % 4096, by omega⟩))
        fun k => P (ix3 ⟨(i : ℕ) / 4096, by omega⟩ k ⟨(i : ℕ) % 4096, by omega⟩)) (fun k j => W (ix3 0 k j))
      mlp x (norm x fun j => G (ix2 0 j)) (fun k n => W1 (ix3 0 k n)) (fun n j => W2 (ix3 0 n j)) j := by
  unfold res
  simp only [normed_at, added_at, stream_at, gain_at]

/-- The printed program's result term is `res` of its arguments. -/
theorem res_eq (m : (ℓ : Loc nD τ sig) → Buf (Elt Ideal) ℓ) (c : Dev nD) :
    Cert.Reference3Ideal.Value.res_out0 m c
      = res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  unfold Cert.Reference3Ideal.Value.res_out0 Cert.Reference3Ideal.Value.res_main_v31 res normed added units stream gain
  rfl

end Cert.Reference3Ideal.Rows

end
-- ==== Proof.PostClaims.lean ====
/- The claims about the two layer-end kernels (`Kernel2`, the end of the last layer, and `Kernel3`, the end of the
   first), each from the row that its kernel writes and the row that its reference computes. -/
module

public import proofs.«01_k».proof.Defs
public import proofs.«01_k».proof.Proof.PostFinal
public import proofs.«01_k».proof.Proof.PostFinalRef
public import proofs.«01_k».proof.Proof.Post
public import proofs.«01_k».proof.Proof.PostRef
public import proofs.«01_k».proof.Proof.Gen.Kernel2.Frame
public import proofs.«01_k».proof.Proof.Gen.Kernel3.Frame
public import Idealize.ShloMosaic.Lib.Claim
public import Idealize.ShloMosaic.Lib.Quiescent
public import Idealize.ShloMosaic.Adequacy
public import Idealize.ShloMosaic.Init

@[expose] public section

noncomputable section

namespace Cert.PostClaims

open Idealize.ShloMosaic Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts

/-- The end of the last layer: the kernel's array is the reference's, element by element. -/
theorem last_layer : Cert.algebraic_Kernel2Ideal_Reference2Ideal := by
  pair_intro
  · run_from Cert.Kernel2Ideal.Gen.run_main m g
  · run_from Cert.Reference2Ideal.Value.run m' g'
    obtain ⟨a0, a1, a2, a3, a4, a5, a6⟩ := hagree c
    show Cert.Reference2Ideal.Value.res_out0 m' c = _
    rw [Cert.Reference2Ideal.Rows.res_eq, Cert.Kernel2Ideal.Rows.final, a0, a1, a2, a3, a4, a5, a6]
    funext y
    obtain ⟨i, j, rfl⟩ : ∃ (i : Fin 32768) (j : Fin 1024), y = ix2 i j := ⟨y 0, y 1, eq_ix2 y⟩
    exact Cert.Reference2Ideal.Rows.res_at _ _ _ _ _ _ _ i j

/-- The end of the first layer: the kernel's array is the reference's, element by element. -/
theorem first_layer : Cert.algebraic_Kernel3Ideal_Reference3Ideal := by
  pair_intro
  · run_from Cert.Kernel3Ideal.Gen.run_main m g
  · run_from Cert.Reference3Ideal.Value.run m' g'
    obtain ⟨a0, a1, a2, a3, a4, a5, a6⟩ := hagree c
    show Cert.Reference3Ideal.Value.res_out0 m' c = _
    rw [Cert.Reference3Ideal.Rows.res_eq, Cert.Kernel3Ideal.Rows.final, a0, a1, a2, a3, a4, a5, a6]
    funext y
    obtain ⟨i, j, rfl⟩ : ∃ (i : Fin 32768) (j : Fin 1024), y = ix2 i j := ⟨y 0, y 1, eq_ix2 y⟩
    exact Cert.Reference3Ideal.Rows.res_at _ _ _ _ _ _ _ i j

/-- The kernels, rounded and ideal, and the references end, and leave their arguments as they found them. -/
theorem frame_last : Cert.quiescent_Kernel2 := fun m g _ => Cert.Kernel2.Gen.frame m g
theorem frame_last_ideal : Cert.quiescent_Kernel2Ideal := fun m g _ => Cert.Kernel2Ideal.Gen.frame m g
theorem frame_last_reference : Cert.quiescent_Reference2Ideal := fun m g _ =>
  θ_run_mono (Cert.Reference2Ideal.Value.run m g) fun r h => ⟨fun c => (h c).2, sem_eq_zero_of_no_sems rfl r.2⟩
theorem frame_first : Cert.quiescent_Kernel3 := fun m g _ => Cert.Kernel3.Gen.frame m g
theorem frame_first_ideal : Cert.quiescent_Kernel3Ideal := fun m g _ => Cert.Kernel3Ideal.Gen.frame m g
theorem frame_first_reference : Cert.quiescent_Reference3Ideal := fun m g _ =>
  θ_run_mono (Cert.Reference3Ideal.Value.run m g) fun r h => ⟨fun c => (h c).2, sem_eq_zero_of_no_sems rfl r.2⟩

end Cert.PostClaims

end
-- ==== Proof.lean ====
/- The claims of this directory, assembled. -/
module

public import proofs.«01_k».proof.Defs
public import proofs.«01_k».proof.Proof.FoxFloatFrame
public import proofs.«01_k».proof.Proof.FoxIdealFrame
public import proofs.«01_k».proof.Proof.FoxClaims
public import proofs.«01_k».proof.Proof.PostClaims
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the attention, at the extended reals, ends, and leaves its arguments as it found them. -/
theorem frame_attention_reference : Cert.quiescent_ReferenceIdeal := fun m g _ =>
  θ_run_mono (Cert.ReferenceIdeal.Value.run m g) fun r h => ⟨fun c => (h c).2, sem_eq_zero_of_no_sems rfl r.2⟩

/-- The one named constant of the attention kernel: its mask word, read as minus infinity. -/
theorem mask_named : Cert.preserves_Kernel_KernelIdeal :=
  IdealRules.named_const.statement Cert.KernelIdeal.κ "mask" .f32 0xF149F2CA#32 ⊥ rfl

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Finite.facts,
    fun m g _ => Cert.Kernel.Fox.frame m g, fun m g _ => Cert.KernelIdeal.Fox.frame m g,
    fun m g _ => Cert.KernelIdeal.Fox.frame m g, frame_attention_reference, fun m g _ => frame_attention_reference m g trivial,
    PostClaims.frame_last, PostClaims.frame_last_ideal, PostClaims.frame_last_reference,
    PostClaims.frame_first, PostClaims.frame_first_ideal, PostClaims.frame_first_reference,
    mask_named, FoxClaims.attention, trivial, PostClaims.last_layer, trivial, PostClaims.first_layer⟩

end Cert.Proof

end
